-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.2 = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2 = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "qk_scale" .f32 0x3E0293EE#32 (((Real.sqrt 128)⁻¹ * (Real.log 2)⁻¹ : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80_0) = v0 c
          ∧ r.2.mem ((c.tc : Thread Cert.ReferenceIdeal.nD Cert.ReferenceIdeal.τ).loc Cert.ReferenceIdeal.main_v80_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S64x48x5120 : Shape := ⟨3, ![64, 48, 5120]⟩
abbrev S1800x8x128 : Shape := ⟨3, ![1800, 8, 128]⟩
abbrev S1800x8 : Shape := ⟨2, ![1800, 8]⟩
abbrev S7x640x8x128 : Shape := ⟨4, ![7, 640, 8, 128]⟩
abbrev S7x640x8 : Shape := ⟨3, ![7, 640, 8]⟩
abbrev S7 : Shape := ⟨1, ![7]⟩
abbrev S64 : Shape := ⟨1, ![64]⟩
abbrev S64x1024x8x128 : Shape := ⟨4, ![64, 1024, 8, 128]⟩
abbrev S64x1024x8 : Shape := ⟨3, ![64, 1024, 8]⟩
abbrev S64x48x8x128 : Shape := ⟨4, ![64, 48, 8, 128]⟩
abbrev S_ : Shape := ⟨0, ![]⟩

class Facts : Prop where
  bcast_S_S7 : S_.BroadcastsInDim S7 (![] : Fin 0 → Fin S7.rank)
  bcast_S_S64 : S_.BroadcastsInDim S64 (![] : Fin 0 → Fin S64.rank)

variable [Facts]

def fn {F : FTy → Type} [FloatOps F] (main_arg0 : FVec F S64x48x5120 .bf16) (main_arg1 : FVec F S1800x8x128 .fp8e4m3) (main_arg2 : FVec F S1800x8x128 .fp8e4m3) (main_arg3 : FVec F S1800x8 .f32) (main_arg4 : FVec F S1800x8 .f32) (main_arg5 : FVec F S7x640x8x128 .fp8e4m3) (main_arg6 : FVec F S7x640x8x128 .fp8e4m3) (main_arg7 : FVec F S7x640x8 .f32) (main_arg8 : FVec F S7x640x8 .f32) (main_arg9 : IVec S7 32) (main_arg10 : IVec S64 32) (main_arg11 : FVec F S64x1024x8x128 .fp8e4m3) (main_arg12 : FVec F S64x1024x8x128 .fp8e4m3) (main_arg13 : FVec F S64x1024x8 .f32) (main_arg14 : FVec F S64x1024x8 .f32) (main_arg15 : IVec S64 32) (main_arg16 : FVec F S64x48x8x128 .bf16) (main_arg17 : FVec F S64x48x8x128 .bf16) : IVec S7 1 × IVec S64 1 × IVec S64 1 :=
  let main_c : IVec S_ 32 := constantI S_ 32 640#32
  let main_v0 : IVec S7 32 := broadcastInDim S7 ![] bcast_S_S7 main_c
  let main_v1 : IVec S7 1 := cmpi .sle main_arg9 main_v0
  let main_c_0 : IVec S_ 32 := constantI S_ 32 0#32
  let main_v2 : IVec S64 32 := broadcastInDim S64 ![] bcast_S_S64 main_c_0
  let main_v3 : IVec S64 1 := cmpi .sge main_arg10 main_v2
  let main_c_1 : IVec S_ 32 := constantI S_ 32 7#32
  let main_v4 : IVec S64 32 := broadcastInDim S64 ![] bcast_S_S64 main_c_1
  let main_v5 : IVec S64 1 := cmpi .slt main_arg10 main_v4
  let main_v6 : IVec S64 1 := andi main_v3 main_v5
  let main_c_2 : IVec S_ 32 := constantI S_ 32 1024#32
  let main_v7 : IVec S64 32 := broadcastInDim S64 ![] bcast_S_S64 main_c_2
  let main_v8 : IVec S64 1 := cmpi .sle main_arg15 main_v7
  (main_v1, main_v6, main_v8)
-- ==== Kernel.lean ====
abbrev S64x48x5120 : Shape := ⟨3, ![64, 48, 5120]⟩
abbrev S1800x8x128 : Shape := ⟨3, ![1800, 8, 128]⟩
abbrev S1800x8 : Shape := ⟨2, ![1800, 8]⟩
abbrev S7x640x8x128 : Shape := ⟨4, ![7, 640, 8, 128]⟩
abbrev S7x640x8 : Shape := ⟨3, ![7, 640, 8]⟩
abbrev S7 : Shape := ⟨1, ![7]⟩
abbrev S64 : Shape := ⟨1, ![64]⟩
abbrev S64x1024x8x128 : Shape := ⟨4, ![64, 1024, 8, 128]⟩
abbrev S64x1024x8 : Shape := ⟨3, ![64, 1024, 8]⟩
abbrev S64x48x8x128 : Shape := ⟨4, ![64, 48, 8, 128]⟩
abbrev S64x48x8x5x128 : Shape := ⟨5, ![64, 48, 8, 5, 128]⟩
abbrev S64x8x5x48x128 : Shape := ⟨5, ![64, 8, 5, 48, 128]⟩
abbrev S64x8x240x128 : Shape := ⟨4, ![64, 8, 240, 128]⟩
abbrev S_ : Shape := ⟨0, ![]⟩
abbrev S1920x8x128 : Shape := ⟨3, ![1920, 8, 128]⟩
abbrev S8x1920x128 : Shape := ⟨3, ![8, 1920, 128]⟩
abbrev S1920x8 : Shape := ⟨2, ![1920, 8]⟩
abbrev S8x1920 : Shape := ⟨2, ![8, 1920]⟩
abbrev S8x1x1920 : Shape := ⟨3, ![8, 1, 1920]⟩
abbrev S7x8x640x128 : Shape := ⟨4, ![7, 8, 640, 128]⟩
abbrev S7x8x640 : Shape := ⟨3, ![7, 8, 640]⟩
abbrev S7x8x1x640 : Shape := ⟨4, ![7, 8, 1, 640]⟩
abbrev S64x8x1024x128 : Shape := ⟨4, ![64, 8, 1024, 128]⟩
abbrev S64x8x1024 : Shape := ⟨3, ![64, 8, 1024]⟩
abbrev S64x8x1x1024 : Shape := ⟨4, ![64, 8, 1, 1024]⟩
abbrev S64x8x48x128 : Shape := ⟨4, ![64, 8, 48, 128]⟩
abbrev S64x8x240x8 : Shape := ⟨4, ![64, 8, 240, 8]⟩
abbrev S1x1x240x128 : Shape := ⟨4, ![1, 1, 240, 128]⟩
abbrev S1x1920x128 : Shape := ⟨3, ![1, 1920, 128]⟩
abbrev S1x1x1920 : Shape := ⟨3, ![1, 1, 1920]⟩
abbrev S1x1x640x128 : Shape := ⟨4, ![1, 1, 640, 128]⟩
abbrev S1 : Shape := ⟨1, ![1]⟩
abbrev S1x1x1x640 : Shape := ⟨4, ![1, 1, 1, 640]⟩
abbrev S1x1x1024x128 : Shape := ⟨4, ![1, 1, 1024, 128]⟩
abbrev S1x1x1x1024 : Shape := ⟨4, ![1, 1, 1, 1024]⟩
abbrev S1x1x48x128 : Shape := ⟨4, ![1, 1, 48, 128]⟩
abbrev S1x1x240x8 : Shape := ⟨4, ![1, 1, 240, 8]⟩
abbrev S240x128 : Shape := ⟨2, ![240, 128]⟩
abbrev S240x48 : Shape := ⟨2, ![240, 48]⟩
abbrev S48x128 : Shape := ⟨2, ![48, 128]⟩
abbrev S240x1 : Shape := ⟨2, ![240, 1]⟩
abbrev S240 : Shape := ⟨1, ![240]⟩
abbrev S1x256x128 : Shape := ⟨3, ![1, 256, 128]⟩
abbrev S256x128 : Shape := ⟨2, ![256, 128]⟩
abbrev S1x1x256 : Shape := ⟨3, ![1, 1, 256]⟩
abbrev S1x256 : Shape := ⟨2, ![1, 256]⟩
abbrev S240x256 : Shape := ⟨2, ![240, 256]⟩
abbrev S1x128 : Shape := ⟨2, ![1, 128]⟩
abbrev S1x128x128 : Shape := ⟨3, ![1, 128, 128]⟩
abbrev S128x128 : Shape := ⟨2, ![128, 128]⟩
abbrev S1x1x128 : Shape := ⟨3, ![1, 1, 128]⟩
abbrev S1x1x128x128 : Shape := ⟨4, ![1, 1, 128, 128]⟩
abbrev S1x1x1x128 : Shape := ⟨4, ![1, 1, 1, 128]⟩
abbrev S1x1x256x128 : Shape := ⟨4, ![1, 1, 256, 128]⟩
abbrev S1x1x1x256 : Shape := ⟨4, ![1, 1, 1, 256]⟩
abbrev S240x8 : Shape := ⟨2, ![240, 8]⟩

abbrev nBuf : Space → Nat
  | .hbm => 50
  | .vmem => 37
  | .smem => 3
  | _ => 0

abbrev bufTy : (tb : Table) → Fin (tcTables nBuf tb) → BufTy
  | .hbm, ⟨0, _⟩ => ⟨S64x48x5120, .bf16⟩
  | .hbm, ⟨1, _⟩ => ⟨S1800x8x128, .fp8e4m3⟩
  | .hbm, ⟨2, _⟩ => ⟨S1800x8x128, .fp8e4m3⟩
  | .hbm, ⟨3, _⟩ => ⟨S1800x8, .f32⟩
  | .hbm, ⟨4, _⟩ => ⟨S1800x8, .f32⟩
  | .hbm, ⟨5, _⟩ => ⟨S7x640x8x128, .fp8e4m3⟩
  | .hbm, ⟨6, _⟩ => ⟨S7x640x8x128, .fp8e4m3⟩
  | .hbm, ⟨7, _⟩ => ⟨S7x640x8, .f32⟩
  | .hbm, ⟨8, _⟩ => ⟨S7x640x8, .f32⟩
  | .hbm, ⟨9, _⟩ => ⟨S64x1024x8x128, .fp8e4m3⟩
  | .hbm, ⟨10, _⟩ => ⟨S64x1024x8x128, .fp8e4m3⟩
  | .hbm, ⟨11, _⟩ => ⟨S64x1024x8, .f32⟩
  | .hbm, ⟨12, _⟩ => ⟨S64x1024x8, .f32⟩
  | .hbm, ⟨13, _⟩ => ⟨S64x48x8x128, .bf16⟩
  | .hbm, ⟨14, _⟩ => ⟨S64x48x8x128, .bf16⟩
  | .hbm, ⟨15, _⟩ => ⟨S64x48x8x5x128, .bf16⟩
  | .hbm, ⟨16, _⟩ => ⟨S64x8x5x48x128, .bf16⟩
  | .hbm, ⟨17, _⟩ => ⟨S64x8x240x128, .bf16⟩
  | .hbm, ⟨18, _⟩ => ⟨S_, .i8⟩
  | .hbm, ⟨19, _⟩ => ⟨S_, .fp8e4m3⟩
  | .hbm, ⟨20, _⟩ => ⟨S1920x8x128, .fp8e4m3⟩
  | .hbm, ⟨21, _⟩ => ⟨S8x1920x128, .fp8e4m3⟩
  | .hbm, ⟨22, _⟩ => ⟨S1920x8x128, .fp8e4m3⟩
  | .hbm, ⟨23, _⟩ => ⟨S8x1920x128, .fp8e4m3⟩
  | .hbm, ⟨24, _⟩ => ⟨S_, .i32⟩
  | .hbm, ⟨25, _⟩ => ⟨S_, .f32⟩
  | .hbm, ⟨26, _⟩ => ⟨S1920x8, .f32⟩
  | .hbm, ⟨27, _⟩ => ⟨S8x1920, .f32⟩
  | .hbm, ⟨28, _⟩ => ⟨S8x1x1920, .f32⟩
  | .hbm, ⟨29, _⟩ => ⟨S_, .i32⟩
  | .hbm, ⟨30, _⟩ => ⟨S_, .f32⟩
  | .hbm, ⟨31, _⟩ => ⟨S1920x8, .f32⟩
  | .hbm, ⟨32, _⟩ => ⟨S8x1920, .f32⟩
  | .hbm, ⟨33, _⟩ => ⟨S8x1x1920, .f32⟩
  | .hbm, ⟨34, _⟩ => ⟨S7x8x640x128, .fp8e4m3⟩
  | .hbm, ⟨35, _⟩ => ⟨S7x8x640x128, .fp8e4m3⟩
  | .hbm, ⟨36, _⟩ => ⟨S7x8x640, .f32⟩
  | .hbm, ⟨37, _⟩ => ⟨S7x8x1x640, .f32⟩
  | .hbm, ⟨38, _⟩ => ⟨S7x8x640, .f32⟩
  | .hbm, ⟨39, _⟩ => ⟨S7x8x1x640, .f32⟩
  | .hbm, ⟨40, _⟩ => ⟨S64x8x1024x128, .fp8e4m3⟩
  | .hbm, ⟨41, _⟩ => ⟨S64x8x1024x128, .fp8e4m3⟩
  | .hbm, ⟨42, _⟩ => ⟨S64x8x1024, .f32⟩
  | .hbm, ⟨43, _⟩ => ⟨S64x8x1x1024, .f32⟩
  | .hbm, ⟨44, _⟩ => ⟨S64x8x1024, .f32⟩
  | .hbm, ⟨45, _⟩ => ⟨S64x8x1x1024, .f32⟩
  | .hbm, ⟨46, _⟩ => ⟨S64x8x48x128, .bf16⟩
  | .hbm, ⟨47, _⟩ => ⟨S64x8x48x128, .bf16⟩
  | .hbm, ⟨48, _⟩ => ⟨S64x8x240x128, .bf16⟩
  | .hbm, ⟨49, _⟩ => ⟨S64x8x240x8, .f32⟩
  | .local _ .vmem, ⟨0, _⟩ => ⟨S1x1x240x128, .bf16⟩
  | .local _ .vmem, ⟨1, _⟩ => ⟨S1x1x240x128, .bf16⟩
  | .local _ .vmem, ⟨2, _⟩ => ⟨S1x1920x128, .fp8e4m3⟩
  | .local _ .vmem, ⟨3, _⟩ => ⟨S1x1920x128, .fp8e4m3⟩
  | .local _ .vmem, ⟨4, _⟩ => ⟨S1x1920x128, .fp8e4m3⟩
  | .local _ .vmem, ⟨5, _⟩ => ⟨S1x1920x128, .fp8e4m3⟩
  | .local _ .vmem, ⟨6, _⟩ => ⟨S1x1x1920, .f32⟩
  | .local _ .vmem, ⟨7, _⟩ => ⟨S1x1x1920, .f32⟩
  | .local _ .vmem, ⟨8, _⟩ => ⟨S1x1x1920, .f32⟩
  | .local _ .vmem, ⟨9, _⟩ => ⟨S1x1x1920, .f32⟩
  | .local _ .vmem, ⟨10, _⟩ => ⟨S1x1x640x128, .fp8e4m3⟩
  | .local _ .vmem, ⟨11, _⟩ => ⟨S1x1x640x128, .fp8e4m3⟩
  | .local _ .vmem, ⟨12, _⟩ => ⟨S1x1x640x128, .fp8e4m3⟩
  | .local _ .vmem, ⟨13, _⟩ => ⟨S1x1x640x128, .fp8e4m3⟩
  | .local _ .vmem, ⟨14, _⟩ => ⟨S1x1x1x640, .f32⟩
  | .local _ .vmem, ⟨15, _⟩ => ⟨S1x1x1x640, .f32⟩
  | .local _ .vmem, ⟨16, _⟩ => ⟨S1x1x1x640, .f32⟩
  | .local _ .vmem, ⟨17, _⟩ => ⟨S1x1x1x640, .f32⟩
  | .local _ .vmem, ⟨18, _⟩ => ⟨S1x1x1024x128, .fp8e4m3⟩
  | .local _ .vmem, ⟨19, _⟩ => ⟨S1x1x1024x128, .fp8e4m3⟩
  | .local _ .vmem, ⟨20, _⟩ => ⟨S1x1x1024x128, .fp8e4m3⟩
  | .local _ .vmem, ⟨21, _⟩ => ⟨S1x1x1024x128, .fp8e4m3⟩
  | .local _ .vmem, ⟨22, _⟩ => ⟨S1x1x1x1024, .f32⟩
  | .local _ .vmem, ⟨23, _⟩ => ⟨S1x1x1x1024, .f32⟩
  | .local _ .vmem, ⟨24, _⟩ => ⟨S1x1x1x1024, .f32⟩
  | .local _ .vmem, ⟨25, _⟩ => ⟨S1x1x1x1024, .f32⟩
  | .local _ .vmem, ⟨26, _⟩ => ⟨S1x1x48x128, .bf16⟩
  | .local _ .vmem, ⟨27, _⟩ => ⟨S1x1x48x128, .bf16⟩
  | .local _ .vmem, ⟨28, _⟩ => ⟨S1x1x48x128, .bf16⟩
  | .local _ .vmem, ⟨29, _⟩ => ⟨S1x1x48x128, .bf16⟩
  | .local _ .vmem, ⟨30, _⟩ => ⟨S1x1x240x128, .bf16⟩
  | .local _ .vmem, ⟨31, _⟩ => ⟨S1x1x240x128, .bf16⟩
  | .local _ .vmem, ⟨32, _⟩ => ⟨S1x1x240x8, .f32⟩
  | .local _ .vmem, ⟨33, _⟩ => ⟨S1x1x240x8, .f32⟩
  | .local _ .vmem, ⟨34, _⟩ => ⟨S240x128, .f32⟩
  | .local _ .vmem, ⟨35, _⟩ => ⟨S240x128, .f32⟩
  | .local _ .vmem, ⟨36, _⟩ => ⟨S240x128, .f32⟩
  | .local _ .smem, ⟨0, _⟩ => ⟨S7, .i32⟩
  | .local _ .smem, ⟨1, _⟩ => ⟨S64, .i32⟩
  | .local _ .smem, ⟨2, _⟩ => ⟨S64, .i32⟩
  | _, _ => ⟨S64x48x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg11 : Ref sig .tc := ⟨.hbm, 9, rfl⟩
abbrev main_arg12 : Ref sig .tc := ⟨.hbm, 10, rfl⟩
abbrev main_arg13 : Ref sig .tc := ⟨.hbm, 11, rfl⟩
abbrev main_arg14 : Ref sig .tc := ⟨.hbm, 12, rfl⟩
abbrev main_arg16 : Ref sig .tc := ⟨.hbm, 13, rfl⟩
abbrev main_arg17 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_call0_v0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_call1_v0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28_0 : Ref sig .tc := ⟨.hbm, 48, rfl⟩
abbrev main_v28_1 : Ref sig .tc := ⟨.hbm, 49, rfl⟩
abbrev main_arg9 : Ref sig .tc := ⟨.smem, 0, rfl⟩
abbrev main_arg10 : Ref sig .tc := ⟨.smem, 1, rfl⟩
abbrev main_arg15 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![8, 64], ![false, false]⟩

abbrev pre0 : Pipeline.Prefetch sig := ⟨3, ![main_arg9.idx, main_arg10.idx, main_arg15.idx], fun | 0 => main_arg9.names | 1 => main_arg10.names | 2 => main_arg15.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
@[reducible] def k0_t1_loop : Scf.Loop 32 :=
  let c0_i32_41 : BitVec 32 := 0#32
  let c7_i32 : BitVec 32 := 7#32
  let v81 : BitVec 32 := Scalar.addi c0_i32_41 c7_i32
  let c1_i32_42 : BitVec 32 := 1#32
  ⟨c0_i32_41, v81, c1_i32_42⟩
def k0_mult1 (k0_t1 : Fin k0_t1_loop.trips) : BitVec 32 :=
  let c0_i32_126 : BitVec 32 := 0#32
  let c0_i32_41 : BitVec 32 := 0#32
  let c1_i32_42 : BitVec 32 := 1#32
  let arg25 : BitVec 32 := Scf.iv c0_i32_41 c1_i32_42 k0_t1
  let c1_i32_125 : BitVec 32 := 1#32
  let v223 : BitVec 32 := Scalar.muli arg25 c1_i32_125
  let v224 : BitVec 32 := Scalar.addi c0_i32_126 v223
  let c256_i32_127 : BitVec 32 := 256#32
  let v225 : BitVec 32 := Scalar.muli v224 c256_i32_127
  v225
def k0_off2 (k0_t1 : Fin k0_t1_loop.trips) : Fin 3 → Nat :=
  let c0_128 : Index := 0#32
  let c0_i32_126 : BitVec 32 := 0#32
  let c0_i32_41 : BitVec 32 := 0#32
  let c1_i32_42 : BitVec 32 := 1#32
  let arg25 : BitVec 32 := Scf.iv c0_i32_41 c1_i32_42 k0_t1
  let c1_i32_125 : BitVec 32 := 1#32
  let v223 : BitVec 32 := Scalar.muli arg25 c1_i32_125
  let v224 : BitVec 32 := Scalar.addi c0_i32_126 v223
  let c256_i32_127 : BitVec 32 := 256#32
  let v225 : BitVec 32 := Scalar.muli v224 c256_i32_127
  let v226 : BitVec 32 := v225
  let v227 : Index := Scalar.indexCast v226
  let c0_129 : Index := 0#32
  ![0, v227.toNat, 0]
def k0_off3 (k0_t1 : Fin k0_t1_loop.trips) : Fin 3 → Nat :=
  let c0_132 : Index := 0#32
  let c0_133 : Index := 0#32
  let c0_i32_126 : BitVec 32 := 0#32
  let c0_i32_41 : BitVec 32 := 0#32
  let c1_i32_42 : BitVec 32 := 1#32
  let arg25 : BitVec 32 := Scf.iv c0_i32_41 c1_i32_42 k0_t1
  let c1_i32_125 : BitVec 32 := 1#32
  let v223 : BitVec 32 := Scalar.muli arg25 c1_i32_125
  let v224 : BitVec 32 := Scalar.addi c0_i32_126 v223
  let c256_i32_127 : BitVec 32 := 256#32
  let v225 : BitVec 32 := Scalar.muli v224 c256_i32_127
  let v226 : BitVec 32 := v225
  let v233 : Index := Scalar.indexCast v226
  ![0, 0, v233.toNat]
def k0_off4 (v144 : BitVec 32) : Fin 1 → Nat :=
  let v145 : Index := Scalar.indexCast v144
  ![v145.toNat]

def k0_chk1 (v144 : BitVec 32) : Prop :=
  (∀ a, (k0_off4 v144) a + S1.size a ≤ S7.size a)
theorem k0_off4_inb : ∀ (v144 : BitVec 32) (k0_hw1 : k0_chk1 v144), ∀ a, (k0_off4 v144) a + S1.size a ≤ S7.size a := fun v144 k0_hw1 => k0_hw1

@[reducible] def k0_t2_loop (v146 : BitVec 32) : Scf.Loop 32 :=
  let c0_i32_89 : BitVec 32 := 0#32
  let c128_i32 : BitVec 32 := 128#32
  let v147 : BitVec 32 := Scalar.addi v146 c128_i32
  let c1_i32_75 : BitVec 32 := 1#32
  let v148 : BitVec 32 := Scalar.subi v147 c1_i32_75
  let c0_i32_77 : BitVec 32 := 0#32
  let v150 : BitVec 1 := Scalar.cmpi .sgt v148 c0_i32_77
  let v151 : BitVec 32 := Scalar.extui v150
  let c0_i32_78 : BitVec 32 := 0#32
  let v152 : BitVec 1 := Scalar.cmpi .slt v148 c0_i32_78
  let v153 : BitVec 32 := Scalar.extui v152
  let v154 : BitVec 32 := Scalar.subi v151 v153
  let c128_i32_76 : BitVec 32 := 128#32
  let c0_i32_79 : BitVec 32 := 0#32
  let v155 : BitVec 1 := Scalar.cmpi .sgt c128_i32_76 c0_i32_79
  let v156 : BitVec 32 := Scalar.extui v155
  let c0_i32_80 : BitVec 32 := 0#32
  let v157 : BitVec 1 := Scalar.cmpi .slt c128_i32_76 c0_i32_80
  let v158 : BitVec 32 := Scalar.extui v157
  let v159 : BitVec 32 := Scalar.subi v156 v158
  let v160 : BitVec 1 := Scalar.cmpi .ne v154 v159
  let v161 : BitVec 32 := Scalar.remsi v148 c128_i32_76
  let c0_i32_81 : BitVec 32 := 0#32
  let v162 : BitVec 1 := Scalar.cmpi .ne v161 c0_i32_81
  let v163 : BitVec 1 := Scalar.andi v160 v162
  let v149 : BitVec 32 := Scalar.divsi v148 c128_i32_76
  let c1_i32_82 : BitVec 32 := 1#32
  let v164 : BitVec 32 := Scalar.subi v149 c1_i32_82
  let v165 : BitVec 32 := Scalar.select v163 v164 v149
  let c0_i32_83 : BitVec 32 := 0#32
  let v166 : BitVec 32 := Scalar.subi v165 c0_i32_83
  let c1_i32_84 : BitVec 32 := 1#32
  let c1_i32_85 : BitVec 32 := 1#32
  let v167 : BitVec 32 := Scalar.subi c1_i32_84 c1_i32_85
  let v168 : BitVec 32 := Scalar.addi v166 v167
  let c1_i32_86 : BitVec 32 := 1#32
  let v169 : BitVec 32 := Scalar.divsi v168 c1_i32_86
  let v170 : BitVec 32 := Scalar.subi v169 c0_i32_89
  let c1_i32_90 : BitVec 32 := 1#32
  let v172 : BitVec 32 := Scalar.divsi v170 c1_i32_90
  let v173 : BitVec 32 := Scalar.muli v172 c1_i32_90
  let v174 : BitVec 32 := Scalar.addi c0_i32_89 v173
  let c1_i32_91 : BitVec 32 := 1#32
  ⟨c0_i32_89, v174, c1_i32_91⟩

def k0_mult2 (v146 : BitVec 32) (k0_t2 : Fin (k0_t2_loop v146).trips) : BitVec 32 :=
  let c0_i32_88 : BitVec 32 := 0#32
  let c0_i32_89 : BitVec 32 := 0#32
  let c1_i32_91 : BitVec 32 := 1#32
  let arg25 : BitVec 32 := Scf.iv c0_i32_89 c1_i32_91 k0_t2
  let c1_i32_87 : BitVec 32 := 1#32
  let v223 : BitVec 32 := Scalar.muli arg25 c1_i32_87
  let v224 : BitVec 32 := Scalar.addi c0_i32_88 v223
  let c128_i32_125 : BitVec 32 := 128#32
  let v225 : BitVec 32 := Scalar.muli v224 c128_i32_125
  v225
def k0_off5 (v146 : BitVec 32) (k0_t2 : Fin (k0_t2_loop v146).trips) : Fin 4 → Nat :=
  let c0_126 : Index := 0#32
  let c0_127 : Index := 0#32
  let c0_i32_88 : BitVec 32 := 0#32
  let c0_i32_89 : BitVec 32 := 0#32
  let c1_i32_91 : BitVec 32 := 1#32
  let arg25 : BitVec 32 := Scf.iv c0_i32_89 c1_i32_91 k0_t2
  let c1_i32_87 : BitVec 32 := 1#32
  let v223 : BitVec 32 := Scalar.muli arg25 c1_i32_87
  let v224 : BitVec 32 := Scalar.addi c0_i32_88 v223
  let c128_i32_125 : BitVec 32 := 128#32
  let v225 : BitVec 32 := Scalar.muli v224 c128_i32_125
  let v226 : BitVec 32 := v225
  let v228 : Index := Scalar.indexCast v226
  let c0_128 : Index := 0#32
  ![0, 0, v228.toNat, 0]
def k0_off6 (v146 : BitVec 32) (k0_t2 : Fin (k0_t2_loop v146).trips) : Fin 4 → Nat :=
  let c0_132 : Index := 0#32
  let c0_133 : Index := 0#32
  let c0_134 : Index := 0#32
  let c0_i32_88 : BitVec 32 := 0#32
  let c0_i32_89 : BitVec 32 := 0#32
  let c1_i32_91 : BitVec 32 := 1#32
  let arg25 : BitVec 32 := Scf.iv c0_i32_89 c1_i32_91 k0_t2
  let c1_i32_87 : BitVec 32 := 1#32
  let v223 : BitVec 32 := Scalar.muli arg25 c1_i32_87
  let v224 : BitVec 32 := Scalar.addi c0_i32_88 v223
  let c128_i32_125 : BitVec 32 := 128#32
  let v225 : BitVec 32 := Scalar.muli v224 c128_i32_125
  let v226 : BitVec 32 := v225
  let v234 : Index := Scalar.indexCast v226
  ![0, 0, 0, v234.toNat]
@[reducible] def k0_t3_loop (v146 : BitVec 32) : Scf.Loop 32 :=
  let c0_i32_89 : BitVec 32 := 0#32
  let c128_i32 : BitVec 32 := 128#32
  let v147 : BitVec 32 := Scalar.addi v146 c128_i32
  let c1_i32_75 : BitVec 32 := 1#32
  let v148 : BitVec 32 := Scalar.subi v147 c1_i32_75
  let c0_i32_77 : BitVec 32 := 0#32
  let v150 : BitVec 1 := Scalar.cmpi .sgt v148 c0_i32_77
  let v151 : BitVec 32 := Scalar.extui v150
  let c0_i32_78 : BitVec 32 := 0#32
  let v152 : BitVec 1 := Scalar.cmpi .slt v148 c0_i32_78
  let v153 : BitVec 32 := Scalar.extui v152
  let v154 : BitVec 32 := Scalar.subi v151 v153
  let c128_i32_76 : BitVec 32 := 128#32
  let c0_i32_79 : BitVec 32 := 0#32
  let v155 : BitVec 1 := Scalar.cmpi .sgt c128_i32_76 c0_i32_79
  let v156 : BitVec 32 := Scalar.extui v155
  let c0_i32_80 : BitVec 32 := 0#32
  let v157 : BitVec 1 := Scalar.cmpi .slt c128_i32_76 c0_i32_80
  let v158 : BitVec 32 := Scalar.extui v157
  let v159 : BitVec 32 := Scalar.subi v156 v158
  let v160 : BitVec 1 := Scalar.cmpi .ne v154 v159
  let v161 : BitVec 32 := Scalar.remsi v148 c128_i32_76
  let c0_i32_81 : BitVec 32 := 0#32
  let v162 : BitVec 1 := Scalar.cmpi .ne v161 c0_i32_81
  let v163 : BitVec 1 := Scalar.andi v160 v162
  let v149 : BitVec 32 := Scalar.divsi v148 c128_i32_76
  let c1_i32_82 : BitVec 32 := 1#32
  let v164 : BitVec 32 := Scalar.subi v149 c1_i32_82
  let v165 : BitVec 32 := Scalar.select v163 v164 v149
  let c0_i32_83 : BitVec 32 := 0#32
  let v166 : BitVec 32 := Scalar.subi v165 c0_i32_83
  let c1_i32_84 : BitVec 32 := 1#32
  let c1_i32_85 : BitVec 32 := 1#32
  let v167 : BitVec 32 := Scalar.subi c1_i32_84 c1_i32_85
  let v168 : BitVec 32 := Scalar.addi v166 v167
  let c1_i32_86 : BitVec 32 := 1#32
  let v169 : BitVec 32 := Scalar.divsi v168 c1_i32_86
  let v170 : BitVec 32 := Scalar.subi v169 c0_i32_89
  let c1_i32_90 : BitVec 32 := 1#32
  let v172 : BitVec 32 := Scalar.divsi v170 c1_i32_90
  let v173 : BitVec 32 := Scalar.muli v172 c1_i32_90
  let v174 : BitVec 32 := Scalar.addi c0_i32_89 v173
  let v171 : BitVec 32 := Scalar.addi c0_i32_89 v170
  let c1_i32_92 : BitVec 32 := 1#32
  ⟨v174, v171, c1_i32_92⟩
def k0_mult3 (v146 : BitVec 32) (k0_t3 : Fin (k0_t3_loop v146).trips) : BitVec 32 :=
  let c0_i32_88 : BitVec 32 := 0#32
  let c0_i32_89 : BitVec 32 := 0#32
  let c128_i32 : BitVec 32 := 128#32
  let v147 : BitVec 32 := Scalar.addi v146 c128_i32
  let c1_i32_75 : BitVec 32 := 1#32
  let v148 : BitVec 32 := Scalar.subi v147 c1_i32_75
  let c0_i32_77 : BitVec 32 := 0#32
  let v150 : BitVec 1 := Scalar.cmpi .sgt v148 c0_i32_77
  let v151 : BitVec 32 := Scalar.extui v150
  let c0_i32_78 : BitVec 32 := 0#32
  let v152 : BitVec 1 := Scalar.cmpi .slt v148 c0_i32_78
  let v153 : BitVec 32 := Scalar.extui v152
  let v154 : BitVec 32 := Scalar.subi v151 v153
  let c128_i32_76 : BitVec 32 := 128#32
  let c0_i32_79 : BitVec 32 := 0#32
  let v155 : BitVec 1 := Scalar.cmpi .sgt c128_i32_76 c0_i32_79
  let v156 : BitVec 32 := Scalar.extui v155
  let c0_i32_80 : BitVec 32 := 0#32
  let v157 : BitVec 1 := Scalar.cmpi .slt c128_i32_76 c0_i32_80
  let v158 : BitVec 32 := Scalar.extui v157
  let v159 : BitVec 32 := Scalar.subi v156 v158
  let v160 : BitVec 1 := Scalar.cmpi .ne v154 v159
  let v161 : BitVec 32 := Scalar.remsi v148 c128_i32_76
  let c0_i32_81 : BitVec 32 := 0#32
  let v162 : BitVec 1 := Scalar.cmpi .ne v161 c0_i32_81
  let v163 : BitVec 1 := Scalar.andi v160 v162
  let v149 : BitVec 32 := Scalar.divsi v148 c128_i32_76
  let c1_i32_82 : BitVec 32 := 1#32
  let v164 : BitVec 32 := Scalar.subi v149 c1_i32_82
  let v165 : BitVec 32 := Scalar.select v163 v164 v149
  let c0_i32_83 : BitVec 32 := 0#32
  let v166 : BitVec 32 := Scalar.subi v165 c0_i32_83
  let c1_i32_84 : BitVec 32 := 1#32
  let c1_i32_85 : BitVec 32 := 1#32
  let v167 : BitVec 32 := Scalar.subi c1_i32_84 c1_i32_85
  let v168 : BitVec 32 := Scalar.addi v166 v167
  let c1_i32_86 : BitVec 32 := 1#32
  let v169 : BitVec 32 := Scalar.divsi v168 c1_i32_86
  let v170 : BitVec 32 := Scalar.subi v169 c0_i32_89
  let c1_i32_90 : BitVec 32 := 1#32
  let v172 : BitVec 32 := Scalar.divsi v170 c1_i32_90
  let v173 : BitVec 32 := Scalar.muli v172 c1_i32_90
  let v174 : BitVec 32 := Scalar.addi c0_i32_89 v173
  let c1_i32_92 : BitVec 32 := 1#32
  let arg25 : BitVec 32 := Scf.iv v174 c1_i32_92 k0_t3
  let c1_i32_87 : BitVec 32 := 1#32
  let v223 : BitVec 32 := Scalar.muli arg25 c1_i32_87
  let v224 : BitVec 32 := Scalar.addi c0_i32_88 v223
  let c128_i32_125 : BitVec 32 := 128#32
  let v225 : BitVec 32 := Scalar.muli v224 c128_i32_125
  v225
def k0_off7 (v146 : BitVec 32) (k0_t3 : Fin (k0_t3_loop v146).trips) : Fin 4 → Nat :=
  let c0_126 : Index := 0#32
  let c0_127 : Index := 0#32
  let c0_i32_88 : BitVec 32 := 0#32
  let c0_i32_89 : BitVec 32 := 0#32
  let c128_i32 : BitVec 32 := 128#32
  let v147 : BitVec 32 := Scalar.addi v146 c128_i32
  let c1_i32_75 : BitVec 32 := 1#32
  let v148 : BitVec 32 := Scalar.subi v147 c1_i32_75
  let c0_i32_77 : BitVec 32 := 0#32
  let v150 : BitVec 1 := Scalar.cmpi .sgt v148 c0_i32_77
  let v151 : BitVec 32 := Scalar.extui v150
  let c0_i32_78 : BitVec 32 := 0#32
  let v152 : BitVec 1 := Scalar.cmpi .slt v148 c0_i32_78
  let v153 : BitVec 32 := Scalar.extui v152
  let v154 : BitVec 32 := Scalar.subi v151 v153
  let c128_i32_76 : BitVec 32 := 128#32
  let c0_i32_79 : BitVec 32 := 0#32
  let v155 : BitVec 1 := Scalar.cmpi .sgt c128_i32_76 c0_i32_79
  let v156 : BitVec 32 := Scalar.extui v155
  let c0_i32_80 : BitVec 32 := 0#32
  let v157 : BitVec 1 := Scalar.cmpi .slt c128_i32_76 c0_i32_80
  let v158 : BitVec 32 := Scalar.extui v157
  let v159 : BitVec 32 := Scalar.subi v156 v158
  let v160 : BitVec 1 := Scalar.cmpi .ne v154 v159
  let v161 : BitVec 32 := Scalar.remsi v148 c128_i32_76
  let c0_i32_81 : BitVec 32 := 0#32
  let v162 : BitVec 1 := Scalar.cmpi .ne v161 c0_i32_81
  let v163 : BitVec 1 := Scalar.andi v160 v162
  let v149 : BitVec 32 := Scalar.divsi v148 c128_i32_76
  let c1_i32_82 : BitVec 32 := 1#32
  let v164 : BitVec 32 := Scalar.subi v149 c1_i32_82
  let v165 : BitVec 32 := Scalar.select v163 v164 v149
  let c0_i32_83 : BitVec 32 := 0#32
  let v166 : BitVec 32 := Scalar.subi v165 c0_i32_83
  let c1_i32_84 : BitVec 32 := 1#32
  let c1_i32_85 : BitVec 32 := 1#32
  let v167 : BitVec 32 := Scalar.subi c1_i32_84 c1_i32_85
  let v168 : BitVec 32 := Scalar.addi v166 v167
  let c1_i32_86 : BitVec 32 := 1#32
  let v169 : BitVec 32 := Scalar.divsi v168 c1_i32_86
  let v170 : BitVec 32 := Scalar.subi v169 c0_i32_89
  let c1_i32_90 : BitVec 32 := 1#32
  let v172 : BitVec 32 := Scalar.divsi v170 c1_i32_90
  let v173 : BitVec 32 := Scalar.muli v172 c1_i32_90
  let v174 : BitVec 32 := Scalar.addi c0_i32_89 v173
  let c1_i32_92 : BitVec 32 := 1#32
  let arg25 : BitVec 32 := Scf.iv v174 c1_i32_92 k0_t3
  let c1_i32_87 : BitVec 32 := 1#32
  let v223 : BitVec 32 := Scalar.muli arg25 c1_i32_87
  let v224 : BitVec 32 := Scalar.addi c0_i32_88 v223
  let c128_i32_125 : BitVec 32 := 128#32
  let v225 : BitVec 32 := Scalar.muli v224 c128_i32_125
  let v226 : BitVec 32 := v225
  let v228 : Index := Scalar.indexCast v226
  let c0_128 : Index := 0#32
  ![0, 0, v228.toNat, 0]
def k0_off8 (v146 : BitVec 32) (k0_t3 : Fin (k0_t3_loop v146).trips) : Fin 4 → Nat :=
  let c0_132 : Index := 0#32
  let c0_133 : Index := 0#32
  let c0_134 : Index := 0#32
  let c0_i32_88 : BitVec 32 := 0#32
  let c0_i32_89 : BitVec 32 := 0#32
  let c128_i32 : BitVec 32 := 128#32
  let v147 : BitVec 32 := Scalar.addi v146 c128_i32
  let c1_i32_75 : BitVec 32 := 1#32
  let v148 : BitVec 32 := Scalar.subi v147 c1_i32_75
  let c0_i32_77 : BitVec 32 := 0#32
  let v150 : BitVec 1 := Scalar.cmpi .sgt v148 c0_i32_77
  let v151 : BitVec 32 := Scalar.extui v150
  let c0_i32_78 : BitVec 32 := 0#32
  let v152 : BitVec 1 := Scalar.cmpi .slt v148 c0_i32_78
  let v153 : BitVec 32 := Scalar.extui v152
  let v154 : BitVec 32 := Scalar.subi v151 v153
  let c128_i32_76 : BitVec 32 := 128#32
  let c0_i32_79 : BitVec 32 := 0#32
  let v155 : BitVec 1 := Scalar.cmpi .sgt c128_i32_76 c0_i32_79
  let v156 : BitVec 32 := Scalar.extui v155
  let c0_i32_80 : BitVec 32 := 0#32
  let v157 : BitVec 1 := Scalar.cmpi .slt c128_i32_76 c0_i32_80
  let v158 : BitVec 32 := Scalar.extui v157
  let v159 : BitVec 32 := Scalar.subi v156 v158
  let v160 : BitVec 1 := Scalar.cmpi .ne v154 v159
  let v161 : BitVec 32 := Scalar.remsi v148 c128_i32_76
  let c0_i32_81 : BitVec 32 := 0#32
  let v162 : BitVec 1 := Scalar.cmpi .ne v161 c0_i32_81
  let v163 : BitVec 1 := Scalar.andi v160 v162
  let v149 : BitVec 32 := Scalar.divsi v148 c128_i32_76
  let c1_i32_82 : BitVec 32 := 1#32
  let v164 : BitVec 32 := Scalar.subi v149 c1_i32_82
  let v165 : BitVec 32 := Scalar.select v163 v164 v149
  let c0_i32_83 : BitVec 32 := 0#32
  let v166 : BitVec 32 := Scalar.subi v165 c0_i32_83
  let c1_i32_84 : BitVec 32 := 1#32
  let c1_i32_85 : BitVec 32 := 1#32
  let v167 : BitVec 32 := Scalar.subi c1_i32_84 c1_i32_85
  let v168 : BitVec 32 := Scalar.addi v166 v167
  let c1_i32_86 : BitVec 32 := 1#32
  let v169 : BitVec 32 := Scalar.divsi v168 c1_i32_86
  let v170 : BitVec 32 := Scalar.subi v169 c0_i32_89
  let c1_i32_90 : BitVec 32 := 1#32
  let v172 : BitVec 32 := Scalar.divsi v170 c1_i32_90
  let v173 : BitVec 32 := Scalar.muli v172 c1_i32_90
  let v174 : BitVec 32 := Scalar.addi c0_i32_89 v173
  let c1_i32_92 : BitVec 32 := 1#32
  let arg25 : BitVec 32 := Scf.iv v174 c1_i32_92 k0_t3
  let c1_i32_87 : BitVec 32 := 1#32
  let v223 : BitVec 32 := Scalar.muli arg25 c1_i32_87
  let v224 : BitVec 32 := Scalar.addi c0_i32_88 v223
  let c128_i32_125 : BitVec 32 := 128#32
  let v225 : BitVec 32 := Scalar.muli v224 c128_i32_125
  let v226 : BitVec 32 := v225
  let v234 : Index := Scalar.indexCast v226
  ![0, 0, 0, v234.toNat]

def k0_chk2 (v146 : BitVec 32) : Prop :=
  ((k0_t2_loop v146).OK) ∧
  (∀ k0_t2 : Fin (k0_t2_loop v146).trips, 128 ∣ (k0_mult2 v146 k0_t2).toNat) ∧
  (∀ k0_t2 : Fin (k0_t2_loop v146).trips, ∀ a, (k0_off5 v146 k0_t2) a + S1x1x128x128.size a ≤ S1x1x640x128.size a) ∧
  (∀ k0_t2 : Fin (k0_t2_loop v146).trips, ∀ a, (k0_off6 v146 k0_t2) a + S1x1x1x128.size a ≤ S1x1x1x640.size a) ∧
  ((k0_t3_loop v146).OK) ∧
  (∀ k0_t3 : Fin (k0_t3_loop v146).trips, 128 ∣ (k0_mult3 v146 k0_t3).toNat) ∧
  (∀ k0_t3 : Fin (k0_t3_loop v146).trips, ∀ a, (k0_off7 v146 k0_t3) a + S1x1x128x128.size a ≤ S1x1x640x128.size a) ∧
  (∀ k0_t3 : Fin (k0_t3_loop v146).trips, ∀ a, (k0_off8 v146 k0_t3) a + S1x1x1x128.size a ≤ S1x1x1x640.size a)
theorem k0_t2_ok : ∀ (v146 : BitVec 32) (k0_hw2 : k0_chk2 v146), (k0_t2_loop v146).OK := fun v146 k0_hw2 => k0_hw2.1
theorem k0_mult2_dvd : ∀ (v146 : BitVec 32) (k0_hw2 : k0_chk2 v146) (k0_t2 : Fin (k0_t2_loop v146).trips), 128 ∣ (k0_mult2 v146 k0_t2).toNat := fun v146 k0_hw2 k0_t2 => k0_hw2.2.1 k0_t2
theorem k0_off5_inb : ∀ (v146 : BitVec 32) (k0_hw2 : k0_chk2 v146) (k0_t2 : Fin (k0_t2_loop v146).trips), ∀ a, (k0_off5 v146 k0_t2) a + S1x1x128x128.size a ≤ S1x1x640x128.size a := fun v146 k0_hw2 k0_t2 => k0_hw2.2.2.1 k0_t2
theorem k0_off6_inb : ∀ (v146 : BitVec 32) (k0_hw2 : k0_chk2 v146) (k0_t2 : Fin (k0_t2_loop v146).trips), ∀ a, (k0_off6 v146 k0_t2) a + S1x1x1x128.size a ≤ S1x1x1x640.size a := fun v146 k0_hw2 k0_t2 => k0_hw2.2.2.2.1 k0_t2
theorem k0_t3_ok : ∀ (v146 : BitVec 32) (k0_hw2 : k0_chk2 v146), (k0_t3_loop v146).OK := fun v146 k0_hw2 => k0_hw2.2.2.2.2.1
theorem k0_mult3_dvd : ∀ (v146 : BitVec 32) (k0_hw2 : k0_chk2 v146) (k0_t3 : Fin (k0_t3_loop v146).trips), 128 ∣ (k0_mult3 v146 k0_t3).toNat := fun v146 k0_hw2 k0_t3 => k0_hw2.2.2.2.2.2.1 k0_t3
theorem k0_off7_inb : ∀ (v146 : BitVec 32) (k0_hw2 : k0_chk2 v146) (k0_t3 : Fin (k0_t3_loop v146).trips), ∀ a, (k0_off7 v146 k0_t3) a + S1x1x128x128.size a ≤ S1x1x640x128.size a := fun v146 k0_hw2 k0_t3 => k0_hw2.2.2.2.2.2.2.1 k0_t3
theorem k0_off8_inb : ∀ (v146 : BitVec 32) (k0_hw2 : k0_chk2 v146) (k0_t3 : Fin (k0_t3_loop v146).trips), ∀ a, (k0_off8 v146 k0_t3) a + S1x1x1x128.size a ≤ S1x1x1x640.size a := fun v146 k0_hw2 k0_t3 => k0_hw2.2.2.2.2.2.2.2 k0_t3

def k0_off9 (i : grid0.Coords) : Fin 1 → Nat :=
  let arg1 : BitVec 32 := BitVec.ofNat 32 (i 1).val
  let v175 : Index := Scalar.indexCast arg1
  ![v175.toNat]
@[reducible] def k0_t4_loop (v176 : BitVec 32) : Scf.Loop 32 :=
  let c0_i32_107 : BitVec 32 := 0#32
  let c256_i32 : BitVec 32 := 256#32
  let v177 : BitVec 32 := Scalar.addi v176 c256_i32
  let c1_i32_93 : BitVec 32 := 1#32
  let v178 : BitVec 32 := Scalar.subi v177 c1_i32_93
  let c0_i32_95 : BitVec 32 := 0#32
  let v180 : BitVec 1 := Scalar.cmpi .sgt v178 c0_i32_95
  let v181 : BitVec 32 := Scalar.extui v180
  let c0_i32_96 : BitVec 32 := 0#32
  let v182 : BitVec 1 := Scalar.cmpi .slt v178 c0_i32_96
  let v183 : BitVec 32 := Scalar.extui v182
  let v184 : BitVec 32 := Scalar.subi v181 v183
  let c256_i32_94 : BitVec 32 := 256#32
  let c0_i32_97 : BitVec 32 := 0#32
  let v185 : BitVec 1 := Scalar.cmpi .sgt c256_i32_94 c0_i32_97
  let v186 : BitVec 32 := Scalar.extui v185
  let c0_i32_98 : BitVec 32 := 0#32
  let v187 : BitVec 1 := Scalar.cmpi .slt c256_i32_94 c0_i32_98
  let v188 : BitVec 32 := Scalar.extui v187
  let v189 : BitVec 32 := Scalar.subi v186 v188
  let v190 : BitVec 1 := Scalar.cmpi .ne v184 v189
  let v191 : BitVec 32 := Scalar.remsi v178 c256_i32_94
  let c0_i32_99 : BitVec 32 := 0#32
  let v192 : BitVec 1 := Scalar.cmpi .ne v191 c0_i32_99
  let v193 : BitVec 1 := Scalar.andi v190 v192
  let v179 : BitVec 32 := Scalar.divsi v178 c256_i32_94
  let c1_i32_100 : BitVec 32 := 1#32
  let v194 : BitVec 32 := Scalar.subi v179 c1_i32_100
  let v195 : BitVec 32 := Scalar.select v193 v194 v179
  let c0_i32_101 : BitVec 32 := 0#32
  let v196 : BitVec 32 := Scalar.subi v195 c0_i32_101
  let c1_i32_102 : BitVec 32 := 1#32
  let c1_i32_103 : BitVec 32 := 1#32
  let v197 : BitVec 32 := Scalar.subi c1_i32_102 c1_i32_103
  let v198 : BitVec 32 := Scalar.addi v196 v197
  let c1_i32_104 : BitVec 32 := 1#32
  let v199 : BitVec 32 := Scalar.divsi v198 c1_i32_104
  let v200 : BitVec 32 := Scalar.subi v199 c0_i32_107
  let c1_i32_108 : BitVec 32 := 1#32
  let v202 : BitVec 32 := Scalar.divsi v200 c1_i32_108
  let v203 : BitVec 32 := Scalar.muli v202 c1_i32_108
  let v204 : BitVec 32 := Scalar.addi c0_i32_107 v203
  let c1_i32_109 : BitVec 32 := 1#32
  ⟨c0_i32_107, v204, c1_i32_109⟩

def k0_mult4 (v176 : BitVec 32) (k0_t4 : Fin (k0_t4_loop v176).trips) : BitVec 32 :=
  let c0_i32_106 : BitVec 32 := 0#32
  let c0_i32_107 : BitVec 32 := 0#32
  let c1_i32_109 : BitVec 32 := 1#32
  let arg25 : BitVec 32 := Scf.iv c0_i32_107 c1_i32_109 k0_t4
  let c1_i32_105 : BitVec 32 := 1#32
  let v223 : BitVec 32 := Scalar.muli arg25 c1_i32_105
  let v224 : BitVec 32 := Scalar.addi c0_i32_106 v223
  let c256_i32_125 : BitVec 32 := 256#32
  let v225 : BitVec 32 := Scalar.muli v224 c256_i32_125
  v225
def k0_off10 (v176 : BitVec 32) (k0_t4 : Fin (k0_t4_loop v176).trips) : Fin 4 → Nat :=
  let c0_126 : Index := 0#32
  let c0_127 : Index := 0#32
  let c0_i32_106 : BitVec 32 := 0#32
  let c0_i32_107 : BitVec 32 := 0#32
  let c1_i32_109 : BitVec 32 := 1#32
  let arg25 : BitVec 32 := Scf.iv c0_i32_107 c1_i32_109 k0_t4
  let c1_i32_105 : BitVec 32 := 1#32
  let v223 : BitVec 32 := Scalar.muli arg25 c1_i32_105
  let v224 : BitVec 32 := Scalar.addi c0_i32_106 v223
  let c256_i32_125 : BitVec 32 := 256#32
  let v225 : BitVec 32 := Scalar.muli v224 c256_i32_125
  let v226 : BitVec 32 := v225
  let v228 : Index := Scalar.indexCast v226
  let c0_128 : Index := 0#32
  ![0, 0, v228.toNat, 0]
def k0_off11 (v176 : BitVec 32) (k0_t4 : Fin (k0_t4_loop v176).trips) : Fin 4 → Nat :=
  let c0_132 : Index := 0#32
  let c0_133 : Index := 0#32
  let c0_134 : Index := 0#32
  let c0_i32_106 : BitVec 32 := 0#32
  let c0_i32_107 : BitVec 32 := 0#32
  let c1_i32_109 : BitVec 32 := 1#32
  let arg25 : BitVec 32 := Scf.iv c0_i32_107 c1_i32_109 k0_t4
  let c1_i32_105 : BitVec 32 := 1#32
  let v223 : BitVec 32 := Scalar.muli arg25 c1_i32_105
  let v224 : BitVec 32 := Scalar.addi c0_i32_106 v223
  let c256_i32_125 : BitVec 32 := 256#32
  let v225 : BitVec 32 := Scalar.muli v224 c256_i32_125
  let v226 : BitVec 32 := v225
  let v234 : Index := Scalar.indexCast v226
  ![0, 0, 0, v234.toNat]
@[reducible] def k0_t5_loop (v176 : BitVec 32) : Scf.Loop 32 :=
  let c0_i32_107 : BitVec 32 := 0#32
  let c256_i32 : BitVec 32 := 256#32
  let v177 : BitVec 32 := Scalar.addi v176 c256_i32
  let c1_i32_93 : BitVec 32 := 1#32
  let v178 : BitVec 32 := Scalar.subi v177 c1_i32_93
  let c0_i32_95 : BitVec 32 := 0#32
  let v180 : BitVec 1 := Scalar.cmpi .sgt v178 c0_i32_95
  let v181 : BitVec 32 := Scalar.extui v180
  let c0_i32_96 : BitVec 32 := 0#32
  let v182 : BitVec 1 := Scalar.cmpi .slt v178 c0_i32_96
  let v183 : BitVec 32 := Scalar.extui v182
  let v184 : BitVec 32 := Scalar.subi v181 v183
  let c256_i32_94 : BitVec 32 := 256#32
  let c0_i32_97 : BitVec 32 := 0#32
  let v185 : BitVec 1 := Scalar.cmpi .sgt c256_i32_94 c0_i32_97
  let v186 : BitVec 32 := Scalar.extui v185
  let c0_i32_98 : BitVec 32 := 0#32
  let v187 : BitVec 1 := Scalar.cmpi .slt c256_i32_94 c0_i32_98
  let v188 : BitVec 32 := Scalar.extui v187
  let v189 : BitVec 32 := Scalar.subi v186 v188
  let v190 : BitVec 1 := Scalar.cmpi .ne v184 v189
  let v191 : BitVec 32 := Scalar.remsi v178 c256_i32_94
  let c0_i32_99 : BitVec 32 := 0#32
  let v192 : BitVec 1 := Scalar.cmpi .ne v191 c0_i32_99
  let v193 : BitVec 1 := Scalar.andi v190 v192
  let v179 : BitVec 32 := Scalar.divsi v178 c256_i32_94
  let c1_i32_100 : BitVec 32 := 1#32
  let v194 : BitVec 32 := Scalar.subi v179 c1_i32_100
  let v195 : BitVec 32 := Scalar.select v193 v194 v179
  let c0_i32_101 : BitVec 32 := 0#32
  let v196 : BitVec 32 := Scalar.subi v195 c0_i32_101
  let c1_i32_102 : BitVec 32 := 1#32
  let c1_i32_103 : BitVec 32 := 1#32
  let v197 : BitVec 32 := Scalar.subi c1_i32_102 c1_i32_103
  let v198 : BitVec 32 := Scalar.addi v196 v197
  let c1_i32_104 : BitVec 32 := 1#32
  let v199 : BitVec 32 := Scalar.divsi v198 c1_i32_104
  let v200 : BitVec 32 := Scalar.subi v199 c0_i32_107
  let c1_i32_108 : BitVec 32 := 1#32
  let v202 : BitVec 32 := Scalar.divsi v200 c1_i32_108
  let v203 : BitVec 32 := Scalar.muli v202 c1_i32_108
  let v204 : BitVec 32 := Scalar.addi c0_i32_107 v203
  let v201 : BitVec 32 := Scalar.addi c0_i32_107 v200
  let c1_i32_110 : BitVec 32 := 1#32
  ⟨v204, v201, c1_i32_110⟩
def k0_mult5 (v176 : BitVec 32) (k0_t5 : Fin (k0_t5_loop v176).trips) : BitVec 32 :=
  let c0_i32_106 : BitVec 32 := 0#32
  let c0_i32_107 : BitVec 32 := 0#32
  let c256_i32 : BitVec 32 := 256#32
  let v177 : BitVec 32 := Scalar.addi v176 c256_i32
  let c1_i32_93 : BitVec 32 := 1#32
  let v178 : BitVec 32 := Scalar.subi v177 c1_i32_93
  let c0_i32_95 : BitVec 32 := 0#32
  let v180 : BitVec 1 := Scalar.cmpi .sgt v178 c0_i32_95
  let v181 : BitVec 32 := Scalar.extui v180
  let c0_i32_96 : BitVec 32 := 0#32
  let v182 : BitVec 1 := Scalar.cmpi .slt v178 c0_i32_96
  let v183 : BitVec 32 := Scalar.extui v182
  let v184 : BitVec 32 := Scalar.subi v181 v183
  let c256_i32_94 : BitVec 32 := 256#32
  let c0_i32_97 : BitVec 32 := 0#32
  let v185 : BitVec 1 := Scalar.cmpi .sgt c256_i32_94 c0_i32_97
  let v186 : BitVec 32 := Scalar.extui v185
  let c0_i32_98 : BitVec 32 := 0#32
  let v187 : BitVec 1 := Scalar.cmpi .slt c256_i32_94 c0_i32_98
  let v188 : BitVec 32 := Scalar.extui v187
  let v189 : BitVec 32 := Scalar.subi v186 v188
  let v190 : BitVec 1 := Scalar.cmpi .ne v184 v189
  let v191 : BitVec 32 := Scalar.remsi v178 c256_i32_94
  let c0_i32_99 : BitVec 32 := 0#32
  let v192 : BitVec 1 := Scalar.cmpi .ne v191 c0_i32_99
  let v193 : BitVec 1 := Scalar.andi v190 v192
  let v179 : BitVec 32 := Scalar.divsi v178 c256_i32_94
  let c1_i32_100 : BitVec 32 := 1#32
  let v194 : BitVec 32 := Scalar.subi v179 c1_i32_100
  let v195 : BitVec 32 := Scalar.select v193 v194 v179
  let c0_i32_101 : BitVec 32 := 0#32
  let v196 : BitVec 32 := Scalar.subi v195 c0_i32_101
  let c1_i32_102 : BitVec 32 := 1#32
  let c1_i32_103 : BitVec 32 := 1#32
  let v197 : BitVec 32 := Scalar.subi c1_i32_102 c1_i32_103
  let v198 : BitVec 32 := Scalar.addi v196 v197
  let c1_i32_104 : BitVec 32 := 1#32
  let v199 : BitVec 32 := Scalar.divsi v198 c1_i32_104
  let v200 : BitVec 32 := Scalar.subi v199 c0_i32_107
  let c1_i32_108 : BitVec 32 := 1#32
  let v202 : BitVec 32 := Scalar.divsi v200 c1_i32_108
  let v203 : BitVec 32 := Scalar.muli v202 c1_i32_108
  let v204 : BitVec 32 := Scalar.addi c0_i32_107 v203
  let c1_i32_110 : BitVec 32 := 1#32
  let arg25 : BitVec 32 := Scf.iv v204 c1_i32_110 k0_t5
  let c1_i32_105 : BitVec 32 := 1#32
  let v223 : BitVec 32 := Scalar.muli arg25 c1_i32_105
  let v224 : BitVec 32 := Scalar.addi c0_i32_106 v223
  let c256_i32_125 : BitVec 32 := 256#32
  let v225 : BitVec 32 := Scalar.muli v224 c256_i32_125
  v225
def k0_off12 (v176 : BitVec 32) (k0_t5 : Fin (k0_t5_loop v176).trips) : Fin 4 → Nat :=
  let c0_126 : Index := 0#32
  let c0_127 : Index := 0#32
  let c0_i32_106 : BitVec 32 := 0#32
  let c0_i32_107 : BitVec 32 := 0#32
  let c256_i32 : BitVec 32 := 256#32
  let v177 : BitVec 32 := Scalar.addi v176 c256_i32
  let c1_i32_93 : BitVec 32 := 1#32
  let v178 : BitVec 32 := Scalar.subi v177 c1_i32_93
  let c0_i32_95 : BitVec 32 := 0#32
  let v180 : BitVec 1 := Scalar.cmpi .sgt v178 c0_i32_95
  let v181 : BitVec 32 := Scalar.extui v180
  let c0_i32_96 : BitVec 32 := 0#32
  let v182 : BitVec 1 := Scalar.cmpi .slt v178 c0_i32_96
  let v183 : BitVec 32 := Scalar.extui v182
  let v184 : BitVec 32 := Scalar.subi v181 v183
  let c256_i32_94 : BitVec 32 := 256#32
  let c0_i32_97 : BitVec 32 := 0#32
  let v185 : BitVec 1 := Scalar.cmpi .sgt c256_i32_94 c0_i32_97
  let v186 : BitVec 32 := Scalar.extui v185
  let c0_i32_98 : BitVec 32 := 0#32
  let v187 : BitVec 1 := Scalar.cmpi .slt c256_i32_94 c0_i32_98
  let v188 : BitVec 32 := Scalar.extui v187
  let v189 : BitVec 32 := Scalar.subi v186 v188
  let v190 : BitVec 1 := Scalar.cmpi .ne v184 v189
  let v191 : BitVec 32 := Scalar.remsi v178 c256_i32_94
  let c0_i32_99 : BitVec 32 := 0#32
  let v192 : BitVec 1 := Scalar.cmpi .ne v191 c0_i32_99
  let v193 : BitVec 1 := Scalar.andi v190 v192
  let v179 : BitVec 32 := Scalar.divsi v178 c256_i32_94
  let c1_i32_100 : BitVec 32 := 1#32
  let v194 : BitVec 32 := Scalar.subi v179 c1_i32_100
  let v195 : BitVec 32 := Scalar.select v193 v194 v179
  let c0_i32_101 : BitVec 32 := 0#32
  let v196 : BitVec 32 := Scalar.subi v195 c0_i32_101
  let c1_i32_102 : BitVec 32 := 1#32
  let c1_i32_103 : BitVec 32 := 1#32
  let v197 : BitVec 32 := Scalar.subi c1_i32_102 c1_i32_103
  let v198 : BitVec 32 := Scalar.addi v196 v197
  let c1_i32_104 : BitVec 32 := 1#32
  let v199 : BitVec 32 := Scalar.divsi v198 c1_i32_104
  let v200 : BitVec 32 := Scalar.subi v199 c0_i32_107
  let c1_i32_108 : BitVec 32 := 1#32
  let v202 : BitVec 32 := Scalar.divsi v200 c1_i32_108
  let v203 : BitVec 32 := Scalar.muli v202 c1_i32_108
  let v204 : BitVec 32 := Scalar.addi c0_i32_107 v203
  let c1_i32_110 : BitVec 32 := 1#32
  let arg25 : BitVec 32 := Scf.iv v204 c1_i32_110 k0_t5
  let c1_i32_105 : BitVec 32 := 1#32
  let v223 : BitVec 32 := Scalar.muli arg25 c1_i32_105
  let v224 : BitVec 32 := Scalar.addi c0_i32_106 v223
  let c256_i32_125 : BitVec 32 := 256#32
  let v225 : BitVec 32 := Scalar.muli v224 c256_i32_125
  let v226 : BitVec 32 := v225
  let v228 : Index := Scalar.indexCast v226
  let c0_128 : Index := 0#32
  ![0, 0, v228.toNat, 0]
def k0_off13 (v176 : BitVec 32) (k0_t5 : Fin (k0_t5_loop v176).trips) : Fin 4 → Nat :=
  let c0_132 : Index := 0#32
  let c0_133 : Index := 0#32
  let c0_134 : Index := 0#32
  let c0_i32_106 : BitVec 32 := 0#32
  let c0_i32_107 : BitVec 32 := 0#32
  let c256_i32 : BitVec 32 := 256#32
  let v177 : BitVec 32 := Scalar.addi v176 c256_i32
  let c1_i32_93 : BitVec 32 := 1#32
  let v178 : BitVec 32 := Scalar.subi v177 c1_i32_93
  let c0_i32_95 : BitVec 32 := 0#32
  let v180 : BitVec 1 := Scalar.cmpi .sgt v178 c0_i32_95
  let v181 : BitVec 32 := Scalar.extui v180
  let c0_i32_96 : BitVec 32 := 0#32
  let v182 : BitVec 1 := Scalar.cmpi .slt v178 c0_i32_96
  let v183 : BitVec 32 := Scalar.extui v182
  let v184 : BitVec 32 := Scalar.subi v181 v183
  let c256_i32_94 : BitVec 32 := 256#32
  let c0_i32_97 : BitVec 32 := 0#32
  let v185 : BitVec 1 := Scalar.cmpi .sgt c256_i32_94 c0_i32_97
  let v186 : BitVec 32 := Scalar.extui v185
  let c0_i32_98 : BitVec 32 := 0#32
  let v187 : BitVec 1 := Scalar.cmpi .slt c256_i32_94 c0_i32_98
  let v188 : BitVec 32 := Scalar.extui v187
  let v189 : BitVec 32 := Scalar.subi v186 v188
  let v190 : BitVec 1 := Scalar.cmpi .ne v184 v189
  let v191 : BitVec 32 := Scalar.remsi v178 c256_i32_94
  let c0_i32_99 : BitVec 32 := 0#32
  let v192 : BitVec 1 := Scalar.cmpi .ne v191 c0_i32_99
  let v193 : BitVec 1 := Scalar.andi v190 v192
  let v179 : BitVec 32 := Scalar.divsi v178 c256_i32_94
  let c1_i32_100 : BitVec 32 := 1#32
  let v194 : BitVec 32 := Scalar.subi v179 c1_i32_100
  let v195 : BitVec 32 := Scalar.select v193 v194 v179
  let c0_i32_101 : BitVec 32 := 0#32
  let v196 : BitVec 32 := Scalar.subi v195 c0_i32_101
  let c1_i32_102 : BitVec 32 := 1#32
  let c1_i32_103 : BitVec 32 := 1#32
  let v197 : BitVec 32 := Scalar.subi c1_i32_102 c1_i32_103
  let v198 : BitVec 32 := Scalar.addi v196 v197
  let c1_i32_104 : BitVec 32 := 1#32
  let v199 : BitVec 32 := Scalar.divsi v198 c1_i32_104
  let v200 : BitVec 32 := Scalar.subi v199 c0_i32_107
  let c1_i32_108 : BitVec 32 := 1#32
  let v202 : BitVec 32 := Scalar.divsi v200 c1_i32_108
  let v203 : BitVec 32 := Scalar.muli v202 c1_i32_108
  let v204 : BitVec 32 := Scalar.addi c0_i32_107 v203
  let c1_i32_110 : BitVec 32 := 1#32
  let arg25 : BitVec 32 := Scf.iv v204 c1_i32_110 k0_t5
  let c1_i32_105 : BitVec 32 := 1#32
  let v223 : BitVec 32 := Scalar.muli arg25 c1_i32_105
  let v224 : BitVec 32 := Scalar.addi c0_i32_106 v223
  let c256_i32_125 : BitVec 32 := 256#32
  let v225 : BitVec 32 := Scalar.muli v224 c256_i32_125
  let v226 : BitVec 32 := v225
  let v234 : Index := Scalar.indexCast v226
  ![0, 0, 0, v234.toNat]

def k0_chk3 (v176 : BitVec 32) : Prop :=
  ((k0_t4_loop v176).OK) ∧
  (∀ k0_t4 : Fin (k0_t4_loop v176).trips, 256 ∣ (k0_mult4 v176 k0_t4).toNat) ∧
  (∀ k0_t4 : Fin (k0_t4_loop v176).trips, ∀ a, (k0_off10 v176 k0_t4) a + S1x1x256x128.size a ≤ S1x1x1024x128.size a) ∧
  (∀ k0_t4 : Fin (k0_t4_loop v176).trips, ∀ a, (k0_off11 v176 k0_t4) a + S1x1x1x256.size a ≤ S1x1x1x1024.size a) ∧
  ((k0_t5_loop v176).OK) ∧
  (∀ k0_t5 : Fin (k0_t5_loop v176).trips, 256 ∣ (k0_mult5 v176 k0_t5).toNat) ∧
  (∀ k0_t5 : Fin (k0_t5_loop v176).trips, ∀ a, (k0_off12 v176 k0_t5) a + S1x1x256x128.size a ≤ S1x1x1024x128.size a) ∧
  (∀ k0_t5 : Fin (k0_t5_loop v176).trips, ∀ a, (k0_off13 v176 k0_t5) a + S1x1x1x256.size a ≤ S1x1x1x1024.size a)
theorem k0_t4_ok : ∀ (v176 : BitVec 32) (k0_hw3 : k0_chk3 v176), (k0_t4_loop v176).OK := fun v176 k0_hw3 => k0_hw3.1
theorem k0_mult4_dvd : ∀ (v176 : BitVec 32) (k0_hw3 : k0_chk3 v176) (k0_t4 : Fin (k0_t4_loop v176).trips), 256 ∣ (k0_mult4 v176 k0_t4).toNat := fun v176 k0_hw3 k0_t4 => k0_hw3.2.1 k0_t4
theorem k0_off10_inb : ∀ (v176 : BitVec 32) (k0_hw3 : k0_chk3 v176) (k0_t4 : Fin (k0_t4_loop v176).trips), ∀ a, (k0_off10 v176 k0_t4) a + S1x1x256x128.size a ≤ S1x1x1024x128.size a := fun v176 k0_hw3 k0_t4 => k0_hw3.2.2.1 k0_t4
theorem k0_off11_inb : ∀ (v176 : BitVec 32) (k0_hw3 : k0_chk3 v176) (k0_t4 : Fin (k0_t4_loop v176).trips), ∀ a, (k0_off11 v176 k0_t4) a + S1x1x1x256.size a ≤ S1x1x1x1024.size a := fun v176 k0_hw3 k0_t4 => k0_hw3.2.2.2.1 k0_t4
theorem k0_t5_ok : ∀ (v176 : BitVec 32) (k0_hw3 : k0_chk3 v176), (k0_t5_loop v176).OK := fun v176 k0_hw3 => k0_hw3.2.2.2.2.1
theorem k0_mult5_dvd : ∀ (v176 : BitVec 32) (k0_hw3 : k0_chk3 v176) (k0_t5 : Fin (k0_t5_loop v176).trips), 256 ∣ (k0_mult5 v176 k0_t5).toNat := fun v176 k0_hw3 k0_t5 => k0_hw3.2.2.2.2.2.1 k0_t5
theorem k0_off12_inb : ∀ (v176 : BitVec 32) (k0_hw3 : k0_chk3 v176) (k0_t5 : Fin (k0_t5_loop v176).trips), ∀ a, (k0_off12 v176 k0_t5) a + S1x1x256x128.size a ≤ S1x1x1024x128.size a := fun v176 k0_hw3 k0_t5 => k0_hw3.2.2.2.2.2.2.1 k0_t5
theorem k0_off13_inb : ∀ (v176 : BitVec 32) (k0_hw3 : k0_chk3 v176) (k0_t5 : Fin (k0_t5_loop v176).trips), ∀ a, (k0_off13 v176 k0_t5) a + S1x1x1x256.size a ≤ S1x1x1x1024.size a := fun v176 k0_hw3 k0_t5 => k0_hw3.2.2.2.2.2.2.2 k0_t5

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, arg0.toNat, c0_i32.toNat, c0_i32_0.toNat]

def cc0_transform_6 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, arg0.toNat, c0_i32.toNat, c0_i32_0.toNat]

def cc0_transform_7 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, arg0.toNat, c0_i32.toNat, c0_i32_0.toNat]

def cc0_transform_8 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x1x240x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1920x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1920x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1920 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x640x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x640x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1024x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x48x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x48x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x240x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x240x8 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== KernelIdeal.lean ====
variable {F : FTy → Type} [FloatOps F] [Named F]
def κ : String → Option EReal := fun
  | "mask" => some ⊥
  | "qk_scale" => some (((Real.sqrt 128)⁻¹ * (Real.log 2)⁻¹ : ℝ) : EReal)
  | _ => none
-- ==== ReferenceIdeal.lean ====
abbrev S64x48x5120 : Shape := ⟨3, ![64, 48, 5120]⟩
abbrev S1800x8x128 : Shape := ⟨3, ![1800, 8, 128]⟩
abbrev S1800x8 : Shape := ⟨2, ![1800, 8]⟩
abbrev S7x640x8x128 : Shape := ⟨4, ![7, 640, 8, 128]⟩
abbrev S7x640x8 : Shape := ⟨3, ![7, 640, 8]⟩
abbrev S7 : Shape := ⟨1, ![7]⟩
abbrev S64 : Shape := ⟨1, ![64]⟩
abbrev S64x1024x8x128 : Shape := ⟨4, ![64, 1024, 8, 128]⟩
abbrev S64x1024x8 : Shape := ⟨3, ![64, 1024, 8]⟩
abbrev S64x48x8x128 : Shape := ⟨4, ![64, 48, 8, 128]⟩
abbrev S64x48x8x5x128 : Shape := ⟨5, ![64, 48, 8, 5, 128]⟩
abbrev S64x8x5x48x128 : Shape := ⟨5, ![64, 8, 5, 48, 128]⟩
abbrev S512x240x128 : Shape := ⟨3, ![512, 240, 128]⟩
abbrev S1x1800x8x128 : Shape := ⟨4, ![1, 1800, 8, 128]⟩
abbrev S64x1800x8x128 : Shape := ⟨4, ![64, 1800, 8, 128]⟩
abbrev S64x8x1800x128 : Shape := ⟨4, ![64, 8, 1800, 128]⟩
abbrev S512x1800x128 : Shape := ⟨3, ![512, 1800, 128]⟩
abbrev S1x1800x8 : Shape := ⟨3, ![1, 1800, 8]⟩
abbrev S64x1800x8 : Shape := ⟨3, ![64, 1800, 8]⟩
abbrev S64x8x1800 : Shape := ⟨3, ![64, 8, 1800]⟩
abbrev S512x1x1800 : Shape := ⟨3, ![512, 1, 1800]⟩
abbrev S_ : Shape := ⟨0, ![]⟩
abbrev S64x1 : Shape := ⟨2, ![64, 1]⟩
abbrev S64x640x8x128 : Shape := ⟨4, ![64, 640, 8, 128]⟩
abbrev S64x8x640x128 : Shape := ⟨4, ![64, 8, 640, 128]⟩
abbrev S512x640x128 : Shape := ⟨3, ![512, 640, 128]⟩
abbrev S64x640x8 : Shape := ⟨3, ![64, 640, 8]⟩
abbrev S64x8x640 : Shape := ⟨3, ![64, 8, 640]⟩
abbrev S512x1x640 : Shape := ⟨3, ![512, 1, 640]⟩
abbrev S64x8 : Shape := ⟨2, ![64, 8]⟩
abbrev S512x1x1 : Shape := ⟨3, ![512, 1, 1]⟩
abbrev S64x8x1024x128 : Shape := ⟨4, ![64, 8, 1024, 128]⟩
abbrev S512x1024x128 : Shape := ⟨3, ![512, 1024, 128]⟩
abbrev S64x8x1024 : Shape := ⟨3, ![64, 8, 1024]⟩
abbrev S512x1x1024 : Shape := ⟨3, ![512, 1, 1024]⟩
abbrev S64x8x48x128 : Shape := ⟨4, ![64, 8, 48, 128]⟩
abbrev S512x48x128 : Shape := ⟨3, ![512, 48, 128]⟩
abbrev S64x8x240x128 : Shape := ⟨4, ![64, 8, 240, 128]⟩
abbrev S64x8x240x8 : Shape := ⟨4, ![64, 8, 240, 8]⟩
abbrev S512x240x48 : Shape := ⟨3, ![512, 240, 48]⟩
abbrev S512x240x1800 : Shape := ⟨3, ![512, 240, 1800]⟩
abbrev S512x240x640 : Shape := ⟨3, ![512, 240, 640]⟩
abbrev S512x240x1024 : Shape := ⟨3, ![512, 240, 1024]⟩
abbrev S512x240 : Shape := ⟨2, ![512, 240]⟩
abbrev S512x240x1 : Shape := ⟨3, ![512, 240, 1]⟩
abbrev S512x240x8 : Shape := ⟨3, ![512, 240, 8]⟩

abbrev nBuf : Space → Nat
  | .hbm => 110
  | .vmem => 19
  | .smem => 0
  | _ => 0

abbrev bufTy : (tb : Table) → Fin (tcTables nBuf tb) → BufTy
  | .hbm, ⟨0, _⟩ => ⟨S64x48x5120, .bf16⟩
  | .hbm, ⟨1, _⟩ => ⟨S1800x8x128, .fp8e4m3⟩
  | .hbm, ⟨2, _⟩ => ⟨S1800x8x128, .fp8e4m3⟩
  | .hbm, ⟨3, _⟩ => ⟨S1800x8, .f32⟩
  | .hbm, ⟨4, _⟩ => ⟨S1800x8, .f32⟩
  | .hbm, ⟨5, _⟩ => ⟨S7x640x8x128, .fp8e4m3⟩
  | .hbm, ⟨6, _⟩ => ⟨S7x640x8x128, .fp8e4m3⟩
  | .hbm, ⟨7, _⟩ => ⟨S7x640x8, .f32⟩
  | .hbm, ⟨8, _⟩ => ⟨S7x640x8, .f32⟩
  | .hbm, ⟨9, _⟩ => ⟨S7, .i32⟩
  | .hbm, ⟨10, _⟩ => ⟨S64, .i32⟩
  | .hbm, ⟨11, _⟩ => ⟨S64x1024x8x128, .fp8e4m3⟩
  | .hbm, ⟨12, _⟩ => ⟨S64x1024x8x128, .fp8e4m3⟩
  | .hbm, ⟨13, _⟩ => ⟨S64x1024x8, .f32⟩
  | .hbm, ⟨14, _⟩ => ⟨S64x1024x8, .f32⟩
  | .hbm, ⟨15, _⟩ => ⟨S64, .i32⟩
  | .hbm, ⟨16, _⟩ => ⟨S64x48x8x128, .bf16⟩
  | .hbm, ⟨17, _⟩ => ⟨S64x48x8x128, .bf16⟩
  | .hbm, ⟨18, _⟩ => ⟨S64x48x8x5x128, .bf16⟩
  | .hbm, ⟨19, _⟩ => ⟨S64x8x5x48x128, .bf16⟩
  | .hbm, ⟨20, _⟩ => ⟨S512x240x128, .bf16⟩
  | .hbm, ⟨21, _⟩ => ⟨S1x1800x8x128, .fp8e4m3⟩
  | .hbm, ⟨22, _⟩ => ⟨S64x1800x8x128, .fp8e4m3⟩
  | .hbm, ⟨23, _⟩ => ⟨S64x8x1800x128, .fp8e4m3⟩
  | .hbm, ⟨24, _⟩ => ⟨S512x1800x128, .fp8e4m3⟩
  | .hbm, ⟨25, _⟩ => ⟨S1x1800x8x128, .fp8e4m3⟩
  | .hbm, ⟨26, _⟩ => ⟨S64x1800x8x128, .fp8e4m3⟩
  | .hbm, ⟨27, _⟩ => ⟨S64x8x1800x128, .fp8e4m3⟩
  | .hbm, ⟨28, _⟩ => ⟨S512x1800x128, .fp8e4m3⟩
  | .hbm, ⟨29, _⟩ => ⟨S1x1800x8, .f32⟩
  | .hbm, ⟨30, _⟩ => ⟨S64x1800x8, .f32⟩
  | .hbm, ⟨31, _⟩ => ⟨S64x8x1800, .f32⟩
  | .hbm, ⟨32, _⟩ => ⟨S512x1x1800, .f32⟩
  | .hbm, ⟨33, _⟩ => ⟨S1x1800x8, .f32⟩
  | .hbm, ⟨34, _⟩ => ⟨S64x1800x8, .f32⟩
  | .hbm, ⟨35, _⟩ => ⟨S64x8x1800, .f32⟩
  | .hbm, ⟨36, _⟩ => ⟨S512x1x1800, .f32⟩
  | .hbm, ⟨37, _⟩ => ⟨S_, .i32⟩
  | .hbm, ⟨38, _⟩ => ⟨S64, .i32⟩
  | .hbm, ⟨39, _⟩ => ⟨S64, .i1⟩
  | .hbm, ⟨40, _⟩ => ⟨S_, .i32⟩
  | .hbm, ⟨41, _⟩ => ⟨S64, .i32⟩
  | .hbm, ⟨42, _⟩ => ⟨S64, .i32⟩
  | .hbm, ⟨43, _⟩ => ⟨S64, .i32⟩
  | .hbm, ⟨44, _⟩ => ⟨S64x1, .i32⟩
  | .hbm, ⟨45, _⟩ => ⟨S64x640x8x128, .fp8e4m3⟩
  | .hbm, ⟨46, _⟩ => ⟨S64x8x640x128, .fp8e4m3⟩
  | .hbm, ⟨47, _⟩ => ⟨S512x640x128, .fp8e4m3⟩
  | .hbm, ⟨48, _⟩ => ⟨S_, .i32⟩
  | .hbm, ⟨49, _⟩ => ⟨S64, .i32⟩
  | .hbm, ⟨50, _⟩ => ⟨S64, .i1⟩
  | .hbm, ⟨51, _⟩ => ⟨S_, .i32⟩
  | .hbm, ⟨52, _⟩ => ⟨S64, .i32⟩
  | .hbm, ⟨53, _⟩ => ⟨S64, .i32⟩
  | .hbm, ⟨54, _⟩ => ⟨S64, .i32⟩
  | .hbm, ⟨55, _⟩ => ⟨S64x1, .i32⟩
  | .hbm, ⟨56, _⟩ => ⟨S64x640x8x128, .fp8e4m3⟩
  | .hbm, ⟨57, _⟩ => ⟨S64x8x640x128, .fp8e4m3⟩
  | .hbm, ⟨58, _⟩ => ⟨S512x640x128, .fp8e4m3⟩
  | .hbm, ⟨59, _⟩ => ⟨S_, .i32⟩
  | .hbm, ⟨60, _⟩ => ⟨S64, .i32⟩
  | .hbm, ⟨61, _⟩ => ⟨S64, .i1⟩
  | .hbm, ⟨62, _⟩ => ⟨S_, .i32⟩
  | .hbm, ⟨63, _⟩ => ⟨S64, .i32⟩
  | .hbm, ⟨64, _⟩ => ⟨S64, .i32⟩
  | .hbm, ⟨65, _⟩ => ⟨S64, .i32⟩
  | .hbm, ⟨66, _⟩ => ⟨S64x1, .i32⟩
  | .hbm, ⟨67, _⟩ => ⟨S64x640x8, .f32⟩
  | .hbm, ⟨68, _⟩ => ⟨S64x8x640, .f32⟩
  | .hbm, ⟨69, _⟩ => ⟨S512x1x640, .f32⟩
  | .hbm, ⟨70, _⟩ => ⟨S_, .i32⟩
  | .hbm, ⟨71, _⟩ => ⟨S64, .i32⟩
  | .hbm, ⟨72, _⟩ => ⟨S64, .i1⟩
  | .hbm, ⟨73, _⟩ => ⟨S_, .i32⟩
  | .hbm, ⟨74, _⟩ => ⟨S64, .i32⟩
  | .hbm, ⟨75, _⟩ => ⟨S64, .i32⟩
  | .hbm, ⟨76, _⟩ => ⟨S64, .i32⟩
  | .hbm, ⟨77, _⟩ => ⟨S64x1, .i32⟩
  | .hbm, ⟨78, _⟩ => ⟨S64x640x8, .f32⟩
  | .hbm, ⟨79, _⟩ => ⟨S64x8x640, .f32⟩
  | .hbm, ⟨80, _⟩ => ⟨S512x1x640, .f32⟩
  | .hbm, ⟨81, _⟩ => ⟨S_, .i32⟩
  | .hbm, ⟨82, _⟩ => ⟨S64, .i32⟩
  | .hbm, ⟨83, _⟩ => ⟨S64, .i1⟩
  | .hbm, ⟨84, _⟩ => ⟨S_, .i32⟩
  | .hbm, ⟨85, _⟩ => ⟨S64, .i32⟩
  | .hbm, ⟨86, _⟩ => ⟨S64, .i32⟩
  | .hbm, ⟨87, _⟩ => ⟨S64, .i32⟩
  | .hbm, ⟨88, _⟩ => ⟨S64x1, .i32⟩
  | .hbm, ⟨89, _⟩ => ⟨S64, .i32⟩
  | .hbm, ⟨90, _⟩ => ⟨S64x1, .i32⟩
  | .hbm, ⟨91, _⟩ => ⟨S64x8, .i32⟩
  | .hbm, ⟨92, _⟩ => ⟨S512x1x1, .i32⟩
  | .hbm, ⟨93, _⟩ => ⟨S64x8x1024x128, .fp8e4m3⟩
  | .hbm, ⟨94, _⟩ => ⟨S512x1024x128, .fp8e4m3⟩
  | .hbm, ⟨95, _⟩ => ⟨S64x8x1024x128, .fp8e4m3⟩
  | .hbm, ⟨96, _⟩ => ⟨S512x1024x128, .fp8e4m3⟩
  | .hbm, ⟨97, _⟩ => ⟨S64x8x1024, .f32⟩
  | .hbm, ⟨98, _⟩ => ⟨S512x1x1024, .f32⟩
  | .hbm, ⟨99, _⟩ => ⟨S64x8x1024, .f32⟩
  | .hbm, ⟨100, _⟩ => ⟨S512x1x1024, .f32⟩
  | .hbm, ⟨101, _⟩ => ⟨S64x1, .i32⟩
  | .hbm, ⟨102, _⟩ => ⟨S64x8, .i32⟩
  | .hbm, ⟨103, _⟩ => ⟨S512x1x1, .i32⟩
  | .hbm, ⟨104, _⟩ => ⟨S64x8x48x128, .bf16⟩
  | .hbm, ⟨105, _⟩ => ⟨S512x48x128, .bf16⟩
  | .hbm, ⟨106, _⟩ => ⟨S64x8x48x128, .bf16⟩
  | .hbm, ⟨107, _⟩ => ⟨S512x48x128, .bf16⟩
  | .hbm, ⟨108, _⟩ => ⟨S64x8x240x128, .bf16⟩
  | .hbm, ⟨109, _⟩ => ⟨S64x8x240x8, .f32⟩
  | .local _ .vmem, ⟨0, _⟩ => ⟨S512x240x128, .bf16⟩
  | .local _ .vmem, ⟨1, _⟩ => ⟨S512x1800x128, .fp8e4m3⟩
  | .local _ .vmem, ⟨2, _⟩ => ⟨S512x1800x128, .fp8e4m3⟩
  | .local _ .vmem, ⟨3, _⟩ => ⟨S512x1x1800, .f32⟩
  | .local _ .vmem, ⟨4, _⟩ => ⟨S512x1x1800, .f32⟩
  | .local _ .vmem, ⟨5, _⟩ => ⟨S512x640x128, .fp8e4m3⟩
  | .local _ .vmem, ⟨6, _⟩ => ⟨S512x640x128, .fp8e4m3⟩
  | .local _ .vmem, ⟨7, _⟩ => ⟨S512x1x640, .f32⟩
  | .local _ .vmem, ⟨8, _⟩ => ⟨S512x1x640, .f32⟩
  | .local _ .vmem, ⟨9, _⟩ => ⟨S512x1x1, .i32⟩
  | .local _ .vmem, ⟨10, _⟩ => ⟨S512x1024x128, .fp8e4m3⟩
  | .local _ .vmem, ⟨11, _⟩ => ⟨S512x1024x128, .fp8e4m3⟩
  | .local _ .vmem, ⟨12, _⟩ => ⟨S512x1x1024, .f32⟩
  | .local _ .vmem, ⟨13, _⟩ => ⟨S512x1x1024, .f32⟩
  | .local _ .vmem, ⟨14, _⟩ => ⟨S512x1x1, .i32⟩
  | .local _ .vmem, ⟨15, _⟩ => ⟨S512x48x128, .bf16⟩
  | .local _ .vmem, ⟨16, _⟩ => ⟨S512x48x128, .bf16⟩
  | .local _ .vmem, ⟨17, _⟩ => ⟨S64x8x240x128, .bf16⟩
  | .local _ .vmem, ⟨18, _⟩ => ⟨S64x8x240x8, .f32⟩
  | _, _ => ⟨S64x48x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_1 : Ref sig .tc := ⟨.hbm, 48, rfl⟩
abbrev main_v28 : Ref sig .tc := ⟨.hbm, 49, rfl⟩
abbrev main_v29 : Ref sig .tc := ⟨.hbm, 50, rfl⟩
abbrev main_c_2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_3 : Ref sig .tc := ⟨.hbm, 59, rfl⟩
abbrev main_v37 : Ref sig .tc := ⟨.hbm, 60, rfl⟩
abbrev main_v38 : Ref sig .tc := ⟨.hbm, 61, rfl⟩
abbrev main_c_4 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_5 : Ref sig .tc := ⟨.hbm, 70, rfl⟩
abbrev main_v46 : Ref sig .tc := ⟨.hbm, 71, rfl⟩
abbrev main_v47 : Ref sig .tc := ⟨.hbm, 72, rfl⟩
abbrev main_c_6 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_7 : Ref sig .tc := ⟨.hbm, 81, rfl⟩
abbrev main_v55 : Ref sig .tc := ⟨.hbm, 82, rfl⟩
abbrev main_v56 : Ref sig .tc := ⟨.hbm, 83, rfl⟩
abbrev main_c_8 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80_0 : Ref sig .tc := ⟨.hbm, 108, rfl⟩
abbrev main_v80_1 : Ref sig .tc := ⟨.hbm, 109, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F] [Named F]

def κ : String → Option EReal := fun
  | "sm_scale" => some (((Real.sqrt 128)⁻¹ : ℝ) : EReal)
  | _ => none

abbrev grid0 : Pipeline.Grid := .none

abbrev stage0_0 : Fin 1 → Memref sig .tc .vmem S512x240x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1800x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1800x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1x1800 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1x1800 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x640x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x640x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x1x640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x1x640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x1x1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x1024x128 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x1024x128 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S512x1x1 .i32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S512x48x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S512x48x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S64x8x240x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S64x8x240x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== Proof.Floor.lean ====
/- Signed floor division as the kernel computes it on words: truncated quotient, less one when the signs differ and the division is not exact. -/
module

public import Idealize.ShloMosaic.Lib.WordArith
public import Idealize.ShloMosaic.Lib.Scf
public import Mathlib.Tactic.Linarith
public import Mathlib.Tactic.Ring

@[expose] public section

namespace Cert.Words

open Idealize.ShloMosaic

/-- The kernel's floor division of the word `x` by the word `d`. -/
def fdiv (x d : BitVec 32) : BitVec 32 :=
  Scalar.select (Scalar.andi
      (Scalar.cmpi .ne (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

/-- The truncated quotient by a divisor above one, read signed. -/
theorem toInt_divsi (x d : BitVec 32) (hd : 1 < d.toInt) : (Scalar.divsi x d).toInt = x.toInt.tdiv d.toInt := by
  have h0 : d ≠ 0#32 := by rintro rfl; simp at hd
  have h1 : d ≠ -1#32 := by rintro rfl; revert hd; decide
  have hc : ¬ IntOp.SDivCorner x d := by
    rintro (h | ⟨_, h⟩)
    · exact h0 h
    · exact h1 h
  unfold Scalar.divsi IntOp.divsi
  rw [if_neg hc]
  exact BitVec.toInt_sdiv_of_ne_or_ne x d (Or.inr h1)

/-- The signed remainder by a divisor above one, read signed. -/
theorem toInt_remsi (x d : BitVec 32) (hd : 1 < d.toInt) : (Scalar.remsi x d).toInt = x.toInt.tmod d.toInt := by
  have h0 : d ≠ 0#32 := by rintro rfl; simp at hd
  have h1 : d ≠ -1#32 := by rintro rfl; revert hd; decide
  have hc : ¬ IntOp.SDivCorner x d := by
    rintro (h | ⟨_, h⟩)
    · exact h0 h
    · exact h1 h
  unfold Scalar.remsi IntOp.remsi
  rw [if_neg hc]
  exact BitVec.toInt_srem x d

/-- The kernel's floor division is the floor of the quotient of the signed values. -/
theorem toInt_fdiv (x d : BitVec 32) (hd : 1 < d.toInt) : (fdiv x d).toInt = x.toInt / d.toInt := by
  have hdiv := toInt_divsi x d hd
  have hrem := toInt_remsi x d hd
  have hdp : BitVec.slt 0#32 d = true := by rw [BitVec.slt_eq_decide]; simp; omega
  have hdn : BitVec.slt d 0#32 = false := by rw [BitVec.slt_eq_decide]; simp; omega
  have hx1 := BitVec.toInt_lt (x := x)
  have hx2 := BitVec.le_toInt (x := x)
  have key : x.toInt = d.toInt * x.toInt.tdiv d.toInt + x.toInt.tmod d.toInt := (Int.mul_tdiv_add_tmod _ _).symm
  by_cases hneg : x.toInt < 0
  · have h1 : BitVec.slt 0#32 x = false := by rw [BitVec.slt_eq_decide]; simp; omega
    have h2 : BitVec.slt x 0#32 = true := by rw [BitVec.slt_eq_decide]; simp; omega
    have hr1 : -d.toInt < x.toInt.tmod d.toInt := by
      have := Int.lt_tmod_of_pos x.toInt (b := d.toInt) (by omega); omega
    have hr2 : x.toInt.tmod d.toInt ≤ 0 := by
      have := Int.tmod_nonneg d.toInt (a := -x.toInt) (by omega)
      rw [Int.neg_tmod] at this; omega
    by_cases hr : Scalar.remsi x d = 0#32
    · have hz : x.toInt.tmod d.toInt = 0 := by rw [← hrem, hr]; rfl
      have : fdiv x d = Scalar.divsi x d := by
        unfold fdiv Scalar.select
        rw [hr]; simp [Scalar.andi, IntOp.andi, Scalar.cmpi, IntOp.cmpi]
      rw [this, hdiv, Int.tdiv_eq_ediv_of_dvd (Int.dvd_of_tmod_eq_zero hz)]
    · have : fdiv x d = Scalar.subi (Scalar.divsi x d) 1#32 := by
        unfold fdiv Scalar.select
        rw [if_pos]
        simp only [Scalar.andi, IntOp.andi, Scalar.cmpi, IntOp.cmpi, h1, h2, hdp, hdn]
        have : (Scalar.remsi x d != 0#32) = true := by simpa using hr
        rw [this]; decide
      have hz : x.toInt.tmod d.toInt ≠ 0 := by
        intro h; exact hr (BitVec.eq_of_toInt_eq (by rw [hrem, h]; rfl))
      have hq1 : x.toInt.tdiv d.toInt ≤ 0 := by
        have := Int.tdiv_nonneg (a := -x.toInt) (b := d.toInt) (by omega) (by omega)
        rw [Int.neg_tdiv] at this; omega
      have hq2 : -2^30 ≤ x.toInt.tdiv d.toInt := by
        have := mul_nonneg (show 0 ≤ d.toInt - 2 by omega) (show 0 ≤ -x.toInt.tdiv d.toInt by omega)
        norm_num at hx2 ⊢
        nlinarith
      have hs : (Scalar.subi (Scalar.divsi x d) 1#32).toInt = x.toInt.tdiv d.toInt - 1 := by
        show (Scalar.divsi x d - 1#32).toInt = _
        rw [BitVec.toInt_sub, hdiv]
        have e1 : (1#32 : BitVec 32).toInt = 1 := by decide
        rw [e1, Int.bmod_eq_of_le] <;> omega
      rw [this, hs]
      symm
      rw [Int.ediv_eq_iff_of_pos (by omega)]
      have hr3 : x.toInt.tmod d.toInt < 0 := by omega
      constructor <;> nlinarith
  · have : fdiv x d = Scalar.divsi x d := by
      unfold fdiv Scalar.select
      rw [if_neg]
      by_cases hz : x.toInt = 0
      · have hr : Scalar.remsi x d = 0#32 := BitVec.eq_of_toInt_eq (by rw [hrem, hz]; simp)
        rw [hr]; simp [Scalar.andi, IntOp.andi, Scalar.cmpi, IntOp.cmpi]
      · have h1 : BitVec.slt 0#32 x = true := by rw [BitVec.slt_eq_decide]; simp; omega
        have h2 : BitVec.slt x 0#32 = false := by rw [BitVec.slt_eq_decide]; simp; omega
        simp only [Scalar.andi, IntOp.andi, Scalar.cmpi, IntOp.cmpi, h1, h2, hdp, hdn]
        simp
    rw [this, hdiv, Int.tdiv_eq_ediv_of_nonneg (by omega)]

/-- Words with equal signed values differ from a literal shift by the shift, away from overflow. -/
theorem toInt_add_sub_one (v : BitVec 32) (c : BitVec 32) (hc : 0 < c.toInt) (hv : v.toInt + c.toInt < 2 ^ 31) :
    (Scalar.subi (Scalar.addi v c) 1#32).toInt = v.toInt + c.toInt - 1 := by
  have h2 := BitVec.le_toInt (x := v)
  show (v + c - 1#32).toInt = _
  have e1 : (1#32 : BitVec 32).toInt = 1 := by decide
  rw [BitVec.toInt_sub, BitVec.toInt_add, e1, Int.bmod_eq_of_le (n := v.toInt + c.toInt), Int.bmod_eq_of_le] <;> omega

/-- The trips of a loop from zero by one. -/
theorem trips_zero_one (u : BitVec 32) : Scf.trips 0#32 u 1#32 = u.toInt.toNat := by
  unfold Scf.trips
  have e1 : (1#32 : BitVec 32).toInt = 1 := by decide
  have e0 : (0#32 : BitVec 32).toInt = 0 := by decide
  rw [e1, e0]; simp

/-- A loop from zero by one has a meaning. -/
theorem ok_zero_one (u : BitVec 32) : Scf.OK 0#32 u 1#32 := by
  have h := BitVec.toInt_lt (x := u)
  have e1 : (1#32 : BitVec 32).toInt = 1 := by decide
  have e0 : (0#32 : BitVec 32).toInt = 0 := by decide
  refine ⟨by rw [e1]; decide, ?_⟩
  rw [trips_zero_one, e1, e0]; omega

/-- A loop by one from a bound to itself has no trip, and a meaning. -/
theorem trips_self (u : BitVec 32) : Scf.trips u u 1#32 = 0 := by
  unfold Scf.trips
  have e1 : (1#32 : BitVec 32).toInt = 1 := by decide
  rw [e1]; simp
theorem ok_self (u : BitVec 32) : Scf.OK u u 1#32 := by
  have h := BitVec.toInt_lt (x := u)
  have e1 : (1#32 : BitVec 32).toInt = 1 := by decide
  refine ⟨by rw [e1]; decide, ?_⟩
  rw [trips_self]; simpa using h

end Cert.Words
-- ==== Proof.Kernel.Points.lean ====
/- The launch of `Kernel` point by point: which staging buffers each grid point uses, what it fetches and what it flushes. -/
module

public import proofs.«01_k».proof.Proof.Gen.Kernel
public import Idealize.ShloMosaic.Lib.Pipeline.Kit

@[expose] public section

noncomputable section

namespace Cert.Kernel.Pipe

open Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 3 (%2)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
/-- Window 1 (operand 4 (%5)) is fetched at the points ≡ 0 (mod 64), at any contents of the tables (its index map reads none). -/
theorem fetch0_1 (a : (pcfg0 (F := F)).Adm) : ∀ t : Fin (cfg0 a).N, ((cfg0 a).win 1).fetch t = true ↔ t.val % 64 = 0 :=
  (fun t => Pipeline.Window.fetchOf_reads cc0_transform_1 reads0_1 hreads0_1 0 (by decide) (by decide) (Pipeline.Window.sep_of_coord cc0_transform_1 0 0 (fun _ => rfl) (by decide)) (P := 64) (by decide) t : ∀ t : Fin grid0.N, Pipeline.Window.fetchOf grid0 false cc0_transform_1 t = true ↔ t.val % 64 = 0)
/-- Window 2 (operand 5 (%7)) is fetched at the points ≡ 0 (mod 64), at any contents of the tables (its index map reads none). -/
theorem fetch0_2 (a : (pcfg0 (F := F)).Adm) : ∀ t : Fin (cfg0 a).N, ((cfg0 a).win 2).fetch t = true ↔ t.val % 64 = 0 :=
  (fun t => Pipeline.Window.fetchOf_reads cc0_transform_2 reads0_2 hreads0_2 0 (by decide) (by decide) (Pipeline.Window.sep_of_coord cc0_transform_2 0 0 (fun _ => rfl) (by decide)) (P := 64) (by decide) t : ∀ t : Fin grid0.N, Pipeline.Window.fetchOf grid0 false cc0_transform_2 t = true ↔ t.val % 64 = 0)
/-- Window 3 (operand 6 (%10)) is fetched at the points ≡ 0 (mod 64), at any contents of the tables (its index map reads none). -/
theorem fetch0_3 (a : (pcfg0 (F := F)).Adm) : ∀ t : Fin (cfg0 a).N, ((cfg0 a).win 3).fetch t = true ↔ t.val % 64 = 0 :=
  (fun t => Pipeline.Window.fetchOf_reads cc0_transform_3 reads0_3 hreads0_3 0 (by decide) (by decide) (Pipeline.Window.sep_of_coord cc0_transform_3 0 0 (fun _ => rfl) (by decide)) (P := 64) (by decide) t : ∀ t : Fin grid0.N, Pipeline.Window.fetchOf grid0 false cc0_transform_3 t = true ↔ t.val % 64 = 0)
/-- Window 4 (operand 7 (%13)) is fetched at the points ≡ 0 (mod 64), at any contents of the tables (its index map reads none). -/
theorem fetch0_4 (a : (pcfg0 (F := F)).Adm) : ∀ t : Fin (cfg0 a).N, ((cfg0 a).win 4).fetch t = true ↔ t.val % 64 = 0 :=
  (fun t => Pipeline.Window.fetchOf_reads cc0_transform_4 reads0_4 hreads0_4 0 (by decide) (by decide) (Pipeline.Window.sep_of_coord cc0_transform_4 0 0 (fun _ => rfl) (by decide)) (P := 64) (by decide) t : ∀ t : Fin grid0.N, Pipeline.Window.fetchOf grid0 false cc0_transform_4 t = true ↔ t.val % 64 = 0)
-- window 5: no schedule fact — its index map reads a prefetched table, so where it is fetched or written back depends on the tables' contents
-- window 6: no schedule fact — its index map reads a prefetched table, so where it is fetched or written back depends on the tables' contents
-- window 7: no schedule fact — its index map reads a prefetched table, so where it is fetched or written back depends on the tables' contents
-- window 8: no schedule fact — its index map reads a prefetched table, so where it is fetched or written back depends on the tables' contents
/-- Window 9 (operand 12 (%20)) is fetched at every point, at any contents of the tables (its index map reads none). -/
theorem fetch0_9 (a : (pcfg0 (F := F)).Adm) : ∀ t : Fin (cfg0 a).N, ((cfg0 a).win 9).fetch t = true :=
  (fun t => (Pipeline.Window.fetchOf_reads cc0_transform_9 reads0_9 hreads0_9 1 (by decide) (by decide) (Pipeline.Window.sep_of_coord cc0_transform_9 1 0 (fun _ => rfl) (by decide)) (P := 1) (by decide) t).mpr (Nat.mod_one _) : ∀ t : Fin grid0.N, Pipeline.Window.fetchOf grid0 false cc0_transform_9 t = true)
/-- Window 10 (operand 13 (%21)) is fetched at every point, at any contents of the tables (its index map reads none). -/
theorem fetch0_10 (a : (pcfg0 (F := F)).Adm) : ∀ t : Fin (cfg0 a).N, ((cfg0 a).win 10).fetch t = true :=
  (fun t => (Pipeline.Window.fetchOf_reads cc0_transform_10 reads0_10 hreads0_10 1 (by decide) (by decide) (Pipeline.Window.sep_of_coord cc0_transform_10 1 0 (fun _ => rfl) (by decide)) (P := 1) (by decide) t).mpr (Nat.mod_one _) : ∀ t : Fin grid0.N, Pipeline.Window.fetchOf grid0 false cc0_transform_10 t = true)
/-- Window 11 (operand 14 (%23)) is fetched at every point, at any contents of the tables (its index map reads none). -/
theorem fetch0_11 (a : (pcfg0 (F := F)).Adm) : ∀ t : Fin (cfg0 a).N, ((cfg0 a).win 11).fetch t = true :=
  (fun t => (Pipeline.Window.fetchOf_reads cc0_transform_11 reads0_11 hreads0_11 1 (by decide) (by decide) (Pipeline.Window.sep_of_coord cc0_transform_11 1 0 (fun _ => rfl) (by decide)) (P := 1) (by decide) t).mpr (Nat.mod_one _) : ∀ t : Fin grid0.N, Pipeline.Window.fetchOf grid0 false cc0_transform_11 t = true)
/-- Window 12 (operand 15 (%25)) is fetched at every point, at any contents of the tables (its index map reads none). -/
theorem fetch0_12 (a : (pcfg0 (F := F)).Adm) : ∀ t : Fin (cfg0 a).N, ((cfg0 a).win 12).fetch t = true :=
  (fun t => (Pipeline.Window.fetchOf_reads cc0_transform_12 reads0_12 hreads0_12 1 (by decide) (by decide) (Pipeline.Window.sep_of_coord cc0_transform_12 1 0 (fun _ => rfl) (by decide)) (P := 1) (by decide) t).mpr (Nat.mod_one _) : ∀ t : Fin grid0.N, Pipeline.Window.fetchOf grid0 false cc0_transform_12 t = true)
/-- Window 13 (operand 16 (%26)) is fetched at every point, at any contents of the tables (its index map reads none). -/
theorem fetch0_13 (a : (pcfg0 (F := F)).Adm) : ∀ t : Fin (cfg0 a).N, ((cfg0 a).win 13).fetch t = true :=
  (fun t => (Pipeline.Window.fetchOf_reads cc0_transform_13 reads0_13 hreads0_13 1 (by decide) (by decide) (Pipeline.Window.sep_of_coord cc0_transform_13 1 0 (fun _ => rfl) (by decide)) (P := 1) (by decide) t).mpr (Nat.mod_one _) : ∀ t : Fin grid0.N, Pipeline.Window.fetchOf grid0 false cc0_transform_13 t = true)
/-- Window 14 (operand 17 (%27)) is fetched at every point, at any contents of the tables (its index map reads none). -/
theorem fetch0_14 (a : (pcfg0 (F := F)).Adm) : ∀ t : Fin (cfg0 a).N, ((cfg0 a).win 14).fetch t = true :=
  (fun t => (Pipeline.Window.fetchOf_reads cc0_transform_14 reads0_14 hreads0_14 1 (by decide) (by decide) (Pipeline.Window.sep_of_coord cc0_transform_14 1 0 (fun _ => rfl) (by decide)) (P := 1) (by decide) t).mpr (Nat.mod_one _) : ∀ t : Fin grid0.N, Pipeline.Window.fetchOf grid0 false cc0_transform_14 t = true)
/-- Window 15 (result 0 (%28#0)) is written back at every point, at any contents of the tables (its index map reads none). -/
theorem flush0_15 (a : (pcfg0 (F := F)).Adm) : ∀ t : Fin (cfg0 a).N, ((cfg0 a).win 15).flush t = true :=
  (fun t => (Pipeline.Window.flushOf_reads cc0_transform_15 reads0_15 hreads0_15 1 (by decide) (by decide) (Pipeline.Window.sep_of_coord cc0_transform_15 1 0 (fun _ => rfl) (by decide)) (P := 1) (m := 0) (by decide) rfl t).mpr (Nat.mod_one _) : ∀ t : Fin grid0.N, Pipeline.Window.flushOf grid0 true cc0_transform_15 t = true)
/-- Window 16 (result 1 (%28#1)) is written back at every point, at any contents of the tables (its index map reads none). -/
theorem flush0_16 (a : (pcfg0 (F := F)).Adm) : ∀ t : Fin (cfg0 a).N, ((cfg0 a).win 16).flush t = true :=
  (fun t => (Pipeline.Window.flushOf_reads cc0_transform_16 reads0_16 hreads0_16 1 (by decide) (by decide) (Pipeline.Window.sep_of_coord cc0_transform_16 1 0 (fun _ => rfl) (by decide)) (P := 1) (m := 0) (by decide) rfl t).mpr (Nat.mod_one _) : ∀ t : Fin grid0.N, Pipeline.Window.flushOf grid0 true cc0_transform_16 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)
abbrev st0_14 (a : (pcfg0 (F := F)).Adm) (t : Fin (cfg0 a).N) := ((cfg0 a).win 14).stage ((cfg0 a).slots t 14)
abbrev st0_15 (a : (pcfg0 (F := F)).Adm) (t : Fin (cfg0 a).N) := ((cfg0 a).win 15).stage ((cfg0 a).slots t 15)
abbrev st0_16 (a : (pcfg0 (F := F)).Adm) (t : Fin (cfg0 a).N) := ((cfg0 a).win 16).stage ((cfg0 a).slots t 16)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_cascade (grid0.coords t) (Memref.whole main_arg9) (Memref.isWhole_whole _) (Memref.whole main_arg10) (Memref.isWhole_whole _) (Memref.whole main_arg15) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (Memref.whole cc0_scratch0) (Memref.isWhole_whole _) (Memref.whole cc0_scratch1) (Memref.isWhole_whole _) (Memref.whole cc0_scratch2) (Memref.isWhole_whole _)

end Cert.Kernel.Pipe

end
-- ==== Proof.Kernel.Runs.lean ====
/- What every run of `Kernel` shares: the buffers when the launch is entered, the tables, the windows' blocks, the scratch. -/
module

public import proofs.«01_k».proof.Proof.Gen.Kernel.Launch
public import proofs.«01_k».proof.Proof.Gen.Kernel.Skeleton
public import proofs.«01_k».proof.Proof.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Pipe

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S7 .i32 := Memref.whole main_arg9
abbrev htbM0_0 : tbM0_0.IsWhole := Memref.isWhole_whole _
abbrev tbM0_1 : Memref sig .tc .smem S64 .i32 := Memref.whole main_arg10
abbrev htbM0_1 : tbM0_1.IsWhole := Memref.isWhole_whole _
abbrev tbM0_2 : Memref sig .tc .smem S64 .i32 := Memref.whole main_arg15
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of (hO : Ok m) {c : Dev nD} (dat : Dat τ (Elt F) Unit ℕ (UR sig nD τ) ℕ (cfgM m hO) c) (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of (hO : Ok m) {c : Dev nD} (dat : Dat τ (Elt F) Unit ℕ (UR sig nD τ) ℕ (cfgM m hO) c) (hA : dat.A 12 = V m c (Pipeline.arrRef spec0 12))
    (hafter : ∀ t, dat.after 12 t = iblk m hO c 12 t) (t : Fin (cfgM m hO).N) (d) : dat.before 12 t d = iblk m hO c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of (hO : Ok m) {c : Dev nD} (dat : Dat τ (Elt F) Unit ℕ (UR sig nD τ) ℕ (cfgM m hO) c) (hA : dat.A 13 = V m c (Pipeline.arrRef spec0 13))
    (hafter : ∀ t, dat.after 13 t = iblk m hO c 13 t) (t : Fin (cfgM m hO).N) (d) : dat.before 13 t d = iblk m hO c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of (hO : Ok m) {c : Dev nD} (dat : Dat τ (Elt F) Unit ℕ (UR sig nD τ) ℕ (cfgM m hO) c) (hA : dat.A 14 = V m c (Pipeline.arrRef spec0 14))
    (hafter : ∀ t, dat.after 14 t = iblk m hO c 14 t) (t : Fin (cfgM m hO).N) (d) : dat.before 14 t d = iblk m hO c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1080000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).2 main_arg10 (by decide : main_arg10 ∈ Pipeline.restRefs sig spec0)).trans (V_main_arg10 m c),
      ((h c).2 main_arg11 (by decide : main_arg11 ∈ Pipeline.restRefs sig spec0)).trans (V_main_arg11 m c),
      ((h c).2 main_arg12 (by decide : main_arg12 ∈ Pipeline.restRefs sig spec0)).trans (V_main_arg12 m c),
      ((h c).2 main_arg13 (by decide : main_arg13 ∈ Pipeline.restRefs sig spec0)).trans (V_main_arg13 m c),
      ((h c).2 main_arg14 (by decide : main_arg14 ∈ Pipeline.restRefs sig spec0)).trans (V_main_arg14 m c),
      ((h c).2 main_arg15 (by decide : main_arg15 ∈ Pipeline.restRefs sig spec0)).trans (V_main_arg15 m c),
      ((h c).2 main_arg16 (by decide : main_arg16 ∈ Pipeline.restRefs sig spec0)).trans (V_main_arg16 m c),
      ((h c).2 main_arg17 (by decide : main_arg17 ∈ Pipeline.restRefs sig spec0)).trans (V_main_arg17 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x1x240x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1920x128 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1920x128 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1920 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1920 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x640x128 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x640x128 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x1x640 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x1x1x640 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x1x1024x128 .fp8e4m3 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x1x1024x128 .fp8e4m3 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x1x1x1024 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x1x1x1024 .f32 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x1x48x128 .bf16 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S1x1x48x128 .bf16 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S1x1x240x128 .bf16 := spec0_15.stage ((cfgM m hO).slots t 15)
abbrev hs0_15 (hO : Ok m) (t : Fin (cfgM m hO).N) : (ms0_15 m hO t).IsWhole := hstage0_15 (((cfgM m hO).slots t 15).cast nbuf0_15)
abbrev ms0_16 (hO : Ok m) (t : Fin (cfgM m hO).N) : Memref sig .tc .vmem S1x1x240x8 .f32 := spec0_16.stage ((cfgM m hO).slots t 16)
abbrev hs0_16 (hO : Ok m) (t : Fin (cfgM m hO).N) : (ms0_16 m hO t).IsWhole := hstage0_16 (((cfgM m hO).slots t 16).cast nbuf0_16)
/-- The scratch operands: whole scoped buffers of the kernel's own, passed beside the windows. -/
abbrev scM0_0 : Memref sig .tc .vmem S240x128 .f32 := Memref.whole cc0_scratch0
abbrev scM0_1 : Memref sig .tc .vmem S240x128 .f32 := Memref.whole cc0_scratch1
abbrev scM0_2 : Memref sig .tc .vmem S240x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Pipe

end
-- ==== Proof.Kernel.Body.lean ====
/- One run of `Kernel`'s body on whole staging buffers, from table words that satisfy the conditions the body assumes. -/
module

public import proofs.«01_k».proof.Proof.Kernel.Runs
public import proofs.«01_k».proof.Proof.Gen.Kernel.Loops

@[expose] public section

-- membership in a rectangle of production extents (`View.cover_of_tiled`): the elaborator's structural look
-- recurses once per coordinate of the long axes
set_option maxRecDepth 16384

noncomputable section

namespace Cert.Kernel.Pipe

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (15, 16) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg5 : Memref sig .tc .vmem S1x1x240x128 .bf16) (harg5 : arg5.IsWhole) (arg6 : Memref sig .tc .vmem S1x1920x128 .fp8e4m3) (harg6 : arg6.IsWhole) (arg7 : Memref sig .tc .vmem S1x1920x128 .fp8e4m3) (harg7 : arg7.IsWhole) (arg8 : Memref sig .tc .vmem S1x1x1920 .f32) (harg8 : arg8.IsWhole) (arg9 : Memref sig .tc .vmem S1x1x1920 .f32) (harg9 : arg9.IsWhole) (arg10 : Memref sig .tc .vmem S1x1x640x128 .fp8e4m3) (harg10 : arg10.IsWhole) (arg11 : Memref sig .tc .vmem S1x1x640x128 .fp8e4m3) (harg11 : arg11.IsWhole) (arg12 : Memref sig .tc .vmem S1x1x1x640 .f32) (harg12 : arg12.IsWhole) (arg13 : Memref sig .tc .vmem S1x1x1x640 .f32) (harg13 : arg13.IsWhole) (arg14 : Memref sig .tc .vmem S1x1x1024x128 .fp8e4m3) (harg14 : arg14.IsWhole) (arg15 : Memref sig .tc .vmem S1x1x1024x128 .fp8e4m3) (harg15 : arg15.IsWhole) (arg16 : Memref sig .tc .vmem S1x1x1x1024 .f32) (harg16 : arg16.IsWhole) (arg17 : Memref sig .tc .vmem S1x1x1x1024 .f32) (harg17 : arg17.IsWhole) (arg18 : Memref sig .tc .vmem S1x1x48x128 .bf16) (harg18 : arg18.IsWhole) (arg19 : Memref sig .tc .vmem S1x1x48x128 .bf16) (harg19 : arg19.IsWhole) (arg20 : Memref sig .tc .vmem S1x1x240x128 .bf16) (harg20 : arg20.IsWhole) (arg21 : Memref sig .tc .vmem S1x1x240x8 .f32) (harg21 : arg21.IsWhole) (arg22 : Memref sig .tc .vmem S240x128 .f32) (harg22 : arg22.IsWhole) (arg23 : Memref sig .tc .vmem S240x128 .f32) (harg23 : arg23.IsWhole) (arg24 : Memref sig .tc .vmem S240x128 .f32) (harg24 : arg24.IsWhole)
    (x0 : Vec F S1x1x240x128 .bf16) (x1 : Vec F S1x1920x128 .fp8e4m3) (x2 : Vec F S1x1920x128 .fp8e4m3) (x3 : Vec F S1x1x1920 .f32) (x4 : Vec F S1x1x1920 .f32) (x5 : Vec F S1x1x640x128 .fp8e4m3) (x6 : Vec F S1x1x640x128 .fp8e4m3) (x7 : Vec F S1x1x1x640 .f32) (x8 : Vec F S1x1x1x640 .f32) (x9 : Vec F S1x1x1024x128 .fp8e4m3) (x10 : Vec F S1x1x1024x128 .fp8e4m3) (x11 : Vec F S1x1x1x1024 .f32) (x12 : Vec F S1x1x1x1024 .f32) (x13 : Vec F S1x1x48x128 .bf16) (x14 : Vec F S1x1x48x128 .bf16) (xt0 : TbBuf0 (F := F) c tbM0_0) (xt1 : TbBuf0 (F := F) c tbM0_1) (xt2 : TbBuf0 (F := F) c tbM0_2)
    (hw1 : ∀ j, k0_chk1 (xt1 j)) (hw2 : ∀ j, k0_chk2 (xt0 j)) (hw3 : ∀ j, k0_chk3 (xt2 j)) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare x10 ∗ owns (c : Thread nD τ) arg16 fullShare x11 ∗ owns (c : Thread nD τ) arg17 fullShare x12 ∗ owns (c : Thread nD τ) arg18 fullShare x13 ∗ owns (c : Thread nD τ) arg19 fullShare x14 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare x10 ∗ owns (c : Thread nD τ) arg16 fullShare x11 ∗ owns (c : Thread nD τ) arg17 fullShare x12 ∗ owns (c : Thread nD τ) arg18 fullShare x13 ∗ owns (c : Thread nD τ) arg19 fullShare x14 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0 ∗ tbPt0 c tbM0_1 xt1 ∗ tbPt0 c tbM0_2 xt2) -∗ K ⟨⟩))
          ⊢ wp frame (wpE (defs₀ (F := F)) Variants.none c none) E (cc0_cascade i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0_cascade_eq_skeleton]; unfold cc0_cascade_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%ds0, %fs0, -, HS0⟩, ⟨%ds1, %fs1, -, HS1⟩, ⟨%ds2, %fs2, -, HS2⟩, HT0, HT1, HT2, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9; obtain rfl := harg15.eq_unread hf10; obtain rfl := harg16.eq_unread hf11; obtain rfl := harg17.eq_unread hf12; obtain rfl := harg18.eq_unread hf13; obtain rfl := harg19.eq_unread hf14
    sl_exec (disch := first | exact hw1 _ | exact hw2 _ | exact hw3 _)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; · ipureintro; exact harg14.read_unread _
      iexact H9
    isplitl [H10]
    · iexists _; isplitr; · ipureintro; exact harg15.read_unread _
      iexact H10
    isplitl [H11]
    · iexists _; isplitr; · ipureintro; exact harg16.read_unread _
      iexact H11
    isplitl [H12]
    · iexists _; isplitr; · ipureintro; exact harg17.read_unread _
      iexact H12
    isplitl [H13]
    · iexists _; isplitr; · ipureintro; exact harg18.read_unread _
      iexact H13
    isplitl [H14]
    · iexists _; isplitr; · ipureintro; exact harg19.read_unread _
      iexact H14
    isplitl [H15]
    · iexists _, _; isplitr; swap; · iexact H15
      ipureintro; rfl
    isplitl [H16]
    · iexists _, _; isplitr; swap; · iexact H16
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    isplitl [HT1]; · iexact HT1
    iexact HT2

end Cert.Kernel.Pipe

end
-- ==== Proof.Kernel.Frame.lean ====
/- The launch of `Kernel` with what its results hold left unsaid: it runs to the end and leaves its arguments unchanged. -/
module

public import proofs.«01_k».proof.Proof.Kernel.Body
public import Idealize.ShloMosaic.Lib.Claim

@[expose] public section

-- membership in a rectangle of production extents (`View.cover_of_tiled`): the elaborator's structural look
-- recurses once per coordinate of the long axes
set_option maxRecDepth 16384

noncomputable section

namespace Cert.Kernel.Pipe

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (15, 16): nothing reads what the kernel leaves in them, so nothing
    of it is named (Lib/Pipeline/Dat.lean `Dat.toRForget`). -/
def forgets0 : Fin 17 → Bool := fun w => w.val == 15 || w.val == 16

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, h⟩ => Pipeline.Dat.unnamed (cfg := (cfgM m hO)) ⟨15, h⟩ t
    | ⟨16, h⟩ => Pipeline.Dat.unnamed (cfg := (cfgM m hO)) ⟨16, h⟩ t
    | ⟨_ + 17, h⟩ => absurd h (Nat.not_lt.2 (Nat.le_add_left _ _))
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d

/-- Every word of the three tables satisfies the conditions the body assumes of it. -/
def Hyps : Prop := (∀ j, k0_chk1 (tbl m 1 j)) ∧ (∀ j, k0_chk2 (tbl m 0 j)) ∧ (∀ j, k0_chk3 (tbl m 2 j))

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare d)
    ∗ (∃ d, owns (c : Thread nD τ) (ms0_16 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ (∃ d, owns (c : Thread nD τ) (ms0_15 m hO t) fullShare d)
    ∗ (∃ d, owns (c : Thread nD τ) (ms0_16 m hO t) fullShare d))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (hO : Ok m) (hH : Hyps m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14]
  rw [show (dats m hO 0 c).Φ t.castSucc = iprop(Pipeline.ΦA spec0 c ∗ Pipeline.ΦT pre0 (tbl m) c) from rfl, PhiT0_eq, PhiA0_eq]
  iintro ⟨⟨⟨⟨HS0, HS1, HS2⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((kernelRun0_A c (grid0.coords t) _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (tbl m 0) (tbl m 1) (tbl m 2) hH.1 hH.2.1 hH.2.2) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [HS0]; · iexact HS0
  isplitl [HS1]; · iexact HS1
  isplitl [HS2]; · iexact HS2
  isplitl [HT0]; · iexact HT0
  isplitl [HT1]; · iexact HT1
  isplitl [HT2]; · iexact HT2
  iintro ⟨H0, H1, H2, H3, H4, H5, H6, H7, H8, H9, H10, H11, H12, H13, H14, H15, H16, HS0, HS1, HS2, HT0, HT1, HT2⟩
  isplitl [HS0 HS1 HS2 Hg HT0 HT1 HT2]
  · isplitl [HS0 HS1 HS2 Hg]
    · isplitl [HS0 HS1 HS2]
      · isplitl [HS0]
        · iexact HS0
        isplitl [HS1]
        · iexact HS1
        iexact HS2
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m) (c : Dev nD) : BodyObligation (dats (F := F) m hO 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO hH c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 15, 16) (Lib/Pipeline/Frame.lean `RDat.FramePost` over the proof data with those windows
    forgotten, Dat.lean `Dat.toRForget`), and every other unscoped buffer at its region-entry contents. -/
theorem run_main (hO : Ok m) (hH : Hyps m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO hH)

/-- `frame` without the counters: the argument arrays end unchanged. -/
theorem unchanged (hO : Ok m) (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ hO (fun c => (dats m hO 0 c).toRForget forgets0) (A_eq m hO) (run_main m ρ hO hH)

/-- From tables within their ranges the launch runs to the end, the argument arrays end unchanged and every semaphore counter ends at zero. -/
theorem frame (hO : Ok m) (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ hO hH) ((θ_run defs _ _).mono (fun _ h => h.2) (run_main_quiescent m ρ hO hH))

end Cert.Kernel.Pipe

end
-- ==== Proof.Kernel.Words.lean ====
/- The words of the tables of `Kernel`: from the ranges the precondition states, the conditions the body assumes, the loops' trip counts and the rows each trip reads. -/
module

public import proofs.«01_k».proof.Proof.Floor
public import proofs.«01_k».proof.Proof.Kernel.Frame

@[expose] public section

namespace Cert.Kernel.Words

open Idealize.ShloMosaic Cert.Kernel Cert.Kernel.Gen Cert.Words

theorem t2_ub (v : BitVec 32) : (k0_t2_loop v).ub = fdiv (Scalar.subi (Scalar.addi v 128#32) 1#32) 128#32 := by
  show Scalar.addi 0#32 (Scalar.muli (Scalar.divsi (Scalar.subi (Scalar.divsi (Scalar.addi (Scalar.subi (fdiv _ 128#32) 0#32) (Scalar.subi 1#32 1#32)) 1#32) 0#32) 1#32) 1#32) = _
  simp only [Scalar.divsi, Idealize.ShloMosaic.WordArith.divsi_one, Scalar.addi, Scalar.muli, Scalar.subi, IntOp.addi, IntOp.muli, IntOp.subi]
  simp

theorem t3_lb (v : BitVec 32) : (k0_t3_loop v).lb = (k0_t3_loop v).ub := by
  show Scalar.addi 0#32 (Scalar.muli (Scalar.divsi (Scalar.subi (Scalar.divsi (Scalar.addi (Scalar.subi (fdiv _ 128#32) 0#32) (Scalar.subi 1#32 1#32)) 1#32) 0#32) 1#32) 1#32)
    = Scalar.addi 0#32 (Scalar.subi (Scalar.divsi (Scalar.addi (Scalar.subi (fdiv _ 128#32) 0#32) (Scalar.subi 1#32 1#32)) 1#32) 0#32)
  simp only [Scalar.divsi, Idealize.ShloMosaic.WordArith.divsi_one, Scalar.addi, Scalar.muli, Scalar.subi, IntOp.addi, IntOp.muli, IntOp.subi]
  simp

theorem t4_ub (v : BitVec 32) : (k0_t4_loop v).ub = fdiv (Scalar.subi (Scalar.addi v 256#32) 1#32) 256#32 := by
  show Scalar.addi 0#32 (Scalar.muli (Scalar.divsi (Scalar.subi (Scalar.divsi (Scalar.addi (Scalar.subi (fdiv _ 256#32) 0#32) (Scalar.subi 1#32 1#32)) 1#32) 0#32) 1#32) 1#32) = _
  simp only [Scalar.divsi, Idealize.ShloMosaic.WordArith.divsi_one, Scalar.addi, Scalar.muli, Scalar.subi, IntOp.addi, IntOp.muli, IntOp.subi]
  simp

theorem t5_lb (v : BitVec 32) : (k0_t5_loop v).lb = (k0_t5_loop v).ub := by
  show Scalar.addi 0#32 (Scalar.muli (Scalar.divsi (Scalar.subi (Scalar.divsi (Scalar.addi (Scalar.subi (fdiv _ 256#32) 0#32) (Scalar.subi 1#32 1#32)) 1#32) 0#32) 1#32) 1#32)
    = Scalar.addi 0#32 (Scalar.subi (Scalar.divsi (Scalar.addi (Scalar.subi (fdiv _ 256#32) 0#32) (Scalar.subi 1#32 1#32)) 1#32) 0#32)
  simp only [Scalar.divsi, Idealize.ShloMosaic.WordArith.divsi_one, Scalar.addi, Scalar.muli, Scalar.subi, IntOp.addi, IntOp.muli, IntOp.subi]
  simp

/-- The mid loop runs one trip per 128 tokens, the last one partly filled. -/
theorem t2_trips (v : BitVec 32) (hv : v.toInt ≤ 640) : (k0_t2_loop v).trips = ((v.toInt + 127) / 128).toNat := by
  show Scf.trips 0#32 (k0_t2_loop v).ub 1#32 = _
  rw [trips_zero_one, t2_ub, toInt_fdiv _ _ (by decide), toInt_add_sub_one v _ (by decide) (by rw [show (128#32 : BitVec 32).toInt = 128 by decide]; omega)]
  rw [show (128#32 : BitVec 32).toInt = 128 by decide]
  congr 2; omega

/-- The mid loop's remainder loop runs no trip. -/
theorem t3_trips (v : BitVec 32) : (k0_t3_loop v).trips = 0 := by
  show Scf.trips (k0_t3_loop v).lb (k0_t3_loop v).ub 1#32 = _
  rw [t3_lb, trips_self]

/-- The tail loop runs one trip per 256 tokens, the last one partly filled. -/
theorem t4_trips (v : BitVec 32) (hv : v.toInt ≤ 1024) : (k0_t4_loop v).trips = ((v.toInt + 255) / 256).toNat := by
  show Scf.trips 0#32 (k0_t4_loop v).ub 1#32 = _
  rw [trips_zero_one, t4_ub, toInt_fdiv _ _ (by decide), toInt_add_sub_one v _ (by decide) (by rw [show (256#32 : BitVec 32).toInt = 256 by decide]; omega)]
  rw [show (256#32 : BitVec 32).toInt = 256 by decide]
  congr 2; omega

/-- The tail loop's remainder loop runs no trip. -/
theorem t5_trips (v : BitVec 32) : (k0_t5_loop v).trips = 0 := by
  show Scf.trips (k0_t5_loop v).lb (k0_t5_loop v).ub 1#32 = _
  rw [t5_lb, trips_self]

theorem t2_le (v : BitVec 32) (hv : v.toInt ≤ 640) : (k0_t2_loop v).trips ≤ 5 := by rw [t2_trips v hv]; omega
theorem t4_le (v : BitVec 32) (hv : v.toInt ≤ 1024) : (k0_t4_loop v).trips ≤ 4 := by rw [t4_trips v hv]; omega

theorem iv_word (n : ℕ) (k : ℕ) : Scf.iv 0#32 1#32 k = BitVec.ofNat 32 k := by unfold Scf.iv; simp

theorem mul_word (k c : ℕ) (h : k * c < 2 ^ 32) :
    (Scalar.muli (Scalar.addi 0#32 (Scalar.muli (Scf.iv 0#32 1#32 k) 1#32)) (BitVec.ofNat 32 c)).toNat = k * c := by
  rw [iv_word k]
  show ((0#32 + BitVec.ofNat 32 k * 1#32) * BitVec.ofNat 32 c).toNat = _
  simp only [BitVec.mul_one, BitVec.zero_add, BitVec.toNat_mul, BitVec.toNat_ofNat]
  rw [← Nat.mul_mod, Nat.mod_eq_of_lt h]

theorem mult2_eq (v : BitVec 32) (hv : v.toInt ≤ 640) (k : Fin (k0_t2_loop v).trips) : (k0_mult2 v k).toNat = k.val * 128 :=
  mul_word k.val 128 (by have := t2_le v hv; have := k.isLt; omega)
theorem mult4_eq (v : BitVec 32) (hv : v.toInt ≤ 1024) (k : Fin (k0_t4_loop v).trips) : (k0_mult4 v k).toNat = k.val * 256 :=
  mul_word k.val 256 (by have := t4_le v hv; have := k.isLt; omega)
theorem off5_eq (v : BitVec 32) (hv : v.toInt ≤ 640) (k : Fin (k0_t2_loop v).trips) : k0_off5 v k = ![0, 0, k.val * 128, 0] := by
  rw [← mult2_eq v hv k]; rfl
theorem off6_eq (v : BitVec 32) (hv : v.toInt ≤ 640) (k : Fin (k0_t2_loop v).trips) : k0_off6 v k = ![0, 0, 0, k.val * 128] := by
  rw [← mult2_eq v hv k]; rfl
theorem off10_eq (v : BitVec 32) (hv : v.toInt ≤ 1024) (k : Fin (k0_t4_loop v).trips) : k0_off10 v k = ![0, 0, k.val * 256, 0] := by
  rw [← mult4_eq v hv k]; rfl
theorem off11_eq (v : BitVec 32) (hv : v.toInt ≤ 1024) (k : Fin (k0_t4_loop v).trips) : k0_off11 v k = ![0, 0, 0, k.val * 256] := by
  rw [← mult4_eq v hv k]; rfl

/-- A group word below 7 names a row of the table of lengths. -/
theorem chk1_of (v : BitVec 32) (h : v.toNat < 7) : k0_chk1 v := by
  intro a
  have h0 : k0_off4 v a = v.toNat := by fin_cases a; rfl
  rw [h0]; fin_cases a; show v.toNat + 1 ≤ 7; omega

/-- A mid length at most 640 satisfies what the body assumes of it. -/
theorem chk2_of (v : BitVec 32) (h : v.toInt ≤ 640) : k0_chk2 v := by
  have h3 : IsEmpty (Fin (k0_t3_loop v).trips) := by rw [t3_trips]; infer_instance
  refine ⟨ok_zero_one _, ?_, ?_, ?_, ?_, fun k => h3.elim k, fun k => h3.elim k, fun k => h3.elim k⟩
  · intro k; rw [mult2_eq v h k]; exact Dvd.intro_left _ rfl
  · intro k a
    have := t2_le v h; have := k.isLt
    rw [off5_eq v h k]; fin_cases a
    · show 0 + 1 ≤ 1; omega
    · show 0 + 1 ≤ 1; omega
    · show k.val * 128 + 128 ≤ 640; omega
    · show 0 + 128 ≤ 128; omega
  · intro k a
    have := t2_le v h; have := k.isLt
    rw [off6_eq v h k]; fin_cases a
    · show 0 + 1 ≤ 1; omega
    · show 0 + 1 ≤ 1; omega
    · show 0 + 1 ≤ 1; omega
    · show k.val * 128 + 128 ≤ 640; omega
  · show Scf.OK (k0_t3_loop v).lb (k0_t3_loop v).ub 1#32
    rw [t3_lb]; exact ok_self _

/-- A tail length at most 1024 satisfies what the body assumes of it. -/
theorem chk3_of (v : BitVec 32) (h : v.toInt ≤ 1024) : k0_chk3 v := by
  have h5 : IsEmpty (Fin (k0_t5_loop v).trips) := by rw [t5_trips]; infer_instance
  refine ⟨ok_zero_one _, ?_, ?_, ?_, ?_, fun k => h5.elim k, fun k => h5.elim k, fun k => h5.elim k⟩
  · intro k; rw [mult4_eq v h k]; exact Dvd.intro_left _ rfl
  · intro k a
    have := t4_le v h; have := k.isLt
    rw [off10_eq v h k]; fin_cases a
    · show 0 + 1 ≤ 1; omega
    · show 0 + 1 ≤ 1; omega
    · show k.val * 256 + 256 ≤ 1024; omega
    · show 0 + 128 ≤ 128; omega
  · intro k a
    have := t4_le v h; have := k.isLt
    rw [off11_eq v h k]; fin_cases a
    · show 0 + 1 ≤ 1; omega
    · show 0 + 1 ≤ 1; omega
    · show 0 + 1 ≤ 1; omega
    · show k.val * 256 + 256 ≤ 1024; omega
  · show Scf.OK (k0_t5_loop v).lb (k0_t5_loop v).ub 1#32
    rw [t5_lb]; exact ok_self _

end Cert.Kernel.Words
-- ==== Proof.Kernel.Pre.lean ====
/- What the precondition says of the tables of `Kernel`: the group words below 7, the lengths at most 640 and 1024; so the blocks the tables select lie inside their arrays and the body's conditions hold. -/
module

public import proofs.«01_k».proof.Defs
public import proofs.«01_k».proof.Proof.Gen.Pre_in_range
public import proofs.«01_k».proof.Proof.Kernel.Words

@[expose] public section

namespace Cert.Kernel.Pre

open Idealize.ShloMosaic Idealize.ShloMosaic.TcCoe Idealize.SL Idealize.SL.Sem Cert.Kernel Cert.Kernel.Gen Cert.Kernel.Pipe

variable (m : (ℓ : Loc nD τ sig) → Buf (Elt Bits) ℓ)

/-- The table of mid lengths, the groups and the tail lengths, as the arguments hold them. -/
theorem tbl0 : tbl m 0 = m (((0 : Dev nD).tc : Thread nD τ).loc main_arg9) := V_main_arg9 m 0
theorem tbl1 : tbl m 1 = m (((0 : Dev nD).tc : Thread nD τ).loc main_arg10) := V_main_arg10 m 0
theorem tbl2 : tbl m 2 = m (((0 : Dev nD).tc : Thread nD τ).loc main_arg15) := V_main_arg15 m 0

theorem ofBool_eq_one (p : Bool) : (BitVec.ofBool p = 1#1) ↔ p = true := by cases p <;> decide
theorem andi_ofBool (p q : Bool) : IntOp.andi (BitVec.ofBool p) (BitVec.ofBool q) = BitVec.ofBool (p && q) := by
  cases p <;> cases q <;> decide

/-- The mid lengths are at most 640. -/
theorem mid_le (h : Cert.Pre_Kernel m) (j) : (tbl m 0 j : BitVec 32).toInt ≤ 640 := by
  have e := congrFun (h 0).1 j
  rw [tbl0]
  simp only [Pre_in_range.fn, cmpi, broadcastInDim, constantI, IntOp.cmpi, ofBool_eq_one, BitVec.sle_eq_decide, decide_eq_true_eq] at e
  exact e.trans (by decide)

/-- The groups are below 7. -/
theorem group_lt (h : Cert.Pre_Kernel m) (j) : (tbl m 1 j : BitVec 32).toNat < 7 := by
  have e := congrFun (h 0).2.1 j
  rw [tbl1]
  simp only [Pre_in_range.fn, andi, cmpi, broadcastInDim, constantI, IntOp.cmpi, andi_ofBool, ofBool_eq_one, Bool.and_eq_true] at e
  exact WordArith.toNat_lt_of_zero_sle_of_slt_ofNat _ 7 (by decide) e.1 e.2

/-- The tail lengths are at most 1024. -/
theorem tail_le (h : Cert.Pre_Kernel m) (j) : (tbl m 2 j : BitVec 32).toInt ≤ 1024 := by
  have e := congrFun (h 0).2.2 j
  rw [tbl2]
  simp only [Pre_in_range.fn, cmpi, broadcastInDim, constantI, IntOp.cmpi, ofBool_eq_one, BitVec.sle_eq_decide, decide_eq_true_eq] at e
  exact e.trans (by decide)

/-- Every word of the tables satisfies what the body assumes of it. -/
theorem hyps (h : Cert.Pre_Kernel m) : Hyps m :=
  ⟨fun j => Words.chk1_of _ (group_lt m h j), fun j => Words.chk2_of _ (mid_le m h j), fun j => Words.chk3_of _ (tail_le m h j)⟩

/-- The head coordinate of a grid point, as a word, is the coordinate. -/
theorem head_word (i : grid0.Coords) : (BitVec.ofNat 32 (i 0).val).toNat < 8 := by
  have : (i 0).val < 8 := (i 0).isLt
  rw [BitVec.toNat_ofNat]; omega

/-- A block of one row at `n` lies inside an axis of more than `n` rows. -/
theorem row (n N : ℕ) (h : n < N) : (n + 1) * 1 ≤ N := by omega

/-- The blocks the group words select lie inside the mid arrays. -/
theorem ok (h : Cert.Pre_Kernel m) : Ok m := by
  have hg : ∀ i : grid0.Coords, ((tbl m).at 1 (Rect.unit (s := S64) ![(Scalar.indexCast (BitVec.ofNat 32 (i 1).val)).toNat] S1.size (Facts₀.k0_off1_inb i)) Facts₀.numel1_S1 : BitVec 32).toNat < 7 :=
    fun i => group_lt m h _
  refine ⟨fun i => ⟨?_, .inr (Affine.block_words_dvd (of_decide_eq_true rfl) (by decide))⟩, fun i => ⟨?_, .inr (Affine.block_words_dvd (of_decide_eq_true rfl) (by decide))⟩,
    fun i => ⟨?_, .inl rfl⟩, fun i => ⟨?_, .inl rfl⟩⟩
  · have h1 := hg i
    have h2 := head_word i
    intro a; fin_cases a
    · exact row _ _ h1
    · exact row _ _ h2
    · exact (show (0 + 1) * 640 ≤ 640 by omega)
    · exact (show (0 + 1) * 128 ≤ 128 by omega)
  · have h1 := hg i
    have h2 := head_word i
    intro a; fin_cases a
    · exact row _ _ h1
    · exact row _ _ h2
    · exact (show (0 + 1) * 640 ≤ 640 by omega)
    · exact (show (0 + 1) * 128 ≤ 128 by omega)
  · have h1 := hg i
    have h2 := head_word i
    intro a; fin_cases a
    · exact row _ _ h1
    · exact row _ _ h2
    · exact (show (0 + 1) * 1 ≤ 1 by omega)
    · exact (show (0 + 1) * 640 ≤ 640 by omega)
  · have h1 := hg i
    have h2 := head_word i
    intro a; fin_cases a
    · exact row _ _ h1
    · exact row _ _ h2
    · exact (show (0 + 1) * 1 ≤ 1 by omega)
    · exact (show (0 + 1) * 640 ≤ 640 by omega)

end Cert.Kernel.Pre
-- ==== Proof.KernelIdeal.Points.lean ====
/- The launch of `KernelIdeal` point by point: which staging buffers each grid point uses, what it fetches and what it flushes. -/
module

public import proofs.«01_k».proof.Proof.Gen.KernelIdeal
public import Idealize.ShloMosaic.Lib.Pipeline.Kit

@[expose] public section

noncomputable section

namespace Cert.KernelIdeal.Pipe

open Cert.KernelIdeal.Gen

open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 3 (%2)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
/-- Window 1 (operand 4 (%5)) is fetched at the points ≡ 0 (mod 64), at any contents of the tables (its index map reads none). -/
theorem fetch0_1 (a : (pcfg0 (F := F)).Adm) : ∀ t : Fin (cfg0 a).N, ((cfg0 a).win 1).fetch t = true ↔ t.val % 64 = 0 :=
  (fun t => Pipeline.Window.fetchOf_reads cc0_transform_1 reads0_1 hreads0_1 0 (by decide) (by decide) (Pipeline.Window.sep_of_coord cc0_transform_1 0 0 (fun _ => rfl) (by decide)) (P := 64) (by decide) t : ∀ t : Fin grid0.N, Pipeline.Window.fetchOf grid0 false cc0_transform_1 t = true ↔ t.val % 64 = 0)
/-- Window 2 (operand 5 (%7)) is fetched at the points ≡ 0 (mod 64), at any contents of the tables (its index map reads none). -/
theorem fetch0_2 (a : (pcfg0 (F := F)).Adm) : ∀ t : Fin (cfg0 a).N, ((cfg0 a).win 2).fetch t = true ↔ t.val % 64 = 0 :=
  (fun t => Pipeline.Window.fetchOf_reads cc0_transform_2 reads0_2 hreads0_2 0 (by decide) (by decide) (Pipeline.Window.sep_of_coord cc0_transform_2 0 0 (fun _ => rfl) (by decide)) (P := 64) (by decide) t : ∀ t : Fin grid0.N, Pipeline.Window.fetchOf grid0 false cc0_transform_2 t = true ↔ t.val % 64 = 0)
/-- Window 3 (operand 6 (%10)) is fetched at the points ≡ 0 (mod 64), at any contents of the tables (its index map reads none). -/
theorem fetch0_3 (a : (pcfg0 (F := F)).Adm) : ∀ t : Fin (cfg0 a).N, ((cfg0 a).win 3).fetch t = true ↔ t.val % 64 = 0 :=
  (fun t => Pipeline.Window.fetchOf_reads cc0_transform_3 reads0_3 hreads0_3 0 (by decide) (by decide) (Pipeline.Window.sep_of_coord cc0_transform_3 0 0 (fun _ => rfl) (by decide)) (P := 64) (by decide) t : ∀ t : Fin grid0.N, Pipeline.Window.fetchOf grid0 false cc0_transform_3 t = true ↔ t.val % 64 = 0)
/-- Window 4 (operand 7 (%13)) is fetched at the points ≡ 0 (mod 64), at any contents of the tables (its index map reads none). -/
theorem fetch0_4 (a : (pcfg0 (F := F)).Adm) : ∀ t : Fin (cfg0 a).N, ((cfg0 a).win 4).fetch t = true ↔ t.val % 64 = 0 :=
  (fun t => Pipeline.Window.fetchOf_reads cc0_transform_4 reads0_4 hreads0_4 0 (by decide) (by decide) (Pipeline.Window.sep_of_coord cc0_transform_4 0 0 (fun _ => rfl) (by decide)) (P := 64) (by decide) t : ∀ t : Fin grid0.N, Pipeline.Window.fetchOf grid0 false cc0_transform_4 t = true ↔ t.val % 64 = 0)
-- window 5: no schedule fact — its index map reads a prefetched table, so where it is fetched or written back depends on the tables' contents
-- window 6: no schedule fact — its index map reads a prefetched table, so where it is fetched or written back depends on the tables' contents
-- window 7: no schedule fact — its index map reads a prefetched table, so where it is fetched or written back depends on the tables' contents
-- window 8: no schedule fact — its index map reads a prefetched table, so where it is fetched or written back depends on the tables' contents
/-- Window 9 (operand 12 (%20)) is fetched at every point, at any contents of the tables (its index map reads none). -/
theorem fetch0_9 (a : (pcfg0 (F := F)).Adm) : ∀ t : Fin (cfg0 a).N, ((cfg0 a).win 9).fetch t = true :=
  (fun t => (Pipeline.Window.fetchOf_reads cc0_transform_9 reads0_9 hreads0_9 1 (by decide) (by decide) (Pipeline.Window.sep_of_coord cc0_transform_9 1 0 (fun _ => rfl) (by decide)) (P := 1) (by decide) t).mpr (Nat.mod_one _) : ∀ t : Fin grid0.N, Pipeline.Window.fetchOf grid0 false cc0_transform_9 t = true)
/-- Window 10 (operand 13 (%21)) is fetched at every point, at any contents of the tables (its index map reads none). -/
theorem fetch0_10 (a : (pcfg0 (F := F)).Adm) : ∀ t : Fin (cfg0 a).N, ((cfg0 a).win 10).fetch t = true :=
  (fun t => (Pipeline.Window.fetchOf_reads cc0_transform_10 reads0_10 hreads0_10 1 (by decide) (by decide) (Pipeline.Window.sep_of_coord cc0_transform_10 1 0 (fun _ => rfl) (by decide)) (P := 1) (by decide) t).mpr (Nat.mod_one _) : ∀ t : Fin grid0.N, Pipeline.Window.fetchOf grid0 false cc0_transform_10 t = true)
/-- Window 11 (operand 14 (%23)) is fetched at every point, at any contents of the tables (its index map reads none). -/
theorem fetch0_11 (a : (pcfg0 (F := F)).Adm) : ∀ t : Fin (cfg0 a).N, ((cfg0 a).win 11).fetch t = true :=
  (fun t => (Pipeline.Window.fetchOf_reads cc0_transform_11 reads0_11 hreads0_11 1 (by decide) (by decide) (Pipeline.Window.sep_of_coord cc0_transform_11 1 0 (fun _ => rfl) (by decide)) (P := 1) (by decide) t).mpr (Nat.mod_one _) : ∀ t : Fin grid0.N, Pipeline.Window.fetchOf grid0 false cc0_transform_11 t = true)
/-- Window 12 (operand 15 (%25)) is fetched at every point, at any contents of the tables (its index map reads none). -/
theorem fetch0_12 (a : (pcfg0 (F := F)).Adm) : ∀ t : Fin (cfg0 a).N, ((cfg0 a).win 12).fetch t = true :=
  (fun t => (Pipeline.Window.fetchOf_reads cc0_transform_12 reads0_12 hreads0_12 1 (by decide) (by decide) (Pipeline.Window.sep_of_coord cc0_transform_12 1 0 (fun _ => rfl) (by decide)) (P := 1) (by decide) t).mpr (Nat.mod_one _) : ∀ t : Fin grid0.N, Pipeline.Window.fetchOf grid0 false cc0_transform_12 t = true)
/-- Window 13 (operand 16 (%26)) is fetched at every point, at any contents of the tables (its index map reads none). -/
theorem fetch0_13 (a : (pcfg0 (F := F)).Adm) : ∀ t : Fin (cfg0 a).N, ((cfg0 a).win 13).fetch t = true :=
  (fun t => (Pipeline.Window.fetchOf_reads cc0_transform_13 reads0_13 hreads0_13 1 (by decide) (by decide) (Pipeline.Window.sep_of_coord cc0_transform_13 1 0 (fun _ => rfl) (by decide)) (P := 1) (by decide) t).mpr (Nat.mod_one _) : ∀ t : Fin grid0.N, Pipeline.Window.fetchOf grid0 false cc0_transform_13 t = true)
/-- Window 14 (operand 17 (%27)) is fetched at every point, at any contents of the tables (its index map reads none). -/
theorem fetch0_14 (a : (pcfg0 (F := F)).Adm) : ∀ t : Fin (cfg0 a).N, ((cfg0 a).win 14).fetch t = true :=
  (fun t => (Pipeline.Window.fetchOf_reads cc0_transform_14 reads0_14 hreads0_14 1 (by decide) (by decide) (Pipeline.Window.sep_of_coord cc0_transform_14 1 0 (fun _ => rfl) (by decide)) (P := 1) (by decide) t).mpr (Nat.mod_one _) : ∀ t : Fin grid0.N, Pipeline.Window.fetchOf grid0 false cc0_transform_14 t = true)
/-- Window 15 (result 0 (%28#0)) is written back at every point, at any contents of the tables (its index map reads none). -/
theorem flush0_15 (a : (pcfg0 (F := F)).Adm) : ∀ t : Fin (cfg0 a).N, ((cfg0 a).win 15).flush t = true :=
  (fun t => (Pipeline.Window.flushOf_reads cc0_transform_15 reads0_15 hreads0_15 1 (by decide) (by decide) (Pipeline.Window.sep_of_coord cc0_transform_15 1 0 (fun _ => rfl) (by decide)) (P := 1) (m := 0) (by decide) rfl t).mpr (Nat.mod_one _) : ∀ t : Fin grid0.N, Pipeline.Window.flushOf grid0 true cc0_transform_15 t = true)
/-- Window 16 (result 1 (%28#1)) is written back at every point, at any contents of the tables (its index map reads none). -/
theorem flush0_16 (a : (pcfg0 (F := F)).Adm) : ∀ t : Fin (cfg0 a).N, ((cfg0 a).win 16).flush t = true :=
  (fun t => (Pipeline.Window.flushOf_reads cc0_transform_16 reads0_16 hreads0_16 1 (by decide) (by decide) (Pipeline.Window.sep_of_coord cc0_transform_16 1 0 (fun _ => rfl) (by decide)) (P := 1) (m := 0) (by decide) rfl t).mpr (Nat.mod_one _) : ∀ t : Fin grid0.N, Pipeline.Window.flushOf grid0 true cc0_transform_16 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)
abbrev st0_14 (a : (pcfg0 (F := F)).Adm) (t : Fin (cfg0 a).N) := ((cfg0 a).win 14).stage ((cfg0 a).slots t 14)
abbrev st0_15 (a : (pcfg0 (F := F)).Adm) (t : Fin (cfg0 a).N) := ((cfg0 a).win 15).stage ((cfg0 a).slots t 15)
abbrev st0_16 (a : (pcfg0 (F := F)).Adm) (t : Fin (cfg0 a).N) := ((cfg0 a).win 16).stage ((cfg0 a).slots t 16)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_cascade (grid0.coords t) (Memref.whole main_arg9) (Memref.isWhole_whole _) (Memref.whole main_arg10) (Memref.isWhole_whole _) (Memref.whole main_arg15) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (Memref.whole cc0_scratch0) (Memref.isWhole_whole _) (Memref.whole cc0_scratch1) (Memref.isWhole_whole _) (Memref.whole cc0_scratch2) (Memref.isWhole_whole _)

end Cert.KernelIdeal.Pipe

end
-- ==== Proof.KernelIdeal.Runs.lean ====
/- What every run of `KernelIdeal` shares: the buffers when the launch is entered, the tables, the windows' blocks, the scratch. -/
module

public import proofs.«01_k».proof.Proof.Gen.KernelIdeal.Launch
public import proofs.«01_k».proof.Proof.Gen.KernelIdeal.Skeleton
public import proofs.«01_k».proof.Proof.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Pipe

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S7 .i32 := Memref.whole main_arg9
abbrev htbM0_0 : tbM0_0.IsWhole := Memref.isWhole_whole _
abbrev tbM0_1 : Memref sig .tc .smem S64 .i32 := Memref.whole main_arg10
abbrev htbM0_1 : tbM0_1.IsWhole := Memref.isWhole_whole _
abbrev tbM0_2 : Memref sig .tc .smem S64 .i32 := Memref.whole main_arg15
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of (hO : Ok m) {c : Dev nD} (dat : Dat τ (Elt F) Unit ℕ (UR sig nD τ) ℕ (cfgM m hO) c) (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of (hO : Ok m) {c : Dev nD} (dat : Dat τ (Elt F) Unit ℕ (UR sig nD τ) ℕ (cfgM m hO) c) (hA : dat.A 12 = V m c (Pipeline.arrRef spec0 12))
    (hafter : ∀ t, dat.after 12 t = iblk m hO c 12 t) (t : Fin (cfgM m hO).N) (d) : dat.before 12 t d = iblk m hO c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of (hO : Ok m) {c : Dev nD} (dat : Dat τ (Elt F) Unit ℕ (UR sig nD τ) ℕ (cfgM m hO) c) (hA : dat.A 13 = V m c (Pipeline.arrRef spec0 13))
    (hafter : ∀ t, dat.after 13 t = iblk m hO c 13 t) (t : Fin (cfgM m hO).N) (d) : dat.before 13 t d = iblk m hO c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of (hO : Ok m) {c : Dev nD} (dat : Dat τ (Elt F) Unit ℕ (UR sig nD τ) ℕ (cfgM m hO) c) (hA : dat.A 14 = V m c (Pipeline.arrRef spec0 14))
    (hafter : ∀ t, dat.after 14 t = iblk m hO c 14 t) (t : Fin (cfgM m hO).N) (d) : dat.before 14 t d = iblk m hO c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1080000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).2 main_arg10 (by decide : main_arg10 ∈ Pipeline.restRefs sig spec0)).trans (V_main_arg10 m c),
      ((h c).2 main_arg11 (by decide : main_arg11 ∈ Pipeline.restRefs sig spec0)).trans (V_main_arg11 m c),
      ((h c).2 main_arg12 (by decide : main_arg12 ∈ Pipeline.restRefs sig spec0)).trans (V_main_arg12 m c),
      ((h c).2 main_arg13 (by decide : main_arg13 ∈ Pipeline.restRefs sig spec0)).trans (V_main_arg13 m c),
      ((h c).2 main_arg14 (by decide : main_arg14 ∈ Pipeline.restRefs sig spec0)).trans (V_main_arg14 m c),
      ((h c).2 main_arg15 (by decide : main_arg15 ∈ Pipeline.restRefs sig spec0)).trans (V_main_arg15 m c),
      ((h c).2 main_arg16 (by decide : main_arg16 ∈ Pipeline.restRefs sig spec0)).trans (V_main_arg16 m c),
      ((h c).2 main_arg17 (by decide : main_arg17 ∈ Pipeline.restRefs sig spec0)).trans (V_main_arg17 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x1x240x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1920x128 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1920x128 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1920 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1920 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x640x128 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x640x128 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x1x640 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x1x1x640 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x1x1024x128 .fp8e4m3 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x1x1024x128 .fp8e4m3 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x1x1x1024 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x1x1x1024 .f32 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x1x48x128 .bf16 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S1x1x48x128 .bf16 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S1x1x240x128 .bf16 := spec0_15.stage ((cfgM m hO).slots t 15)
abbrev hs0_15 (hO : Ok m) (t : Fin (cfgM m hO).N) : (ms0_15 m hO t).IsWhole := hstage0_15 (((cfgM m hO).slots t 15).cast nbuf0_15)
abbrev ms0_16 (hO : Ok m) (t : Fin (cfgM m hO).N) : Memref sig .tc .vmem S1x1x240x8 .f32 := spec0_16.stage ((cfgM m hO).slots t 16)
abbrev hs0_16 (hO : Ok m) (t : Fin (cfgM m hO).N) : (ms0_16 m hO t).IsWhole := hstage0_16 (((cfgM m hO).slots t 16).cast nbuf0_16)
/-- The scratch operands: whole scoped buffers of the kernel's own, passed beside the windows. -/
abbrev scM0_0 : Memref sig .tc .vmem S240x128 .f32 := Memref.whole cc0_scratch0
abbrev scM0_1 : Memref sig .tc .vmem S240x128 .f32 := Memref.whole cc0_scratch1
abbrev scM0_2 : Memref sig .tc .vmem S240x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Pipe

end
-- ==== Proof.KernelIdeal.Body.lean ====
/- One run of `KernelIdeal`'s body on whole staging buffers, from table words that satisfy the conditions the body assumes. -/
module

public import proofs.«01_k».proof.Proof.KernelIdeal.Runs
public import proofs.«01_k».proof.Proof.Gen.KernelIdeal.Loops

@[expose] public section

-- membership in a rectangle of production extents (`View.cover_of_tiled`): the elaborator's structural look
-- recurses once per coordinate of the long axes
set_option maxRecDepth 16384

noncomputable section

namespace Cert.KernelIdeal.Pipe

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (15, 16) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg5 : Memref sig .tc .vmem S1x1x240x128 .bf16) (harg5 : arg5.IsWhole) (arg6 : Memref sig .tc .vmem S1x1920x128 .fp8e4m3) (harg6 : arg6.IsWhole) (arg7 : Memref sig .tc .vmem S1x1920x128 .fp8e4m3) (harg7 : arg7.IsWhole) (arg8 : Memref sig .tc .vmem S1x1x1920 .f32) (harg8 : arg8.IsWhole) (arg9 : Memref sig .tc .vmem S1x1x1920 .f32) (harg9 : arg9.IsWhole) (arg10 : Memref sig .tc .vmem S1x1x640x128 .fp8e4m3) (harg10 : arg10.IsWhole) (arg11 : Memref sig .tc .vmem S1x1x640x128 .fp8e4m3) (harg11 : arg11.IsWhole) (arg12 : Memref sig .tc .vmem S1x1x1x640 .f32) (harg12 : arg12.IsWhole) (arg13 : Memref sig .tc .vmem S1x1x1x640 .f32) (harg13 : arg13.IsWhole) (arg14 : Memref sig .tc .vmem S1x1x1024x128 .fp8e4m3) (harg14 : arg14.IsWhole) (arg15 : Memref sig .tc .vmem S1x1x1024x128 .fp8e4m3) (harg15 : arg15.IsWhole) (arg16 : Memref sig .tc .vmem S1x1x1x1024 .f32) (harg16 : arg16.IsWhole) (arg17 : Memref sig .tc .vmem S1x1x1x1024 .f32) (harg17 : arg17.IsWhole) (arg18 : Memref sig .tc .vmem S1x1x48x128 .bf16) (harg18 : arg18.IsWhole) (arg19 : Memref sig .tc .vmem S1x1x48x128 .bf16) (harg19 : arg19.IsWhole) (arg20 : Memref sig .tc .vmem S1x1x240x128 .bf16) (harg20 : arg20.IsWhole) (arg21 : Memref sig .tc .vmem S1x1x240x8 .f32) (harg21 : arg21.IsWhole) (arg22 : Memref sig .tc .vmem S240x128 .f32) (harg22 : arg22.IsWhole) (arg23 : Memref sig .tc .vmem S240x128 .f32) (harg23 : arg23.IsWhole) (arg24 : Memref sig .tc .vmem S240x128 .f32) (harg24 : arg24.IsWhole)
    (x0 : Vec F S1x1x240x128 .bf16) (x1 : Vec F S1x1920x128 .fp8e4m3) (x2 : Vec F S1x1920x128 .fp8e4m3) (x3 : Vec F S1x1x1920 .f32) (x4 : Vec F S1x1x1920 .f32) (x5 : Vec F S1x1x640x128 .fp8e4m3) (x6 : Vec F S1x1x640x128 .fp8e4m3) (x7 : Vec F S1x1x1x640 .f32) (x8 : Vec F S1x1x1x640 .f32) (x9 : Vec F S1x1x1024x128 .fp8e4m3) (x10 : Vec F S1x1x1024x128 .fp8e4m3) (x11 : Vec F S1x1x1x1024 .f32) (x12 : Vec F S1x1x1x1024 .f32) (x13 : Vec F S1x1x48x128 .bf16) (x14 : Vec F S1x1x48x128 .bf16) (xt0 : TbBuf0 (F := F) c tbM0_0) (xt1 : TbBuf0 (F := F) c tbM0_1) (xt2 : TbBuf0 (F := F) c tbM0_2)
    (hw1 : ∀ j, k0_chk1 (xt1 j)) (hw2 : ∀ j, k0_chk2 (xt0 j)) (hw3 : ∀ j, k0_chk3 (xt2 j)) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare x10 ∗ owns (c : Thread nD τ) arg16 fullShare x11 ∗ owns (c : Thread nD τ) arg17 fullShare x12 ∗ owns (c : Thread nD τ) arg18 fullShare x13 ∗ owns (c : Thread nD τ) arg19 fullShare x14 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare x10 ∗ owns (c : Thread nD τ) arg16 fullShare x11 ∗ owns (c : Thread nD τ) arg17 fullShare x12 ∗ owns (c : Thread nD τ) arg18 fullShare x13 ∗ owns (c : Thread nD τ) arg19 fullShare x14 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0 ∗ tbPt0 c tbM0_1 xt1 ∗ tbPt0 c tbM0_2 xt2) -∗ K ⟨⟩))
          ⊢ wp frame (wpE (defs₀ (F := F)) Variants.none c none) E (cc0_cascade i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0_cascade_eq_skeleton]; unfold cc0_cascade_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%ds0, %fs0, -, HS0⟩, ⟨%ds1, %fs1, -, HS1⟩, ⟨%ds2, %fs2, -, HS2⟩, HT0, HT1, HT2, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9; obtain rfl := harg15.eq_unread hf10; obtain rfl := harg16.eq_unread hf11; obtain rfl := harg17.eq_unread hf12; obtain rfl := harg18.eq_unread hf13; obtain rfl := harg19.eq_unread hf14
    sl_exec (disch := first | exact hw1 _ | exact hw2 _ | exact hw3 _)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; · ipureintro; exact harg14.read_unread _
      iexact H9
    isplitl [H10]
    · iexists _; isplitr; · ipureintro; exact harg15.read_unread _
      iexact H10
    isplitl [H11]
    · iexists _; isplitr; · ipureintro; exact harg16.read_unread _
      iexact H11
    isplitl [H12]
    · iexists _; isplitr; · ipureintro; exact harg17.read_unread _
      iexact H12
    isplitl [H13]
    · iexists _; isplitr; · ipureintro; exact harg18.read_unread _
      iexact H13
    isplitl [H14]
    · iexists _; isplitr; · ipureintro; exact harg19.read_unread _
      iexact H14
    isplitl [H15]
    · iexists _, _; isplitr; swap; · iexact H15
      ipureintro; rfl
    isplitl [H16]
    · iexists _, _; isplitr; swap; · iexact H16
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    isplitl [HT1]; · iexact HT1
    iexact HT2

end Cert.KernelIdeal.Pipe

end
-- ==== Proof.KernelIdeal.Frame.lean ====
/- The launch of `KernelIdeal` with what its results hold left unsaid: it runs to the end and leaves its arguments unchanged. -/
module

public import proofs.«01_k».proof.Proof.KernelIdeal.Body
public import Idealize.ShloMosaic.Lib.Claim

@[expose] public section

-- membership in a rectangle of production extents (`View.cover_of_tiled`): the elaborator's structural look
-- recurses once per coordinate of the long axes
set_option maxRecDepth 16384

noncomputable section

namespace Cert.KernelIdeal.Pipe

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (15, 16): nothing reads what the kernel leaves in them, so nothing
    of it is named (Lib/Pipeline/Dat.lean `Dat.toRForget`). -/
def forgets0 : Fin 17 → Bool := fun w => w.val == 15 || w.val == 16

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, h⟩ => Pipeline.Dat.unnamed (cfg := (cfgM m hO)) ⟨15, h⟩ t
    | ⟨16, h⟩ => Pipeline.Dat.unnamed (cfg := (cfgM m hO)) ⟨16, h⟩ t
    | ⟨_ + 17, h⟩ => absurd h (Nat.not_lt.2 (Nat.le_add_left _ _))
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d

/-- Every word of the three tables satisfies the conditions the body assumes of it. -/
def Hyps : Prop := (∀ j, k0_chk1 (tbl m 1 j)) ∧ (∀ j, k0_chk2 (tbl m 0 j)) ∧ (∀ j, k0_chk3 (tbl m 2 j))

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare d)
    ∗ (∃ d, owns (c : Thread nD τ) (ms0_16 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ (∃ d, owns (c : Thread nD τ) (ms0_15 m hO t) fullShare d)
    ∗ (∃ d, owns (c : Thread nD τ) (ms0_16 m hO t) fullShare d))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (hO : Ok m) (hH : Hyps m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14]
  rw [show (dats m hO 0 c).Φ t.castSucc = iprop(Pipeline.ΦA spec0 c ∗ Pipeline.ΦT pre0 (tbl m) c) from rfl, PhiT0_eq, PhiA0_eq]
  iintro ⟨⟨⟨⟨HS0, HS1, HS2⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((kernelRun0_A c (grid0.coords t) _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (tbl m 0) (tbl m 1) (tbl m 2) hH.1 hH.2.1 hH.2.2) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [HS0]; · iexact HS0
  isplitl [HS1]; · iexact HS1
  isplitl [HS2]; · iexact HS2
  isplitl [HT0]; · iexact HT0
  isplitl [HT1]; · iexact HT1
  isplitl [HT2]; · iexact HT2
  iintro ⟨H0, H1, H2, H3, H4, H5, H6, H7, H8, H9, H10, H11, H12, H13, H14, H15, H16, HS0, HS1, HS2, HT0, HT1, HT2⟩
  isplitl [HS0 HS1 HS2 Hg HT0 HT1 HT2]
  · isplitl [HS0 HS1 HS2 Hg]
    · isplitl [HS0 HS1 HS2]
      · isplitl [HS0]
        · iexact HS0
        isplitl [HS1]
        · iexact HS1
        iexact HS2
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m) (c : Dev nD) : BodyObligation (dats (F := F) m hO 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO hH c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 15, 16) (Lib/Pipeline/Frame.lean `RDat.FramePost` over the proof data with those windows
    forgotten, Dat.lean `Dat.toRForget`), and every other unscoped buffer at its region-entry contents. -/
theorem run_main (hO : Ok m) (hH : Hyps m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO hH)

/-- `frame` without the counters: the argument arrays end unchanged. -/
theorem unchanged (hO : Ok m) (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ hO (fun c => (dats m hO 0 c).toRForget forgets0) (A_eq m hO) (run_main m ρ hO hH)

/-- From tables within their ranges the launch runs to the end, the argument arrays end unchanged and every semaphore counter ends at zero. -/
theorem frame (hO : Ok m) (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ hO hH) ((θ_run defs _ _).mono (fun _ h => h.2) (run_main_quiescent m ρ hO hH))

end Cert.KernelIdeal.Pipe

end
-- ==== Proof.KernelIdeal.Words.lean ====
/- The words of the tables of `KernelIdeal`: from the ranges the precondition states, the conditions the body assumes, the loops' trip counts and the rows each trip reads. -/
module

public import proofs.«01_k».proof.Proof.Floor
public import proofs.«01_k».proof.Proof.KernelIdeal.Frame

@[expose] public section

namespace Cert.KernelIdeal.Words

open Idealize.ShloMosaic Cert.KernelIdeal Cert.KernelIdeal.Gen Cert.Words

theorem t2_ub (v : BitVec 32) : (k0_t2_loop v).ub = fdiv (Scalar.subi (Scalar.addi v 128#32) 1#32) 128#32 := by
  show Scalar.addi 0#32 (Scalar.muli (Scalar.divsi (Scalar.subi (Scalar.divsi (Scalar.addi (Scalar.subi (fdiv _ 128#32) 0#32) (Scalar.subi 1#32 1#32)) 1#32) 0#32) 1#32) 1#32) = _
  simp only [Scalar.divsi, Idealize.ShloMosaic.WordArith.divsi_one, Scalar.addi, Scalar.muli, Scalar.subi, IntOp.addi, IntOp.muli, IntOp.subi]
  simp

theorem t3_lb (v : BitVec 32) : (k0_t3_loop v).lb = (k0_t3_loop v).ub := by
  show Scalar.addi 0#32 (Scalar.muli (Scalar.divsi (Scalar.subi (Scalar.divsi (Scalar.addi (Scalar.subi (fdiv _ 128#32) 0#32) (Scalar.subi 1#32 1#32)) 1#32) 0#32) 1#32) 1#32)
    = Scalar.addi 0#32 (Scalar.subi (Scalar.divsi (Scalar.addi (Scalar.subi (fdiv _ 128#32) 0#32) (Scalar.subi 1#32 1#32)) 1#32) 0#32)
  simp only [Scalar.divsi, Idealize.ShloMosaic.WordArith.divsi_one, Scalar.addi, Scalar.muli, Scalar.subi, IntOp.addi, IntOp.muli, IntOp.subi]
  simp

theorem t4_ub (v : BitVec 32) : (k0_t4_loop v).ub = fdiv (Scalar.subi (Scalar.addi v 256#32) 1#32) 256#32 := by
  show Scalar.addi 0#32 (Scalar.muli (Scalar.divsi (Scalar.subi (Scalar.divsi (Scalar.addi (Scalar.subi (fdiv _ 256#32) 0#32) (Scalar.subi 1#32 1#32)) 1#32) 0#32) 1#32) 1#32) = _
  simp only [Scalar.divsi, Idealize.ShloMosaic.WordArith.divsi_one, Scalar.addi, Scalar.muli, Scalar.subi, IntOp.addi, IntOp.muli, IntOp.subi]
  simp

theorem t5_lb (v : BitVec 32) : (k0_t5_loop v).lb = (k0_t5_loop v).ub := by
  show Scalar.addi 0#32 (Scalar.muli (Scalar.divsi (Scalar.subi (Scalar.divsi (Scalar.addi (Scalar.subi (fdiv _ 256#32) 0#32) (Scalar.subi 1#32 1#32)) 1#32) 0#32) 1#32) 1#32)
    = Scalar.addi 0#32 (Scalar.subi (Scalar.divsi (Scalar.addi (Scalar.subi (fdiv _ 256#32) 0#32) (Scalar.subi 1#32 1#32)) 1#32) 0#32)
  simp only [Scalar.divsi, Idealize.ShloMosaic.WordArith.divsi_one, Scalar.addi, Scalar.muli, Scalar.subi, IntOp.addi, IntOp.muli, IntOp.subi]
  simp

/-- The mid loop runs one trip per 128 tokens, the last one partly filled. -/
theorem t2_trips (v : BitVec 32) (hv : v.toInt ≤ 640) : (k0_t2_loop v).trips = ((v.toInt + 127) / 128).toNat := by
  show Scf.trips 0#32 (k0_t2_loop v).ub 1#32 = _
  rw [trips_zero_one, t2_ub, toInt_fdiv _ _ (by decide), toInt_add_sub_one v _ (by decide) (by rw [show (128#32 : BitVec 32).toInt = 128 by decide]; omega)]
  rw [show (128#32 : BitVec 32).toInt = 128 by decide]
  congr 2; omega

/-- The mid loop's remainder loop runs no trip. -/
theorem t3_trips (v : BitVec 32) : (k0_t3_loop v).trips = 0 := by
  show Scf.trips (k0_t3_loop v).lb (k0_t3_loop v).ub 1#32 = _
  rw [t3_lb, trips_self]

/-- The tail loop runs one trip per 256 tokens, the last one partly filled. -/
theorem t4_trips (v : BitVec 32) (hv : v.toInt ≤ 1024) : (k0_t4_loop v).trips = ((v.toInt + 255) / 256).toNat := by
  show Scf.trips 0#32 (k0_t4_loop v).ub 1#32 = _
  rw [trips_zero_one, t4_ub, toInt_fdiv _ _ (by decide), toInt_add_sub_one v _ (by decide) (by rw [show (256#32 : BitVec 32).toInt = 256 by decide]; omega)]
  rw [show (256#32 : BitVec 32).toInt = 256 by decide]
  congr 2; omega

/-- The tail loop's remainder loop runs no trip. -/
theorem t5_trips (v : BitVec 32) : (k0_t5_loop v).trips = 0 := by
  show Scf.trips (k0_t5_loop v).lb (k0_t5_loop v).ub 1#32 = _
  rw [t5_lb, trips_self]

theorem t2_le (v : BitVec 32) (hv : v.toInt ≤ 640) : (k0_t2_loop v).trips ≤ 5 := by rw [t2_trips v hv]; omega
theorem t4_le (v : BitVec 32) (hv : v.toInt ≤ 1024) : (k0_t4_loop v).trips ≤ 4 := by rw [t4_trips v hv]; omega

theorem iv_word (n : ℕ) (k : ℕ) : Scf.iv 0#32 1#32 k = BitVec.ofNat 32 k := by unfold Scf.iv; simp

theorem mul_word (k c : ℕ) (h : k * c < 2 ^ 32) :
    (Scalar.muli (Scalar.addi 0#32 (Scalar.muli (Scf.iv 0#32 1#32 k) 1#32)) (BitVec.ofNat 32 c)).toNat = k * c := by
  rw [iv_word k]
  show ((0#32 + BitVec.ofNat 32 k * 1#32) * BitVec.ofNat 32 c).toNat = _
  simp only [BitVec.mul_one, BitVec.zero_add, BitVec.toNat_mul, BitVec.toNat_ofNat]
  rw [← Nat.mul_mod, Nat.mod_eq_of_lt h]

theorem mult2_eq (v : BitVec 32) (hv : v.toInt ≤ 640) (k : Fin (k0_t2_loop v).trips) : (k0_mult2 v k).toNat = k.val * 128 :=
  mul_word k.val 128 (by have := t2_le v hv; have := k.isLt; omega)
theorem mult4_eq (v : BitVec 32) (hv : v.toInt ≤ 1024) (k : Fin (k0_t4_loop v).trips) : (k0_mult4 v k).toNat = k.val * 256 :=
  mul_word k.val 256 (by have := t4_le v hv; have := k.isLt; omega)
theorem off5_eq (v : BitVec 32) (hv : v.toInt ≤ 640) (k : Fin (k0_t2_loop v).trips) : k0_off5 v k = ![0, 0, k.val * 128, 0] := by
  rw [← mult2_eq v hv k]; rfl
theorem off6_eq (v : BitVec 32) (hv : v.toInt ≤ 640) (k : Fin (k0_t2_loop v).trips) : k0_off6 v k = ![0, 0, 0, k.val * 128] := by
  rw [← mult2_eq v hv k]; rfl
theorem off10_eq (v : BitVec 32) (hv : v.toInt ≤ 1024) (k : Fin (k0_t4_loop v).trips) : k0_off10 v k = ![0, 0, k.val * 256, 0] := by
  rw [← mult4_eq v hv k]; rfl
theorem off11_eq (v : BitVec 32) (hv : v.toInt ≤ 1024) (k : Fin (k0_t4_loop v).trips) : k0_off11 v k = ![0, 0, 0, k.val * 256] := by
  rw [← mult4_eq v hv k]; rfl

/-- A group word below 7 names a row of the table of lengths. -/
theorem chk1_of (v : BitVec 32) (h : v.toNat < 7) : k0_chk1 v := by
  intro a
  have h0 : k0_off4 v a = v.toNat := by fin_cases a; rfl
  rw [h0]; fin_cases a; show v.toNat + 1 ≤ 7; omega

/-- A mid length at most 640 satisfies what the body assumes of it. -/
theorem chk2_of (v : BitVec 32) (h : v.toInt ≤ 640) : k0_chk2 v := by
  have h3 : IsEmpty (Fin (k0_t3_loop v).trips) := by rw [t3_trips]; infer_instance
  refine ⟨ok_zero_one _, ?_, ?_, ?_, ?_, fun k => h3.elim k, fun k => h3.elim k, fun k => h3.elim k⟩
  · intro k; rw [mult2_eq v h k]; exact Dvd.intro_left _ rfl
  · intro k a
    have := t2_le v h; have := k.isLt
    rw [off5_eq v h k]; fin_cases a
    · show 0 + 1 ≤ 1; omega
    · show 0 + 1 ≤ 1; omega
    · show k.val * 128 + 128 ≤ 640; omega
    · show 0 + 128 ≤ 128; omega
  · intro k a
    have := t2_le v h; have := k.isLt
    rw [off6_eq v h k]; fin_cases a
    · show 0 + 1 ≤ 1; omega
    · show 0 + 1 ≤ 1; omega
    · show 0 + 1 ≤ 1; omega
    · show k.val * 128 + 128 ≤ 640; omega
  · show Scf.OK (k0_t3_loop v).lb (k0_t3_loop v).ub 1#32
    rw [t3_lb]; exact ok_self _

/-- A tail length at most 1024 satisfies what the body assumes of it. -/
theorem chk3_of (v : BitVec 32) (h : v.toInt ≤ 1024) : k0_chk3 v := by
  have h5 : IsEmpty (Fin (k0_t5_loop v).trips) := by rw [t5_trips]; infer_instance
  refine ⟨ok_zero_one _, ?_, ?_, ?_, ?_, fun k => h5.elim k, fun k => h5.elim k, fun k => h5.elim k⟩
  · intro k; rw [mult4_eq v h k]; exact Dvd.intro_left _ rfl
  · intro k a
    have := t4_le v h; have := k.isLt
    rw [off10_eq v h k]; fin_cases a
    · show 0 + 1 ≤ 1; omega
    · show 0 + 1 ≤ 1; omega
    · show k.val * 256 + 256 ≤ 1024; omega
    · show 0 + 128 ≤ 128; omega
  · intro k a
    have := t4_le v h; have := k.isLt
    rw [off11_eq v h k]; fin_cases a
    · show 0 + 1 ≤ 1; omega
    · show 0 + 1 ≤ 1; omega
    · show 0 + 1 ≤ 1; omega
    · show k.val * 256 + 256 ≤ 1024; omega
  · show Scf.OK (k0_t5_loop v).lb (k0_t5_loop v).ub 1#32
    rw [t5_lb]; exact ok_self _

end Cert.KernelIdeal.Words
-- ==== Proof.KernelIdeal.Pre.lean ====
/- What the precondition says of the tables of `KernelIdeal`: the group words below 7, the lengths at most 640 and 1024; so the blocks the tables select lie inside their arrays and the body's conditions hold. -/
module

public import proofs.«01_k».proof.Defs
public import proofs.«01_k».proof.Proof.Gen.Pre_in_range
public import proofs.«01_k».proof.Proof.KernelIdeal.Words

@[expose] public section

namespace Cert.KernelIdeal.Pre

open Idealize.ShloMosaic Idealize.ShloMosaic.TcCoe Idealize.SL Idealize.SL.Sem Cert.KernelIdeal Cert.KernelIdeal.Gen Cert.KernelIdeal.Pipe

variable (m : (ℓ : Loc nD τ sig) → Buf (Elt Ideal) ℓ)

/-- The table of mid lengths, the groups and the tail lengths, as the arguments hold them. -/
theorem tbl0 : tbl m 0 = m (((0 : Dev nD).tc : Thread nD τ).loc main_arg9) := V_main_arg9 m 0
theorem tbl1 : tbl m 1 = m (((0 : Dev nD).tc : Thread nD τ).loc main_arg10) := V_main_arg10 m 0
theorem tbl2 : tbl m 2 = m (((0 : Dev nD).tc : Thread nD τ).loc main_arg15) := V_main_arg15 m 0

theorem ofBool_eq_one (p : Bool) : (BitVec.ofBool p = 1#1) ↔ p = true := by cases p <;> decide
theorem andi_ofBool (p q : Bool) : IntOp.andi (BitVec.ofBool p) (BitVec.ofBool q) = BitVec.ofBool (p && q) := by
  cases p <;> cases q <;> decide

/-- The mid lengths are at most 640. -/
theorem mid_le (h : Cert.Pre_KernelIdeal m) (j) : (tbl m 0 j : BitVec 32).toInt ≤ 640 := by
  have e := congrFun (h 0).1 j
  rw [tbl0]
  simp only [Pre_in_range.fn, cmpi, broadcastInDim, constantI, IntOp.cmpi, ofBool_eq_one, BitVec.sle_eq_decide, decide_eq_true_eq] at e
  exact e.trans (by decide)

/-- The groups are below 7. -/
theorem group_lt (h : Cert.Pre_KernelIdeal m) (j) : (tbl m 1 j : BitVec 32).toNat < 7 := by
  have e := congrFun (h 0).2.1 j
  rw [tbl1]
  simp only [Pre_in_range.fn, andi, cmpi, broadcastInDim, constantI, IntOp.cmpi, andi_ofBool, ofBool_eq_one, Bool.and_eq_true] at e
  exact WordArith.toNat_lt_of_zero_sle_of_slt_ofNat _ 7 (by decide) e.1 e.2

/-- The tail lengths are at most 1024. -/
theorem tail_le (h : Cert.Pre_KernelIdeal m) (j) : (tbl m 2 j : BitVec 32).toInt ≤ 1024 := by
  have e := congrFun (h 0).2.2 j
  rw [tbl2]
  simp only [Pre_in_range.fn, cmpi, broadcastInDim, constantI, IntOp.cmpi, ofBool_eq_one, BitVec.sle_eq_decide, decide_eq_true_eq] at e
  exact e.trans (by decide)

/-- Every word of the tables satisfies what the body assumes of it. -/
theorem hyps (h : Cert.Pre_KernelIdeal m) : Hyps m :=
  ⟨fun j => Words.chk1_of _ (group_lt m h j), fun j => Words.chk2_of _ (mid_le m h j), fun j => Words.chk3_of _ (tail_le m h j)⟩

/-- The head coordinate of a grid point, as a word, is the coordinate. -/
theorem head_word (i : grid0.Coords) : (BitVec.ofNat 32 (i 0).val).toNat < 8 := by
  have : (i 0).val < 8 := (i 0).isLt
  rw [BitVec.toNat_ofNat]; omega

/-- A block of one row at `n` lies inside an axis of more than `n` rows. -/
theorem row (n N : ℕ) (h : n < N) : (n + 1) * 1 ≤ N := by omega

/-- The blocks the group words select lie inside the mid arrays. -/
theorem ok (h : Cert.Pre_KernelIdeal m) : Ok m := by
  have hg : ∀ i : grid0.Coords, ((tbl m).at 1 (Rect.unit (s := S64) ![(Scalar.indexCast (BitVec.ofNat 32 (i 1).val)).toNat] S1.size (Facts₀.k0_off1_inb i)) Facts₀.numel1_S1 : BitVec 32).toNat < 7 :=
    fun i => group_lt m h _
  refine ⟨fun i => ⟨?_, .inr (Affine.block_words_dvd (of_decide_eq_true rfl) (by decide))⟩, fun i => ⟨?_, .inr (Affine.block_words_dvd (of_decide_eq_true rfl) (by decide))⟩,
    fun i => ⟨?_, .inl rfl⟩, fun i => ⟨?_, .inl rfl⟩⟩
  · have h1 := hg i
    have h2 := head_word i
    intro a; fin_cases a
    · exact row _ _ h1
    · exact row _ _ h2
    · exact (show (0 + 1) * 640 ≤ 640 by omega)
    · exact (show (0 + 1) * 128 ≤ 128 by omega)
  · have h1 := hg i
    have h2 := head_word i
    intro a; fin_cases a
    · exact row _ _ h1
    · exact row _ _ h2
    · exact (show (0 + 1) * 640 ≤ 640 by omega)
    · exact (show (0 + 1) * 128 ≤ 128 by omega)
  · have h1 := hg i
    have h2 := head_word i
    intro a; fin_cases a
    · exact row _ _ h1
    · exact row _ _ h2
    · exact (show (0 + 1) * 1 ≤ 1 by omega)
    · exact (show (0 + 1) * 640 ≤ 640 by omega)
  · have h1 := hg i
    have h2 := head_word i
    intro a; fin_cases a
    · exact row _ _ h1
    · exact row _ _ h2
    · exact (show (0 + 1) * 1 ≤ 1 by omega)
    · exact (show (0 + 1) * 640 ≤ 640 by omega)

end Cert.KernelIdeal.Pre
-- ==== Proof.KernelIdeal.Steps.lean ====
/- What one run of the idealized kernel's body computes, as functions of vectors: the update of the running maximum, sums
   and weighted values by one chunk of keys, iterated over the chunks of every level. -/
module

public import proofs.«01_k».proof.Proof.KernelIdeal.Words
public import proofs.«01_k».proof.Proof.Gen.KernelIdeal.Loops
public import Idealize.ShloMosaic.Lib.VecWindow

@[expose] public section

set_option maxRecDepth 16384

noncomputable section

namespace Cert.KernelIdeal.Values

open Cert.KernelIdeal Cert.KernelIdeal.Gen
open Idealize.ShloMosaic Idealize.ShloMosaic.TcCoe Idealize.ShloMosaic.Tactic
open Idealize.SL Idealize.SL.RA Idealize.SL.BI

variable {F : FTy → Type} [FloatOps F] [Named F]

/-- The three running arrays: maximum, sums by level, weighted values. -/
structure St (F : FTy → Type) where
  /-- the running maximum of every row, the same in all lanes -/
  m : Vec F S240x128 .f32
  /-- the running sums of every row, one lane per level -/
  l : Vec F S240x128 .f32
  /-- the running weighted values -/
  a : Vec F S240x128 .f32

/-- The first lane of every row. -/
def col (x : Vec F S240x128 .f32) : Vec F S240x1 .f32 :=
  VecWindow.window x ![0, 0] S240x1.size inb_S240x128_S240x1_0_0

/-- A whole array, read by a load of all of it. -/
def whole (x : Vec F S240x128 .f32) : Vec F S240x128 .f32 :=
  VecWindow.window x ![0, 0] S240x128.size inb_S240x128_S240x128_0_0

/-- A column repeated in all lanes. -/
def spread (x : FVec F S240x1 .f32) : FVec F S240x128 .f32 :=
  shapeCast S240x128 (broadcastTo S240x128 (shapeCast S240x1 x shapeCasts_S240x1_S240x1) broadcasts_S240x1_S240x128) shapeCasts_S240x128_S240x128

/-- `n` steps from a state. -/
def iter (step : ℕ → St F → St F) : ℕ → St F → St F
  | 0, S => S
  | k + 1, S => step k (iter step k S)

/-- A step at a trip of a loop of `N` trips, extended by the identity. -/
def lift {N : ℕ} (step : Fin N → St F → St F) (k : ℕ) (S : St F) : St F := if h : k < N then step ⟨k, h⟩ S else S

theorem lift_val {N : ℕ} (step : Fin N → St F → St F) (k : Fin N) (S : St F) : lift step k.val S = step k S := dif_pos k.isLt

/-- The running maximum of every row after a chunk of 256 scores. -/
def mx256 (s : FVec F S240x256 .f32) (S : St F) : FVec F S240x1 .f32 :=
  maximumf (col S.m) (shapeCast S240x1 (multiReduction .maximumf [1] S240 s 0xFF800000#32 reduces_S240x256_S240 (.inl rfl) rfl) shapeCasts_S240_S240x1)

/-- The factor that rescales a row's earlier sums to the maximum after a chunk of 256 scores. -/
def scl256 (s : FVec F S240x256 .f32) (S : St F) : FVec F S240x1 .f32 := exp2 (subf (col S.m) (mx256 s S))

/-- The exponentials of a chunk of 256 scores against the maximum after it. -/
def prob256 (s : FVec F S240x256 .f32) (S : St F) : FVec F S240x256 .f32 :=
  exp2 (subf s (broadcastTo S240x256 (mx256 s S) broadcasts_S240x1_S240x256))

/-- One update of the running maximum, sums and weighted values by a chunk of 256 keys with scores `s`, values `v` and level `lv`. -/
def att256 (lv : BitVec 32) (s : FVec F S240x256 .f32) (w : FVec F S1x256 .f32) (v : FVec F S256x128 .fp8e4m3) (S : St F) : St F where
  m := spread (mx256 s S)
  l := shapeCast S240x128 (addf (mulf (whole S.l) (broadcastTo S240x128 (scl256 s S) broadcasts_S240x1_S240x128))
        (select (cmpi .eq (iota .tc S240x128 32 [1] iota_S240x128_d1_w32) (broadcast S240x128 lv))
          (broadcastTo S240x128 (shapeCast S240x1 (shapeCast S240x1 (multiReduction .add [1] S240 (prob256 s S) 0x00000000#32 reduces_S240x256_S240 (.inl rfl) rfl) shapeCasts_S240_S240x1) shapeCasts_S240x1_S240x1) broadcasts_S240x1_S240x128)
          (broadcast S240x128 (Scalar.ofBits .f32 0x00000000#32)))) shapeCasts_S240x128_S240x128
  a := shapeCast S240x128 (addf (mulf (whole S.a) (broadcastTo S240x128 (scl256 s S) broadcasts_S240x1_S240x128))
        (matmul dot_S240x256_S256x128_S240x128_1_0_0_1_n_n none (truncf .bf16 (mulf (prob256 s S) (broadcastTo S240x256 w broadcasts_S1x256_S240x256)) bitsLt_bf16_f32) v (constant S240x128 .f32 0x00000000#32))) shapeCasts_S240x128_S240x128

/-- The running maximum of every row after a chunk of 128 scores. -/
def mx128 (s : FVec F S240x128 .f32) (S : St F) : FVec F S240x1 .f32 :=
  maximumf (col S.m) (shapeCast S240x1 (multiReduction .maximumf [1] S240 s 0xFF800000#32 reduces_S240x128_S240 (.inl rfl) rfl) shapeCasts_S240_S240x1)

/-- The factor that rescales a row's earlier sums to the maximum after a chunk of 128 scores. -/
def scl128 (s : FVec F S240x128 .f32) (S : St F) : FVec F S240x1 .f32 := exp2 (subf (col S.m) (mx128 s S))

/-- The exponentials of a chunk of 128 scores against the maximum after it. -/
def prob128 (s : FVec F S240x128 .f32) (S : St F) : FVec F S240x128 .f32 :=
  exp2 (subf s (broadcastTo S240x128 (mx128 s S) broadcasts_S240x1_S240x128))

/-- One update of the running maximum, sums and weighted values by a chunk of 128 keys with scores `s`, values `v` and level `lv`. -/
def att128 (lv : BitVec 32) (s : FVec F S240x128 .f32) (w : FVec F S1x128 .f32) (v : FVec F S128x128 .fp8e4m3) (S : St F) : St F where
  m := spread (mx128 s S)
  l := shapeCast S240x128 (addf (mulf (whole S.l) (broadcastTo S240x128 (scl128 s S) broadcasts_S240x1_S240x128))
        (select (cmpi .eq (iota .tc S240x128 32 [1] iota_S240x128_d1_w32) (broadcast S240x128 lv))
          (broadcastTo S240x128 (shapeCast S240x1 (shapeCast S240x1 (multiReduction .add [1] S240 (prob128 s S) 0x00000000#32 reduces_S240x128_S240 (.inl rfl) rfl) shapeCasts_S240_S240x1) shapeCasts_S240x1_S240x1) broadcasts_S240x1_S240x128)
          (broadcast S240x128 (Scalar.ofBits .f32 0x00000000#32)))) shapeCasts_S240x128_S240x128
  a := shapeCast S240x128 (addf (mulf (whole S.a) (broadcastTo S240x128 (scl128 s S) broadcasts_S240x1_S240x128))
        (matmul dot_S240x128_S128x128_S240x128_1_0_0_1_n_n none (truncf .bf16 (mulf (prob128 s S) (broadcastTo S240x128 w broadcasts_S1x128_S240x128)) bitsLt_bf16_f32) v (constant S240x128 .f32 0x00000000#32))) shapeCasts_S240x128_S240x128

/-- The running maximum of every row after a chunk of 48 scores. -/
def mx48 (s : FVec F S240x48 .f32) (S : St F) : FVec F S240x1 .f32 :=
  maximumf (col S.m) (shapeCast S240x1 (multiReduction .maximumf [1] S240 s 0xFF800000#32 reduces_S240x48_S240 (.inl rfl) rfl) shapeCasts_S240_S240x1)

/-- The factor that rescales a row's earlier sums to the maximum after a chunk of 48 scores. -/
def scl48 (s : FVec F S240x48 .f32) (S : St F) : FVec F S240x1 .f32 := exp2 (subf (col S.m) (mx48 s S))

/-- The exponentials of a chunk of 48 scores against the maximum after it. -/
def prob48 (s : FVec F S240x48 .f32) (S : St F) : FVec F S240x48 .f32 :=
  exp2 (subf s (broadcastTo S240x48 (mx48 s S) broadcasts_S240x1_S240x48))

/-- One update of the running maximum, sums and weighted values by a chunk of 48 keys with scores `s`, values `v` and level `lv`. -/
def att48 (lv : BitVec 32) (s : FVec F S240x48 .f32) (v : FVec F S48x128 .bf16) (S : St F) : St F where
  m := spread (mx48 s S)
  l := shapeCast S240x128 (addf (mulf (whole S.l) (broadcastTo S240x128 (scl48 s S) broadcasts_S240x1_S240x128))
        (select (cmpi .eq (iota .tc S240x128 32 [1] iota_S240x128_d1_w32) (broadcast S240x128 lv))
          (broadcastTo S240x128 (shapeCast S240x1 (shapeCast S240x1 (multiReduction .add [1] S240 (prob48 s S) 0x00000000#32 reduces_S240x48_S240 (.inl rfl) rfl) shapeCasts_S240_S240x1) shapeCasts_S240x1_S240x1) broadcasts_S240x1_S240x128)
          (broadcast S240x128 (Scalar.ofBits .f32 0x00000000#32)))) shapeCasts_S240x128_S240x128
  a := shapeCast S240x128 (addf (mulf (whole S.a) (broadcastTo S240x128 (scl48 s S) broadcasts_S240x1_S240x128))
        (matmul dot_S240x48_S48x128_S240x128_1_0_0_1_n_n none (truncf .bf16 (prob48 s S) bitsLt_bf16_f32) v (constant S240x128 .f32 0x00000000#32))) shapeCasts_S240x128_S240x128

/-- Trip `k` of the loop over the prefix's full chunks. -/
def step1 (q : FVec F S240x128 .bf16) (x1 x2 : Vec F S1x1920x128 .fp8e4m3) (x3 x4 : Vec F S1x1x1920 .f32) (k : Fin k0_t1_loop.trips) (S : St F) : St F :=
  att256 0#32 (k0_pay5 q (VecWindow.window x1 (k0_off2 k) S1x256x128.size (k0_off2_inb k)) (VecWindow.window x3 (k0_off3 k) S1x1x256.size (k0_off3_inb k)))
    (k0_pay4 (VecWindow.window x4 (k0_off3 k) S1x1x256.size (k0_off3_inb k)))
    (k0_pay3 (VecWindow.window x2 (k0_off2 k) S1x256x128.size (k0_off2_inb k))) S

/-- Trip `k` of the loop over the group's keys. -/
def step2 (q : FVec F S240x128 .bf16) (w : Elt F .i32) (hw : k0_chk2 w) (x1 x2 : Vec F S1x1x640x128 .fp8e4m3) (x3 x4 : Vec F S1x1x1x640 .f32) (k : Fin (k0_t2_loop w).trips) (S : St F) : St F :=
  att128 1#32 (k0_pay14 q w 1#32 0#32 0#32 1#32 k (VecWindow.window x1 (k0_off5 w k) S1x1x128x128.size (k0_off5_inb w hw k)) (VecWindow.window x3 (k0_off6 w k) S1x1x1x128.size (k0_off6_inb w hw k)))
    (k0_pay13 (VecWindow.window x4 (k0_off6 w k) S1x1x1x128.size (k0_off6_inb w hw k)))
    (k0_pay12 (VecWindow.window x2 (k0_off5 w k) S1x1x128x128.size (k0_off5_inb w hw k))) S

/-- Trip `k` of the loop over the sequence's own keys. -/
def step4 (q : FVec F S240x128 .bf16) (w : Elt F .i32) (hw : k0_chk3 w) (x1 x2 : Vec F S1x1x1024x128 .fp8e4m3) (x3 x4 : Vec F S1x1x1x1024 .f32) (k : Fin (k0_t4_loop w).trips) (S : St F) : St F :=
  att256 2#32 (k0_pay26 q w 1#32 0#32 0#32 1#32 k (VecWindow.window x1 (k0_off10 w k) S1x1x256x128.size (k0_off10_inb w hw k)) (VecWindow.window x3 (k0_off11 w k) S1x1x1x256.size (k0_off11_inb w hw k)))
    (k0_pay25 (VecWindow.window x4 (k0_off11 w k) S1x1x1x256.size (k0_off11_inb w hw k)))
    (k0_pay24 (VecWindow.window x2 (k0_off10 w k) S1x1x256x128.size (k0_off10_inb w hw k))) S

/-- The state before the first chunk. -/
def init : St F := ⟨k0_pay37, k0_pay38, k0_pay39⟩

/-- The new tokens' step. -/
def stepN (q : FVec F S240x128 .bf16) (x13 x14 : Vec F S1x1x48x128 .bf16) (S : St F) : St F :=
  att48 3#32 (k0_pay41 q k0_pay40 (iota .tc S240x48 32 [1] iota_S240x48_d1_w32) x13) (shapeCast S48x128 x14 shapeCasts_S1x1x48x128_S48x128) S

/-- The step of the prefix's last keys. -/
def stepR (q : FVec F S240x128 .bf16) (x1 x2 : Vec F S1x1920x128 .fp8e4m3) (x3 x4 : Vec F S1x1x1920 .f32) (S : St F) : St F :=
  att128 0#32 (k0_pay55 q (VecWindow.window x1 ![0, 1792, 0] S1x128x128.size inb_S1x1920x128_S1x128x128_0_1792_0) (VecWindow.window x3 ![0, 0, 1792] S1x1x128.size inb_S1x1x1920_S1x1x128_0_0_1792))
    (k0_pay54 (VecWindow.window x4 ![0, 0, 1792] S1x1x128.size inb_S1x1x1920_S1x1x128_0_0_1792))
    (k0_pay53 (VecWindow.window x2 ![0, 1792, 0] S1x128x128.size inb_S1x1920x128_S1x128x128_0_1792_0)) S

end Cert.KernelIdeal.Values

end
-- ==== Proof.KernelIdeal.LoopValues.lean ====
/- What the running arrays read after the trips of each of the body's loops: the steps iterated. -/
module

public import proofs.«01_k».proof.Proof.KernelIdeal.Steps
public import proofs.«01_k».proof.Proof.Gen.KernelIdeal.Loops
public import Idealize.ShloMosaic.Lib.VecWindow

@[expose] public section

set_option maxRecDepth 16384

noncomputable section

namespace Cert.KernelIdeal.Values

open Cert.KernelIdeal Cert.KernelIdeal.Gen
open Idealize.ShloMosaic Idealize.ShloMosaic.TcCoe Idealize.ShloMosaic.Tactic
open Idealize.SL Idealize.SL.RA Idealize.SL.BI

variable {F : FTy → Type} [FloatOps F] [Named F]

/-- What `arg22` reads after one trip of loop 1. -/
theorem trip1_m (𝒱 : Variants) (c : Dev nD) (bd : Option 𝒱.V) (i : grid0.Coords) (arg2 : Memref sig .tc .smem S7 .i32) (harg2 : arg2.IsWhole) (arg3 : Memref sig .tc .smem S64 .i32) (harg3 : arg3.IsWhole) (arg4 : Memref sig .tc .smem S64 .i32) (harg4 : arg4.IsWhole) (arg5 : Memref sig .tc .vmem S1x1x240x128 .bf16) (harg5 : arg5.IsWhole) (arg6 : Memref sig .tc .vmem S1x1920x128 .fp8e4m3) (harg6 : arg6.IsWhole) (arg7 : Memref sig .tc .vmem S1x1920x128 .fp8e4m3) (harg7 : arg7.IsWhole) (arg8 : Memref sig .tc .vmem S1x1x1920 .f32) (harg8 : arg8.IsWhole) (arg9 : Memref sig .tc .vmem S1x1x1920 .f32) (harg9 : arg9.IsWhole) (arg10 : Memref sig .tc .vmem S1x1x640x128 .fp8e4m3) (harg10 : arg10.IsWhole) (arg11 : Memref sig .tc .vmem S1x1x640x128 .fp8e4m3) (harg11 : arg11.IsWhole) (arg12 : Memref sig .tc .vmem S1x1x1x640 .f32) (harg12 : arg12.IsWhole) (arg13 : Memref sig .tc .vmem S1x1x1x640 .f32) (harg13 : arg13.IsWhole) (arg14 : Memref sig .tc .vmem S1x1x1024x128 .fp8e4m3) (harg14 : arg14.IsWhole) (arg15 : Memref sig .tc .vmem S1x1x1024x128 .fp8e4m3) (harg15 : arg15.IsWhole) (arg16 : Memref sig .tc .vmem S1x1x1x1024 .f32) (harg16 : arg16.IsWhole) (arg17 : Memref sig .tc .vmem S1x1x1x1024 .f32) (harg17 : arg17.IsWhole) (arg18 : Memref sig .tc .vmem S1x1x48x128 .bf16) (harg18 : arg18.IsWhole) (arg19 : Memref sig .tc .vmem S1x1x48x128 .bf16) (harg19 : arg19.IsWhole) (arg20 : Memref sig .tc .vmem S1x1x240x128 .bf16) (harg20 : arg20.IsWhole) (arg21 : Memref sig .tc .vmem S1x1x240x8 .f32) (harg21 : arg21.IsWhole) (arg22 : Memref sig .tc .vmem S240x128 .f32) (harg22 : arg22.IsWhole) (arg23 : Memref sig .tc .vmem S240x128 .f32) (harg23 : arg23.IsWhole) (arg24 : Memref sig .tc .vmem S240x128 .f32) (harg24 : arg24.IsWhole) (v1 : FVec F S240x128 .bf16) (v45 : FVec F S240x1 .f32) (v68 : FVec F S240x128 .f32) (v69 : Vec F S240x128 .f32) (v70 : FVec F S240x128 .f32) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) (f_arg22 : BufTy.Contents (Elt F) arg22.view.ty) (f_arg23 : BufTy.Contents (Elt F) arg23.view.ty) (f_arg24 : BufTy.Contents (Elt F) arg24.view.ty) :
    arg22.view.read (Elt F) (arg22.view.writes (Elt F) f_arg22 ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v45 v68 v69 v70 X_arg6 X_arg7 X_arg8 X_arg9 k).1 f_arg22 f_arg23 f_arg24))
      = (step1 v1 (arg6.view.read (Elt F) X_arg6) (arg7.view.read (Elt F) X_arg7) (arg8.view.read (Elt F) X_arg8) (arg9.view.read (Elt F) X_arg9) k ⟨arg22.view.read (Elt F) f_arg22, arg23.view.read (Elt F) f_arg23, arg24.view.read (Elt F) f_arg24⟩).m := by
  unfold trip_k0_t1
  dsimp only
  refine (View.read_writes_full (s := S240x128) _ _ _ _ _).trans ?_
  sl_unfold_words
  rfl

/-- What `arg23` reads after one trip of loop 1. -/
theorem trip1_l (𝒱 : Variants) (c : Dev nD) (bd : Option 𝒱.V) (i : grid0.Coords) (arg2 : Memref sig .tc .smem S7 .i32) (harg2 : arg2.IsWhole) (arg3 : Memref sig .tc .smem S64 .i32) (harg3 : arg3.IsWhole) (arg4 : Memref sig .tc .smem S64 .i32) (harg4 : arg4.IsWhole) (arg5 : Memref sig .tc .vmem S1x1x240x128 .bf16) (harg5 : arg5.IsWhole) (arg6 : Memref sig .tc .vmem S1x1920x128 .fp8e4m3) (harg6 : arg6.IsWhole) (arg7 : Memref sig .tc .vmem S1x1920x128 .fp8e4m3) (harg7 : arg7.IsWhole) (arg8 : Memref sig .tc .vmem S1x1x1920 .f32) (harg8 : arg8.IsWhole) (arg9 : Memref sig .tc .vmem S1x1x1920 .f32) (harg9 : arg9.IsWhole) (arg10 : Memref sig .tc .vmem S1x1x640x128 .fp8e4m3) (harg10 : arg10.IsWhole) (arg11 : Memref sig .tc .vmem S1x1x640x128 .fp8e4m3) (harg11 : arg11.IsWhole) (arg12 : Memref sig .tc .vmem S1x1x1x640 .f32) (harg12 : arg12.IsWhole) (arg13 : Memref sig .tc .vmem S1x1x1x640 .f32) (harg13 : arg13.IsWhole) (arg14 : Memref sig .tc .vmem S1x1x1024x128 .fp8e4m3) (harg14 : arg14.IsWhole) (arg15 : Memref sig .tc .vmem S1x1x1024x128 .fp8e4m3) (harg15 : arg15.IsWhole) (arg16 : Memref sig .tc .vmem S1x1x1x1024 .f32) (harg16 : arg16.IsWhole) (arg17 : Memref sig .tc .vmem S1x1x1x1024 .f32) (harg17 : arg17.IsWhole) (arg18 : Memref sig .tc .vmem S1x1x48x128 .bf16) (harg18 : arg18.IsWhole) (arg19 : Memref sig .tc .vmem S1x1x48x128 .bf16) (harg19 : arg19.IsWhole) (arg20 : Memref sig .tc .vmem S1x1x240x128 .bf16) (harg20 : arg20.IsWhole) (arg21 : Memref sig .tc .vmem S1x1x240x8 .f32) (harg21 : arg21.IsWhole) (arg22 : Memref sig .tc .vmem S240x128 .f32) (harg22 : arg22.IsWhole) (arg23 : Memref sig .tc .vmem S240x128 .f32) (harg23 : arg23.IsWhole) (arg24 : Memref sig .tc .vmem S240x128 .f32) (harg24 : arg24.IsWhole) (v1 : FVec F S240x128 .bf16) (v45 : FVec F S240x1 .f32) (v68 : FVec F S240x128 .f32) (v69 : Vec F S240x128 .f32) (v70 : FVec F S240x128 .f32) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) (f_arg22 : BufTy.Contents (Elt F) arg22.view.ty) (f_arg23 : BufTy.Contents (Elt F) arg23.view.ty) (f_arg24 : BufTy.Contents (Elt F) arg24.view.ty) :
    arg23.view.read (Elt F) (arg23.view.writes (Elt F) f_arg23 ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v45 v68 v69 v70 X_arg6 X_arg7 X_arg8 X_arg9 k).2.1 f_arg22 f_arg23 f_arg24))
      = (step1 v1 (arg6.view.read (Elt F) X_arg6) (arg7.view.read (Elt F) X_arg7) (arg8.view.read (Elt F) X_arg8) (arg9.view.read (Elt F) X_arg9) k ⟨arg22.view.read (Elt F) f_arg22, arg23.view.read (Elt F) f_arg23, arg24.view.read (Elt F) f_arg24⟩).l := by
  unfold trip_k0_t1
  dsimp only
  refine (View.read_writes_full (s := S240x128) _ _ _ _ _).trans ?_
  sl_unfold_words
  rfl

/-- What `arg24` reads after one trip of loop 1. -/
theorem trip1_a (𝒱 : Variants) (c : Dev nD) (bd : Option 𝒱.V) (i : grid0.Coords) (arg2 : Memref sig .tc .smem S7 .i32) (harg2 : arg2.IsWhole) (arg3 : Memref sig .tc .smem S64 .i32) (harg3 : arg3.IsWhole) (arg4 : Memref sig .tc .smem S64 .i32) (harg4 : arg4.IsWhole) (arg5 : Memref sig .tc .vmem S1x1x240x128 .bf16) (harg5 : arg5.IsWhole) (arg6 : Memref sig .tc .vmem S1x1920x128 .fp8e4m3) (harg6 : arg6.IsWhole) (arg7 : Memref sig .tc .vmem S1x1920x128 .fp8e4m3) (harg7 : arg7.IsWhole) (arg8 : Memref sig .tc .vmem S1x1x1920 .f32) (harg8 : arg8.IsWhole) (arg9 : Memref sig .tc .vmem S1x1x1920 .f32) (harg9 : arg9.IsWhole) (arg10 : Memref sig .tc .vmem S1x1x640x128 .fp8e4m3) (harg10 : arg10.IsWhole) (arg11 : Memref sig .tc .vmem S1x1x640x128 .fp8e4m3) (harg11 : arg11.IsWhole) (arg12 : Memref sig .tc .vmem S1x1x1x640 .f32) (harg12 : arg12.IsWhole) (arg13 : Memref sig .tc .vmem S1x1x1x640 .f32) (harg13 : arg13.IsWhole) (arg14 : Memref sig .tc .vmem S1x1x1024x128 .fp8e4m3) (harg14 : arg14.IsWhole) (arg15 : Memref sig .tc .vmem S1x1x1024x128 .fp8e4m3) (harg15 : arg15.IsWhole) (arg16 : Memref sig .tc .vmem S1x1x1x1024 .f32) (harg16 : arg16.IsWhole) (arg17 : Memref sig .tc .vmem S1x1x1x1024 .f32) (harg17 : arg17.IsWhole) (arg18 : Memref sig .tc .vmem S1x1x48x128 .bf16) (harg18 : arg18.IsWhole) (arg19 : Memref sig .tc .vmem S1x1x48x128 .bf16) (harg19 : arg19.IsWhole) (arg20 : Memref sig .tc .vmem S1x1x240x128 .bf16) (harg20 : arg20.IsWhole) (arg21 : Memref sig .tc .vmem S1x1x240x8 .f32) (harg21 : arg21.IsWhole) (arg22 : Memref sig .tc .vmem S240x128 .f32) (harg22 : arg22.IsWhole) (arg23 : Memref sig .tc .vmem S240x128 .f32) (harg23 : arg23.IsWhole) (arg24 : Memref sig .tc .vmem S240x128 .f32) (harg24 : arg24.IsWhole) (v1 : FVec F S240x128 .bf16) (v45 : FVec F S240x1 .f32) (v68 : FVec F S240x128 .f32) (v69 : Vec F S240x128 .f32) (v70 : FVec F S240x128 .f32) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) (f_arg22 : BufTy.Contents (Elt F) arg22.view.ty) (f_arg23 : BufTy.Contents (Elt F) arg23.view.ty) (f_arg24 : BufTy.Contents (Elt F) arg24.view.ty) :
    arg24.view.read (Elt F) (arg24.view.writes (Elt F) f_arg24 ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v45 v68 v69 v70 X_arg6 X_arg7 X_arg8 X_arg9 k).2.2.1 f_arg22 f_arg23 f_arg24))
      = (step1 v1 (arg6.view.read (Elt F) X_arg6) (arg7.view.read (Elt F) X_arg7) (arg8.view.read (Elt F) X_arg8) (arg9.view.read (Elt F) X_arg9) k ⟨arg22.view.read (Elt F) f_arg22, arg23.view.read (Elt F) f_arg23, arg24.view.read (Elt F) f_arg24⟩).a := by
  unfold trip_k0_t1
  dsimp only
  refine (View.read_writes_full (s := S240x128) _ _ _ _ _).trans ?_
  sl_unfold_words
  rfl

/-- What the three running arrays read before trip `k` of loop 1: the steps iterated. -/
theorem pb1 (𝒱 : Variants) (c : Dev nD) (bd : Option 𝒱.V) (i : grid0.Coords) (arg2 : Memref sig .tc .smem S7 .i32) (harg2 : arg2.IsWhole) (arg3 : Memref sig .tc .smem S64 .i32) (harg3 : arg3.IsWhole) (arg4 : Memref sig .tc .smem S64 .i32) (harg4 : arg4.IsWhole) (arg5 : Memref sig .tc .vmem S1x1x240x128 .bf16) (harg5 : arg5.IsWhole) (arg6 : Memref sig .tc .vmem S1x1920x128 .fp8e4m3) (harg6 : arg6.IsWhole) (arg7 : Memref sig .tc .vmem S1x1920x128 .fp8e4m3) (harg7 : arg7.IsWhole) (arg8 : Memref sig .tc .vmem S1x1x1920 .f32) (harg8 : arg8.IsWhole) (arg9 : Memref sig .tc .vmem S1x1x1920 .f32) (harg9 : arg9.IsWhole) (arg10 : Memref sig .tc .vmem S1x1x640x128 .fp8e4m3) (harg10 : arg10.IsWhole) (arg11 : Memref sig .tc .vmem S1x1x640x128 .fp8e4m3) (harg11 : arg11.IsWhole) (arg12 : Memref sig .tc .vmem S1x1x1x640 .f32) (harg12 : arg12.IsWhole) (arg13 : Memref sig .tc .vmem S1x1x1x640 .f32) (harg13 : arg13.IsWhole) (arg14 : Memref sig .tc .vmem S1x1x1024x128 .fp8e4m3) (harg14 : arg14.IsWhole) (arg15 : Memref sig .tc .vmem S1x1x1024x128 .fp8e4m3) (harg15 : arg15.IsWhole) (arg16 : Memref sig .tc .vmem S1x1x1x1024 .f32) (harg16 : arg16.IsWhole) (arg17 : Memref sig .tc .vmem S1x1x1x1024 .f32) (harg17 : arg17.IsWhole) (arg18 : Memref sig .tc .vmem S1x1x48x128 .bf16) (harg18 : arg18.IsWhole) (arg19 : Memref sig .tc .vmem S1x1x48x128 .bf16) (harg19 : arg19.IsWhole) (arg20 : Memref sig .tc .vmem S1x1x240x128 .bf16) (harg20 : arg20.IsWhole) (arg21 : Memref sig .tc .vmem S1x1x240x8 .f32) (harg21 : arg21.IsWhole) (arg22 : Memref sig .tc .vmem S240x128 .f32) (harg22 : arg22.IsWhole) (arg23 : Memref sig .tc .vmem S240x128 .f32) (harg23 : arg23.IsWhole) (arg24 : Memref sig .tc .vmem S240x128 .f32) (harg24 : arg24.IsWhole) (v1 : FVec F S240x128 .bf16) (v45 : FVec F S240x1 .f32) (v68 : FVec F S240x128 .f32) (v69 : Vec F S240x128 .f32) (v70 : FVec F S240x128 .f32) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg22 : BufTy.Contents (Elt F) arg22.view.ty) (G_arg23 : BufTy.Contents (Elt F) arg23.view.ty) (G_arg24 : BufTy.Contents (Elt F) arg24.view.ty) : ∀ (k : ℕ), k ≤ k0_t1_loop.trips →
    (⟨arg22.view.read (Elt F) (arg22.view.writes (Elt F) G_arg22 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v45 v68 v69 v70 X_arg6 X_arg7 X_arg8 X_arg9 G_arg22 G_arg23 G_arg24 k).1), arg23.view.read (Elt F) (arg23.view.writes (Elt F) G_arg23 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v45 v68 v69 v70 X_arg6 X_arg7 X_arg8 X_arg9 G_arg22 G_arg23 G_arg24 k).2.1),
      arg24.view.read (Elt F) (arg24.view.writes (Elt F) G_arg24 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v45 v68 v69 v70 X_arg6 X_arg7 X_arg8 X_arg9 G_arg22 G_arg23 G_arg24 k).2.2)⟩ : St F)
      = iter (lift (step1 v1 (arg6.view.read (Elt F) X_arg6) (arg7.view.read (Elt F) X_arg7) (arg8.view.read (Elt F) X_arg8) (arg9.view.read (Elt F) X_arg9))) k ⟨arg22.view.read (Elt F) G_arg22, arg23.view.read (Elt F) G_arg23, arg24.view.read (Elt F) G_arg24⟩
  | 0, _ => rfl
  | k + 1, hk => by
    have ih := pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v45 v68 v69 v70 X_arg6 X_arg7 X_arg8 X_arg9 G_arg22 G_arg23 G_arg24 k (Nat.le_of_succ_le hk)
    have hs := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v45 v68 v69 v70 X_arg6 X_arg7 X_arg8 X_arg9 G_arg22 G_arg23 G_arg24 ⟨k, hk⟩
    dsimp only at hs
    rw [hs]
    simp only [View.writes_append, iter]
    rw [trip1_m, trip1_l, trip1_a, ← ih, show lift (step1 v1 (arg6.view.read (Elt F) X_arg6) (arg7.view.read (Elt F) X_arg7) (arg8.view.read (Elt F) X_arg8) (arg9.view.read (Elt F) X_arg9)) k = (step1 v1 (arg6.view.read (Elt F) X_arg6) (arg7.view.read (Elt F) X_arg7) (arg8.view.read (Elt F) X_arg8) (arg9.view.read (Elt F) X_arg9)) ⟨k, hk⟩ from funext fun S => dif_pos hk]

/-- What `arg22` reads after one trip of loop 2. -/
theorem trip2_m (𝒱 : Variants) (c : Dev nD) (bd : Option 𝒱.V) (i : grid0.Coords) (arg2 : Memref sig .tc .smem S7 .i32) (harg2 : arg2.IsWhole) (arg3 : Memref sig .tc .smem S64 .i32) (harg3 : arg3.IsWhole) (arg4 : Memref sig .tc .smem S64 .i32) (harg4 : arg4.IsWhole) (arg5 : Memref sig .tc .vmem S1x1x240x128 .bf16) (harg5 : arg5.IsWhole) (arg6 : Memref sig .tc .vmem S1x1920x128 .fp8e4m3) (harg6 : arg6.IsWhole) (arg7 : Memref sig .tc .vmem S1x1920x128 .fp8e4m3) (harg7 : arg7.IsWhole) (arg8 : Memref sig .tc .vmem S1x1x1920 .f32) (harg8 : arg8.IsWhole) (arg9 : Memref sig .tc .vmem S1x1x1920 .f32) (harg9 : arg9.IsWhole) (arg10 : Memref sig .tc .vmem S1x1x640x128 .fp8e4m3) (harg10 : arg10.IsWhole) (arg11 : Memref sig .tc .vmem S1x1x640x128 .fp8e4m3) (harg11 : arg11.IsWhole) (arg12 : Memref sig .tc .vmem S1x1x1x640 .f32) (harg12 : arg12.IsWhole) (arg13 : Memref sig .tc .vmem S1x1x1x640 .f32) (harg13 : arg13.IsWhole) (arg14 : Memref sig .tc .vmem S1x1x1024x128 .fp8e4m3) (harg14 : arg14.IsWhole) (arg15 : Memref sig .tc .vmem S1x1x1024x128 .fp8e4m3) (harg15 : arg15.IsWhole) (arg16 : Memref sig .tc .vmem S1x1x1x1024 .f32) (harg16 : arg16.IsWhole) (arg17 : Memref sig .tc .vmem S1x1x1x1024 .f32) (harg17 : arg17.IsWhole) (arg18 : Memref sig .tc .vmem S1x1x48x128 .bf16) (harg18 : arg18.IsWhole) (arg19 : Memref sig .tc .vmem S1x1x48x128 .bf16) (harg19 : arg19.IsWhole) (arg20 : Memref sig .tc .vmem S1x1x240x128 .bf16) (harg20 : arg20.IsWhole) (arg21 : Memref sig .tc .vmem S1x1x240x8 .f32) (harg21 : arg21.IsWhole) (arg22 : Memref sig .tc .vmem S240x128 .f32) (harg22 : arg22.IsWhole) (arg23 : Memref sig .tc .vmem S240x128 .f32) (harg23 : arg23.IsWhole) (arg24 : Memref sig .tc .vmem S240x128 .f32) (harg24 : arg24.IsWhole) (arg1 : BitVec 32) (v1 : FVec F S240x128 .bf16) (v146 : Elt F .i32) (k0_hw2 : k0_chk2 v146) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (k : Fin (k0_t2_loop v146).trips) (f_arg22 : BufTy.Contents (Elt F) arg22.view.ty) (f_arg23 : BufTy.Contents (Elt F) arg23.view.ty) (f_arg24 : BufTy.Contents (Elt F) arg24.view.ty) :
    arg22.view.read (Elt F) (arg22.view.writes (Elt F) f_arg22 ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v1 v146 k0_hw2 X_arg10 X_arg11 X_arg12 X_arg13 k).1 f_arg22 f_arg23 f_arg24))
      = (step2 v1 v146 k0_hw2 (arg10.view.read (Elt F) X_arg10) (arg11.view.read (Elt F) X_arg11) (arg12.view.read (Elt F) X_arg12) (arg13.view.read (Elt F) X_arg13) k ⟨arg22.view.read (Elt F) f_arg22, arg23.view.read (Elt F) f_arg23, arg24.view.read (Elt F) f_arg24⟩).m := by
  unfold trip_k0_t2
  dsimp only
  refine (View.read_writes_full (s := S240x128) _ _ _ _ _).trans ?_
  sl_unfold_words
  rfl

/-- What `arg23` reads after one trip of loop 2. -/
theorem trip2_l (𝒱 : Variants) (c : Dev nD) (bd : Option 𝒱.V) (i : grid0.Coords) (arg2 : Memref sig .tc .smem S7 .i32) (harg2 : arg2.IsWhole) (arg3 : Memref sig .tc .smem S64 .i32) (harg3 : arg3.IsWhole) (arg4 : Memref sig .tc .smem S64 .i32) (harg4 : arg4.IsWhole) (arg5 : Memref sig .tc .vmem S1x1x240x128 .bf16) (harg5 : arg5.IsWhole) (arg6 : Memref sig .tc .vmem S1x1920x128 .fp8e4m3) (harg6 : arg6.IsWhole) (arg7 : Memref sig .tc .vmem S1x1920x128 .fp8e4m3) (harg7 : arg7.IsWhole) (arg8 : Memref sig .tc .vmem S1x1x1920 .f32) (harg8 : arg8.IsWhole) (arg9 : Memref sig .tc .vmem S1x1x1920 .f32) (harg9 : arg9.IsWhole) (arg10 : Memref sig .tc .vmem S1x1x640x128 .fp8e4m3) (harg10 : arg10.IsWhole) (arg11 : Memref sig .tc .vmem S1x1x640x128 .fp8e4m3) (harg11 : arg11.IsWhole) (arg12 : Memref sig .tc .vmem S1x1x1x640 .f32) (harg12 : arg12.IsWhole) (arg13 : Memref sig .tc .vmem S1x1x1x640 .f32) (harg13 : arg13.IsWhole) (arg14 : Memref sig .tc .vmem S1x1x1024x128 .fp8e4m3) (harg14 : arg14.IsWhole) (arg15 : Memref sig .tc .vmem S1x1x1024x128 .fp8e4m3) (harg15 : arg15.IsWhole) (arg16 : Memref sig .tc .vmem S1x1x1x1024 .f32) (harg16 : arg16.IsWhole) (arg17 : Memref sig .tc .vmem S1x1x1x1024 .f32) (harg17 : arg17.IsWhole) (arg18 : Memref sig .tc .vmem S1x1x48x128 .bf16) (harg18 : arg18.IsWhole) (arg19 : Memref sig .tc .vmem S1x1x48x128 .bf16) (harg19 : arg19.IsWhole) (arg20 : Memref sig .tc .vmem S1x1x240x128 .bf16) (harg20 : arg20.IsWhole) (arg21 : Memref sig .tc .vmem S1x1x240x8 .f32) (harg21 : arg21.IsWhole) (arg22 : Memref sig .tc .vmem S240x128 .f32) (harg22 : arg22.IsWhole) (arg23 : Memref sig .tc .vmem S240x128 .f32) (harg23 : arg23.IsWhole) (arg24 : Memref sig .tc .vmem S240x128 .f32) (harg24 : arg24.IsWhole) (arg1 : BitVec 32) (v1 : FVec F S240x128 .bf16) (v146 : Elt F .i32) (k0_hw2 : k0_chk2 v146) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (k : Fin (k0_t2_loop v146).trips) (f_arg22 : BufTy.Contents (Elt F) arg22.view.ty) (f_arg23 : BufTy.Contents (Elt F) arg23.view.ty) (f_arg24 : BufTy.Contents (Elt F) arg24.view.ty) :
    arg23.view.read (Elt F) (arg23.view.writes (Elt F) f_arg23 ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v1 v146 k0_hw2 X_arg10 X_arg11 X_arg12 X_arg13 k).2.1 f_arg22 f_arg23 f_arg24))
      = (step2 v1 v146 k0_hw2 (arg10.view.read (Elt F) X_arg10) (arg11.view.read (Elt F) X_arg11) (arg12.view.read (Elt F) X_arg12) (arg13.view.read (Elt F) X_arg13) k ⟨arg22.view.read (Elt F) f_arg22, arg23.view.read (Elt F) f_arg23, arg24.view.read (Elt F) f_arg24⟩).l := by
  unfold trip_k0_t2
  dsimp only
  refine (View.read_writes_full (s := S240x128) _ _ _ _ _).trans ?_
  sl_unfold_words
  rfl

/-- What `arg24` reads after one trip of loop 2. -/
theorem trip2_a (𝒱 : Variants) (c : Dev nD) (bd : Option 𝒱.V) (i : grid0.Coords) (arg2 : Memref sig .tc .smem S7 .i32) (harg2 : arg2.IsWhole) (arg3 : Memref sig .tc .smem S64 .i32) (harg3 : arg3.IsWhole) (arg4 : Memref sig .tc .smem S64 .i32) (harg4 : arg4.IsWhole) (arg5 : Memref sig .tc .vmem S1x1x240x128 .bf16) (harg5 : arg5.IsWhole) (arg6 : Memref sig .tc .vmem S1x1920x128 .fp8e4m3) (harg6 : arg6.IsWhole) (arg7 : Memref sig .tc .vmem S1x1920x128 .fp8e4m3) (harg7 : arg7.IsWhole) (arg8 : Memref sig .tc .vmem S1x1x1920 .f32) (harg8 : arg8.IsWhole) (arg9 : Memref sig .tc .vmem S1x1x1920 .f32) (harg9 : arg9.IsWhole) (arg10 : Memref sig .tc .vmem S1x1x640x128 .fp8e4m3) (harg10 : arg10.IsWhole) (arg11 : Memref sig .tc .vmem S1x1x640x128 .fp8e4m3) (harg11 : arg11.IsWhole) (arg12 : Memref sig .tc .vmem S1x1x1x640 .f32) (harg12 : arg12.IsWhole) (arg13 : Memref sig .tc .vmem S1x1x1x640 .f32) (harg13 : arg13.IsWhole) (arg14 : Memref sig .tc .vmem S1x1x1024x128 .fp8e4m3) (harg14 : arg14.IsWhole) (arg15 : Memref sig .tc .vmem S1x1x1024x128 .fp8e4m3) (harg15 : arg15.IsWhole) (arg16 : Memref sig .tc .vmem S1x1x1x1024 .f32) (harg16 : arg16.IsWhole) (arg17 : Memref sig .tc .vmem S1x1x1x1024 .f32) (harg17 : arg17.IsWhole) (arg18 : Memref sig .tc .vmem S1x1x48x128 .bf16) (harg18 : arg18.IsWhole) (arg19 : Memref sig .tc .vmem S1x1x48x128 .bf16) (harg19 : arg19.IsWhole) (arg20 : Memref sig .tc .vmem S1x1x240x128 .bf16) (harg20 : arg20.IsWhole) (arg21 : Memref sig .tc .vmem S1x1x240x8 .f32) (harg21 : arg21.IsWhole) (arg22 : Memref sig .tc .vmem S240x128 .f32) (harg22 : arg22.IsWhole) (arg23 : Memref sig .tc .vmem S240x128 .f32) (harg23 : arg23.IsWhole) (arg24 : Memref sig .tc .vmem S240x128 .f32) (harg24 : arg24.IsWhole) (arg1 : BitVec 32) (v1 : FVec F S240x128 .bf16) (v146 : Elt F .i32) (k0_hw2 : k0_chk2 v146) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (k : Fin (k0_t2_loop v146).trips) (f_arg22 : BufTy.Contents (Elt F) arg22.view.ty) (f_arg23 : BufTy.Contents (Elt F) arg23.view.ty) (f_arg24 : BufTy.Contents (Elt F) arg24.view.ty) :
    arg24.view.read (Elt F) (arg24.view.writes (Elt F) f_arg24 ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v1 v146 k0_hw2 X_arg10 X_arg11 X_arg12 X_arg13 k).2.2.1 f_arg22 f_arg23 f_arg24))
      = (step2 v1 v146 k0_hw2 (arg10.view.read (Elt F) X_arg10) (arg11.view.read (Elt F) X_arg11) (arg12.view.read (Elt F) X_arg12) (arg13.view.read (Elt F) X_arg13) k ⟨arg22.view.read (Elt F) f_arg22, arg23.view.read (Elt F) f_arg23, arg24.view.read (Elt F) f_arg24⟩).a := by
  unfold trip_k0_t2
  dsimp only
  refine (View.read_writes_full (s := S240x128) _ _ _ _ _).trans ?_
  sl_unfold_words
  rfl

/-- What the three running arrays read before trip `k` of loop 2: the steps iterated. -/
theorem pb2 (𝒱 : Variants) (c : Dev nD) (bd : Option 𝒱.V) (i : grid0.Coords) (arg2 : Memref sig .tc .smem S7 .i32) (harg2 : arg2.IsWhole) (arg3 : Memref sig .tc .smem S64 .i32) (harg3 : arg3.IsWhole) (arg4 : Memref sig .tc .smem S64 .i32) (harg4 : arg4.IsWhole) (arg5 : Memref sig .tc .vmem S1x1x240x128 .bf16) (harg5 : arg5.IsWhole) (arg6 : Memref sig .tc .vmem S1x1920x128 .fp8e4m3) (harg6 : arg6.IsWhole) (arg7 : Memref sig .tc .vmem S1x1920x128 .fp8e4m3) (harg7 : arg7.IsWhole) (arg8 : Memref sig .tc .vmem S1x1x1920 .f32) (harg8 : arg8.IsWhole) (arg9 : Memref sig .tc .vmem S1x1x1920 .f32) (harg9 : arg9.IsWhole) (arg10 : Memref sig .tc .vmem S1x1x640x128 .fp8e4m3) (harg10 : arg10.IsWhole) (arg11 : Memref sig .tc .vmem S1x1x640x128 .fp8e4m3) (harg11 : arg11.IsWhole) (arg12 : Memref sig .tc .vmem S1x1x1x640 .f32) (harg12 : arg12.IsWhole) (arg13 : Memref sig .tc .vmem S1x1x1x640 .f32) (harg13 : arg13.IsWhole) (arg14 : Memref sig .tc .vmem S1x1x1024x128 .fp8e4m3) (harg14 : arg14.IsWhole) (arg15 : Memref sig .tc .vmem S1x1x1024x128 .fp8e4m3) (harg15 : arg15.IsWhole) (arg16 : Memref sig .tc .vmem S1x1x1x1024 .f32) (harg16 : arg16.IsWhole) (arg17 : Memref sig .tc .vmem S1x1x1x1024 .f32) (harg17 : arg17.IsWhole) (arg18 : Memref sig .tc .vmem S1x1x48x128 .bf16) (harg18 : arg18.IsWhole) (arg19 : Memref sig .tc .vmem S1x1x48x128 .bf16) (harg19 : arg19.IsWhole) (arg20 : Memref sig .tc .vmem S1x1x240x128 .bf16) (harg20 : arg20.IsWhole) (arg21 : Memref sig .tc .vmem S1x1x240x8 .f32) (harg21 : arg21.IsWhole) (arg22 : Memref sig .tc .vmem S240x128 .f32) (harg22 : arg22.IsWhole) (arg23 : Memref sig .tc .vmem S240x128 .f32) (harg23 : arg23.IsWhole) (arg24 : Memref sig .tc .vmem S240x128 .f32) (harg24 : arg24.IsWhole) (arg1 : BitVec 32) (v1 : FVec F S240x128 .bf16) (v146 : Elt F .i32) (k0_hw2 : k0_chk2 v146) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (G_arg22 : BufTy.Contents (Elt F) arg22.view.ty) (G_arg23 : BufTy.Contents (Elt F) arg23.view.ty) (G_arg24 : BufTy.Contents (Elt F) arg24.view.ty) : ∀ (k : ℕ), k ≤ (k0_t2_loop v146).trips →
    (⟨arg22.view.read (Elt F) (arg22.view.writes (Elt F) G_arg22 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v1 v146 k0_hw2 X_arg10 X_arg11 X_arg12 X_arg13 G_arg22 G_arg23 G_arg24 k).1), arg23.view.read (Elt F) (arg23.view.writes (Elt F) G_arg23 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v1 v146 k0_hw2 X_arg10 X_arg11 X_arg12 X_arg13 G_arg22 G_arg23 G_arg24 k).2.1),
      arg24.view.read (Elt F) (arg24.view.writes (Elt F) G_arg24 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v1 v146 k0_hw2 X_arg10 X_arg11 X_arg12 X_arg13 G_arg22 G_arg23 G_arg24 k).2.2)⟩ : St F)
      = iter (lift (step2 v1 v146 k0_hw2 (arg10.view.read (Elt F) X_arg10) (arg11.view.read (Elt F) X_arg11) (arg12.view.read (Elt F) X_arg12) (arg13.view.read (Elt F) X_arg13))) k ⟨arg22.view.read (Elt F) G_arg22, arg23.view.read (Elt F) G_arg23, arg24.view.read (Elt F) G_arg24⟩
  | 0, _ => rfl
  | k + 1, hk => by
    have ih := pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v1 v146 k0_hw2 X_arg10 X_arg11 X_arg12 X_arg13 G_arg22 G_arg23 G_arg24 k (Nat.le_of_succ_le hk)
    have hs := pb_k0_t2_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v1 v146 k0_hw2 X_arg10 X_arg11 X_arg12 X_arg13 G_arg22 G_arg23 G_arg24 ⟨k, hk⟩
    dsimp only at hs
    rw [hs]
    simp only [View.writes_append, iter]
    rw [trip2_m, trip2_l, trip2_a, ← ih, show lift (step2 v1 v146 k0_hw2 (arg10.view.read (Elt F) X_arg10) (arg11.view.read (Elt F) X_arg11) (arg12.view.read (Elt F) X_arg12) (arg13.view.read (Elt F) X_arg13)) k = (step2 v1 v146 k0_hw2 (arg10.view.read (Elt F) X_arg10) (arg11.view.read (Elt F) X_arg11) (arg12.view.read (Elt F) X_arg12) (arg13.view.read (Elt F) X_arg13)) ⟨k, hk⟩ from funext fun S => dif_pos hk]

/-- What `arg22` reads after one trip of loop 4. -/
theorem trip4_m (𝒱 : Variants) (c : Dev nD) (bd : Option 𝒱.V) (i : grid0.Coords) (arg2 : Memref sig .tc .smem S7 .i32) (harg2 : arg2.IsWhole) (arg3 : Memref sig .tc .smem S64 .i32) (harg3 : arg3.IsWhole) (arg4 : Memref sig .tc .smem S64 .i32) (harg4 : arg4.IsWhole) (arg5 : Memref sig .tc .vmem S1x1x240x128 .bf16) (harg5 : arg5.IsWhole) (arg6 : Memref sig .tc .vmem S1x1920x128 .fp8e4m3) (harg6 : arg6.IsWhole) (arg7 : Memref sig .tc .vmem S1x1920x128 .fp8e4m3) (harg7 : arg7.IsWhole) (arg8 : Memref sig .tc .vmem S1x1x1920 .f32) (harg8 : arg8.IsWhole) (arg9 : Memref sig .tc .vmem S1x1x1920 .f32) (harg9 : arg9.IsWhole) (arg10 : Memref sig .tc .vmem S1x1x640x128 .fp8e4m3) (harg10 : arg10.IsWhole) (arg11 : Memref sig .tc .vmem S1x1x640x128 .fp8e4m3) (harg11 : arg11.IsWhole) (arg12 : Memref sig .tc .vmem S1x1x1x640 .f32) (harg12 : arg12.IsWhole) (arg13 : Memref sig .tc .vmem S1x1x1x640 .f32) (harg13 : arg13.IsWhole) (arg14 : Memref sig .tc .vmem S1x1x1024x128 .fp8e4m3) (harg14 : arg14.IsWhole) (arg15 : Memref sig .tc .vmem S1x1x1024x128 .fp8e4m3) (harg15 : arg15.IsWhole) (arg16 : Memref sig .tc .vmem S1x1x1x1024 .f32) (harg16 : arg16.IsWhole) (arg17 : Memref sig .tc .vmem S1x1x1x1024 .f32) (harg17 : arg17.IsWhole) (arg18 : Memref sig .tc .vmem S1x1x48x128 .bf16) (harg18 : arg18.IsWhole) (arg19 : Memref sig .tc .vmem S1x1x48x128 .bf16) (harg19 : arg19.IsWhole) (arg20 : Memref sig .tc .vmem S1x1x240x128 .bf16) (harg20 : arg20.IsWhole) (arg21 : Memref sig .tc .vmem S1x1x240x8 .f32) (harg21 : arg21.IsWhole) (arg22 : Memref sig .tc .vmem S240x128 .f32) (harg22 : arg22.IsWhole) (arg23 : Memref sig .tc .vmem S240x128 .f32) (harg23 : arg23.IsWhole) (arg24 : Memref sig .tc .vmem S240x128 .f32) (harg24 : arg24.IsWhole) (v1 : FVec F S240x128 .bf16) (v176 : Elt F .i32) (k0_hw3 : k0_chk3 v176) (v177 : BitVec 32) (c1_i32_93 : BitVec 32) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (k : Fin (k0_t4_loop v176).trips) (f_arg22 : BufTy.Contents (Elt F) arg22.view.ty) (f_arg23 : BufTy.Contents (Elt F) arg23.view.ty) (f_arg24 : BufTy.Contents (Elt F) arg24.view.ty) :
    arg22.view.read (Elt F) (arg22.view.writes (Elt F) f_arg22 ((trip_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v176 k0_hw3 v177 c1_i32_93 X_arg14 X_arg15 X_arg16 X_arg17 k).1 f_arg22 f_arg23 f_arg24))
      = (step4 v1 v176 k0_hw3 (arg14.view.read (Elt F) X_arg14) (arg15.view.read (Elt F) X_arg15) (arg16.view.read (Elt F) X_arg16) (arg17.view.read (Elt F) X_arg17) k ⟨arg22.view.read (Elt F) f_arg22, arg23.view.read (Elt F) f_arg23, arg24.view.read (Elt F) f_arg24⟩).m := by
  unfold trip_k0_t4
  dsimp only
  refine (View.read_writes_full (s := S240x128) _ _ _ _ _).trans ?_
  sl_unfold_words
  rfl

/-- What `arg23` reads after one trip of loop 4. -/
theorem trip4_l (𝒱 : Variants) (c : Dev nD) (bd : Option 𝒱.V) (i : grid0.Coords) (arg2 : Memref sig .tc .smem S7 .i32) (harg2 : arg2.IsWhole) (arg3 : Memref sig .tc .smem S64 .i32) (harg3 : arg3.IsWhole) (arg4 : Memref sig .tc .smem S64 .i32) (harg4 : arg4.IsWhole) (arg5 : Memref sig .tc .vmem S1x1x240x128 .bf16) (harg5 : arg5.IsWhole) (arg6 : Memref sig .tc .vmem S1x1920x128 .fp8e4m3) (harg6 : arg6.IsWhole) (arg7 : Memref sig .tc .vmem S1x1920x128 .fp8e4m3) (harg7 : arg7.IsWhole) (arg8 : Memref sig .tc .vmem S1x1x1920 .f32) (harg8 : arg8.IsWhole) (arg9 : Memref sig .tc .vmem S1x1x1920 .f32) (harg9 : arg9.IsWhole) (arg10 : Memref sig .tc .vmem S1x1x640x128 .fp8e4m3) (harg10 : arg10.IsWhole) (arg11 : Memref sig .tc .vmem S1x1x640x128 .fp8e4m3) (harg11 : arg11.IsWhole) (arg12 : Memref sig .tc .vmem S1x1x1x640 .f32) (harg12 : arg12.IsWhole) (arg13 : Memref sig .tc .vmem S1x1x1x640 .f32) (harg13 : arg13.IsWhole) (arg14 : Memref sig .tc .vmem S1x1x1024x128 .fp8e4m3) (harg14 : arg14.IsWhole) (arg15 : Memref sig .tc .vmem S1x1x1024x128 .fp8e4m3) (harg15 : arg15.IsWhole) (arg16 : Memref sig .tc .vmem S1x1x1x1024 .f32) (harg16 : arg16.IsWhole) (arg17 : Memref sig .tc .vmem S1x1x1x1024 .f32) (harg17 : arg17.IsWhole) (arg18 : Memref sig .tc .vmem S1x1x48x128 .bf16) (harg18 : arg18.IsWhole) (arg19 : Memref sig .tc .vmem S1x1x48x128 .bf16) (harg19 : arg19.IsWhole) (arg20 : Memref sig .tc .vmem S1x1x240x128 .bf16) (harg20 : arg20.IsWhole) (arg21 : Memref sig .tc .vmem S1x1x240x8 .f32) (harg21 : arg21.IsWhole) (arg22 : Memref sig .tc .vmem S240x128 .f32) (harg22 : arg22.IsWhole) (arg23 : Memref sig .tc .vmem S240x128 .f32) (harg23 : arg23.IsWhole) (arg24 : Memref sig .tc .vmem S240x128 .f32) (harg24 : arg24.IsWhole) (v1 : FVec F S240x128 .bf16) (v176 : Elt F .i32) (k0_hw3 : k0_chk3 v176) (v177 : BitVec 32) (c1_i32_93 : BitVec 32) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (k : Fin (k0_t4_loop v176).trips) (f_arg22 : BufTy.Contents (Elt F) arg22.view.ty) (f_arg23 : BufTy.Contents (Elt F) arg23.view.ty) (f_arg24 : BufTy.Contents (Elt F) arg24.view.ty) :
    arg23.view.read (Elt F) (arg23.view.writes (Elt F) f_arg23 ((trip_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v176 k0_hw3 v177 c1_i32_93 X_arg14 X_arg15 X_arg16 X_arg17 k).2.1 f_arg22 f_arg23 f_arg24))
      = (step4 v1 v176 k0_hw3 (arg14.view.read (Elt F) X_arg14) (arg15.view.read (Elt F) X_arg15) (arg16.view.read (Elt F) X_arg16) (arg17.view.read (Elt F) X_arg17) k ⟨arg22.view.read (Elt F) f_arg22, arg23.view.read (Elt F) f_arg23, arg24.view.read (Elt F) f_arg24⟩).l := by
  unfold trip_k0_t4
  dsimp only
  refine (View.read_writes_full (s := S240x128) _ _ _ _ _).trans ?_
  sl_unfold_words
  rfl

/-- What `arg24` reads after one trip of loop 4. -/
theorem trip4_a (𝒱 : Variants) (c : Dev nD) (bd : Option 𝒱.V) (i : grid0.Coords) (arg2 : Memref sig .tc .smem S7 .i32) (harg2 : arg2.IsWhole) (arg3 : Memref sig .tc .smem S64 .i32) (harg3 : arg3.IsWhole) (arg4 : Memref sig .tc .smem S64 .i32) (harg4 : arg4.IsWhole) (arg5 : Memref sig .tc .vmem S1x1x240x128 .bf16) (harg5 : arg5.IsWhole) (arg6 : Memref sig .tc .vmem S1x1920x128 .fp8e4m3) (harg6 : arg6.IsWhole) (arg7 : Memref sig .tc .vmem S1x1920x128 .fp8e4m3) (harg7 : arg7.IsWhole) (arg8 : Memref sig .tc .vmem S1x1x1920 .f32) (harg8 : arg8.IsWhole) (arg9 : Memref sig .tc .vmem S1x1x1920 .f32) (harg9 : arg9.IsWhole) (arg10 : Memref sig .tc .vmem S1x1x640x128 .fp8e4m3) (harg10 : arg10.IsWhole) (arg11 : Memref sig .tc .vmem S1x1x640x128 .fp8e4m3) (harg11 : arg11.IsWhole) (arg12 : Memref sig .tc .vmem S1x1x1x640 .f32) (harg12 : arg12.IsWhole) (arg13 : Memref sig .tc .vmem S1x1x1x640 .f32) (harg13 : arg13.IsWhole) (arg14 : Memref sig .tc .vmem S1x1x1024x128 .fp8e4m3) (harg14 : arg14.IsWhole) (arg15 : Memref sig .tc .vmem S1x1x1024x128 .fp8e4m3) (harg15 : arg15.IsWhole) (arg16 : Memref sig .tc .vmem S1x1x1x1024 .f32) (harg16 : arg16.IsWhole) (arg17 : Memref sig .tc .vmem S1x1x1x1024 .f32) (harg17 : arg17.IsWhole) (arg18 : Memref sig .tc .vmem S1x1x48x128 .bf16) (harg18 : arg18.IsWhole) (arg19 : Memref sig .tc .vmem S1x1x48x128 .bf16) (harg19 : arg19.IsWhole) (arg20 : Memref sig .tc .vmem S1x1x240x128 .bf16) (harg20 : arg20.IsWhole) (arg21 : Memref sig .tc .vmem S1x1x240x8 .f32) (harg21 : arg21.IsWhole) (arg22 : Memref sig .tc .vmem S240x128 .f32) (harg22 : arg22.IsWhole) (arg23 : Memref sig .tc .vmem S240x128 .f32) (harg23 : arg23.IsWhole) (arg24 : Memref sig .tc .vmem S240x128 .f32) (harg24 : arg24.IsWhole) (v1 : FVec F S240x128 .bf16) (v176 : Elt F .i32) (k0_hw3 : k0_chk3 v176) (v177 : BitVec 32) (c1_i32_93 : BitVec 32) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (k : Fin (k0_t4_loop v176).trips) (f_arg22 : BufTy.Contents (Elt F) arg22.view.ty) (f_arg23 : BufTy.Contents (Elt F) arg23.view.ty) (f_arg24 : BufTy.Contents (Elt F) arg24.view.ty) :
    arg24.view.read (Elt F) (arg24.view.writes (Elt F) f_arg24 ((trip_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v176 k0_hw3 v177 c1_i32_93 X_arg14 X_arg15 X_arg16 X_arg17 k).2.2.1 f_arg22 f_arg23 f_arg24))
      = (step4 v1 v176 k0_hw3 (arg14.view.read (Elt F) X_arg14) (arg15.view.read (Elt F) X_arg15) (arg16.view.read (Elt F) X_arg16) (arg17.view.read (Elt F) X_arg17) k ⟨arg22.view.read (Elt F) f_arg22, arg23.view.read (Elt F) f_arg23, arg24.view.read (Elt F) f_arg24⟩).a := by
  unfold trip_k0_t4
  dsimp only
  refine (View.read_writes_full (s := S240x128) _ _ _ _ _).trans ?_
  sl_unfold_words
  rfl

/-- What the three running arrays read before trip `k` of loop 4: the steps iterated. -/
theorem pb4 (𝒱 : Variants) (c : Dev nD) (bd : Option 𝒱.V) (i : grid0.Coords) (arg2 : Memref sig .tc .smem S7 .i32) (harg2 : arg2.IsWhole) (arg3 : Memref sig .tc .smem S64 .i32) (harg3 : arg3.IsWhole) (arg4 : Memref sig .tc .smem S64 .i32) (harg4 : arg4.IsWhole) (arg5 : Memref sig .tc .vmem S1x1x240x128 .bf16) (harg5 : arg5.IsWhole) (arg6 : Memref sig .tc .vmem S1x1920x128 .fp8e4m3) (harg6 : arg6.IsWhole) (arg7 : Memref sig .tc .vmem S1x1920x128 .fp8e4m3) (harg7 : arg7.IsWhole) (arg8 : Memref sig .tc .vmem S1x1x1920 .f32) (harg8 : arg8.IsWhole) (arg9 : Memref sig .tc .vmem S1x1x1920 .f32) (harg9 : arg9.IsWhole) (arg10 : Memref sig .tc .vmem S1x1x640x128 .fp8e4m3) (harg10 : arg10.IsWhole) (arg11 : Memref sig .tc .vmem S1x1x640x128 .fp8e4m3) (harg11 : arg11.IsWhole) (arg12 : Memref sig .tc .vmem S1x1x1x640 .f32) (harg12 : arg12.IsWhole) (arg13 : Memref sig .tc .vmem S1x1x1x640 .f32) (harg13 : arg13.IsWhole) (arg14 : Memref sig .tc .vmem S1x1x1024x128 .fp8e4m3) (harg14 : arg14.IsWhole) (arg15 : Memref sig .tc .vmem S1x1x1024x128 .fp8e4m3) (harg15 : arg15.IsWhole) (arg16 : Memref sig .tc .vmem S1x1x1x1024 .f32) (harg16 : arg16.IsWhole) (arg17 : Memref sig .tc .vmem S1x1x1x1024 .f32) (harg17 : arg17.IsWhole) (arg18 : Memref sig .tc .vmem S1x1x48x128 .bf16) (harg18 : arg18.IsWhole) (arg19 : Memref sig .tc .vmem S1x1x48x128 .bf16) (harg19 : arg19.IsWhole) (arg20 : Memref sig .tc .vmem S1x1x240x128 .bf16) (harg20 : arg20.IsWhole) (arg21 : Memref sig .tc .vmem S1x1x240x8 .f32) (harg21 : arg21.IsWhole) (arg22 : Memref sig .tc .vmem S240x128 .f32) (harg22 : arg22.IsWhole) (arg23 : Memref sig .tc .vmem S240x128 .f32) (harg23 : arg23.IsWhole) (arg24 : Memref sig .tc .vmem S240x128 .f32) (harg24 : arg24.IsWhole) (v1 : FVec F S240x128 .bf16) (v176 : Elt F .i32) (k0_hw3 : k0_chk3 v176) (v177 : BitVec 32) (c1_i32_93 : BitVec 32) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (G_arg22 : BufTy.Contents (Elt F) arg22.view.ty) (G_arg23 : BufTy.Contents (Elt F) arg23.view.ty) (G_arg24 : BufTy.Contents (Elt F) arg24.view.ty) : ∀ (k : ℕ), k ≤ (k0_t4_loop v176).trips →
    (⟨arg22.view.read (Elt F) (arg22.view.writes (Elt F) G_arg22 (pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v176 k0_hw3 v177 c1_i32_93 X_arg14 X_arg15 X_arg16 X_arg17 G_arg22 G_arg23 G_arg24 k).1), arg23.view.read (Elt F) (arg23.view.writes (Elt F) G_arg23 (pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v176 k0_hw3 v177 c1_i32_93 X_arg14 X_arg15 X_arg16 X_arg17 G_arg22 G_arg23 G_arg24 k).2.1),
      arg24.view.read (Elt F) (arg24.view.writes (Elt F) G_arg24 (pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v176 k0_hw3 v177 c1_i32_93 X_arg14 X_arg15 X_arg16 X_arg17 G_arg22 G_arg23 G_arg24 k).2.2)⟩ : St F)
      = iter (lift (step4 v1 v176 k0_hw3 (arg14.view.read (Elt F) X_arg14) (arg15.view.read (Elt F) X_arg15) (arg16.view.read (Elt F) X_arg16) (arg17.view.read (Elt F) X_arg17))) k ⟨arg22.view.read (Elt F) G_arg22, arg23.view.read (Elt F) G_arg23, arg24.view.read (Elt F) G_arg24⟩
  | 0, _ => rfl
  | k + 1, hk => by
    have ih := pb4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v176 k0_hw3 v177 c1_i32_93 X_arg14 X_arg15 X_arg16 X_arg17 G_arg22 G_arg23 G_arg24 k (Nat.le_of_succ_le hk)
    have hs := pb_k0_t4_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v176 k0_hw3 v177 c1_i32_93 X_arg14 X_arg15 X_arg16 X_arg17 G_arg22 G_arg23 G_arg24 ⟨k, hk⟩
    dsimp only at hs
    rw [hs]
    simp only [View.writes_append, iter]
    rw [trip4_m, trip4_l, trip4_a, ← ih, show lift (step4 v1 v176 k0_hw3 (arg14.view.read (Elt F) X_arg14) (arg15.view.read (Elt F) X_arg15) (arg16.view.read (Elt F) X_arg16) (arg17.view.read (Elt F) X_arg17)) k = (step4 v1 v176 k0_hw3 (arg14.view.read (Elt F) X_arg14) (arg15.view.read (Elt F) X_arg15) (arg16.view.read (Elt F) X_arg16) (arg17.view.read (Elt F) X_arg17)) ⟨k, hk⟩ from funext fun S => dif_pos hk]

end Cert.KernelIdeal.Values

end
-- ==== Proof.KernelIdeal.Reads.lean ====
/- The three running arrays after each loop of the body, read off the pieces its stores leave, and the body's two outputs
   as functions of its input blocks and the table words. -/
module

public import proofs.«01_k».proof.Proof.KernelIdeal.LoopValues
public import proofs.«01_k».proof.Proof.KernelIdeal.Runs

@[expose] public section

set_option maxRecDepth 16384

noncomputable section

namespace Cert.KernelIdeal.Values

open Cert.KernelIdeal Cert.KernelIdeal.Gen
open Idealize.ShloMosaic Idealize.ShloMosaic.TcCoe Idealize.ShloMosaic.Tactic
open Idealize.SL Idealize.SL.RA Idealize.SL.BI

variable {F : FTy → Type} [FloatOps F] [Named F]

/-- A load of a whole running array reads what its stores left. -/
theorem readCov_whole {κ sp} (v : View sig κ sp S240x128 .f32) (L : List (View.Piece (Elt F) S240x128 .f32)) {off : Fin S240x128.rank → ℕ} (inb) (h : off = ![0, 0]) :
    v.readCov (Val := Elt F) L (Rect.unit off S240x128.size inb).toLoadRect = whole (v.read (Elt F) (v.writes (Elt F) v.junk L)) := by subst h; rfl

/-- A load of the first lane of a running array reads the first lane of what its stores left. -/
theorem readCov_col {κ sp} (v : View sig κ sp S240x128 .f32) (L : List (View.Piece (Elt F) S240x128 .f32)) {off : Fin S240x128.rank → ℕ} (inb) (h : off = ![0, 0]) :
    v.readCov (Val := Elt F) L (Rect.unit (s := S240x128) off S240x1.size inb).toLoadRect = col (v.read (Elt F) (v.writes (Elt F) v.junk L)) := by subst h; rfl

/-- The word of the group table that a grid point's sequence selects. -/
def groupWord (c : Dev nD) (i : grid0.Coords) (xt1 : Pipe.TbBuf0 (F := F) c Pipe.tbM0_1) : Elt F .i32 :=
  View.readAt (Elt F) Pipe.tbM0_1.view (Rect.unit (s := S64) (k0_off1 i) S1.size (k0_off1_inb i)).toLoadRect xt1
    (Shape.Idx.first (numel1_S1.symm ▸ Nat.zero_lt_one : 0 < S1.numel))

/-- The length of the group's key array. -/
def midWord (c : Dev nD) (i : grid0.Coords) (xt0 : Pipe.TbBuf0 (F := F) c Pipe.tbM0_0) (xt1 : Pipe.TbBuf0 (F := F) c Pipe.tbM0_1) (h : k0_chk1 (groupWord c i xt1)) : Elt F .i32 :=
  View.readAt (Elt F) Pipe.tbM0_0.view (Rect.unit (s := S7) (k0_off4 (groupWord c i xt1)) S1.size (k0_off4_inb _ h)).toLoadRect xt0 (Shape.Idx.first (numel1_S1.symm ▸ Nat.zero_lt_one : 0 < S1.numel))

/-- The length of the sequence's own key array. -/
def tailWord (c : Dev nD) (i : grid0.Coords) (xt2 : Pipe.TbBuf0 (F := F) c Pipe.tbM0_2) : Elt F .i32 :=
  View.readAt (Elt F) Pipe.tbM0_2.view (Rect.unit (s := S64) (k0_off9 i) S1.size (k0_off9_inb i)).toLoadRect xt2 (Shape.Idx.first (numel1_S1.symm ▸ Nat.zero_lt_one : 0 < S1.numel))

/-- The running arrays after all four levels: the new tokens, the prefix, the group's keys, the sequence's own. -/
def total (q : FVec F S240x128 .bf16) (x1 x2 : Vec F S1x1920x128 .fp8e4m3) (x3 x4 : Vec F S1x1x1920 .f32) (x5 x6 : Vec F S1x1x640x128 .fp8e4m3) (x7 x8 : Vec F S1x1x1x640 .f32)
    (x9 x10 : Vec F S1x1x1024x128 .fp8e4m3) (x11 x12 : Vec F S1x1x1x1024 .f32) (x13 x14 : Vec F S1x1x48x128 .bf16) (g : Elt F .i32) (hg : k0_chk2 g) (w : Elt F .i32) (hw : k0_chk3 w) : St F :=
  iter (lift (step4 q w hw x9 x10 x11 x12)) (k0_t4_loop w).trips
    (iter (lift (step2 q g hg x5 x6 x7 x8)) (k0_t2_loop g).trips
      (stepR q x1 x2 x3 x4
        (iter (lift (step1 q x1 x2 x3 x4)) k0_t1_loop.trips
          (stepN q x13 x14 init))))

/-- The attention block from the running arrays. -/
def outO (S : St F) : Vec F S1x1x240x128 .bf16 := k0_pay1 (k0_pay75 (whole S.l) (whole S.a))

/-- The block of the levels' shares from the running arrays. -/
def outW (S : St F) : Vec F S1x1x240x8 .f32 := k0_pay2 (whole S.l) (k0_pay74 (whole S.l))

/-- What the three running arrays read after stores of the pieces `L22`, `L23`, `L24`, the last first. -/
def rd (arg22 : Memref sig .tc .vmem S240x128 .f32) (arg23 : Memref sig .tc .vmem S240x128 .f32) (arg24 : Memref sig .tc .vmem S240x128 .f32)
    (L22 L23 L24 : List (View.Piece (Elt F) S240x128 .f32)) : St F :=
  ⟨arg22.view.read (Elt F) (arg22.view.writes (Elt F) arg22.view.junk L22), arg23.view.read (Elt F) (arg23.view.writes (Elt F) arg23.view.junk L23),
    arg24.view.read (Elt F) (arg24.view.writes (Elt F) arg24.view.junk L24)⟩

/-- After stores of whole arrays the running arrays read what was stored. -/
theorem rd_full (arg22 : Memref sig .tc .vmem S240x128 .f32) (arg23 : Memref sig .tc .vmem S240x128 .f32) (arg24 : Memref sig .tc .vmem S240x128 .f32)
    (inb : ∀ a, (![0, 0] : Fin 2 → ℕ) a + S240x128.size a ≤ S240x128.size a) (w22 w23 w24 : Vec F S240x128 .f32) (L22 L23 L24 : List (View.Piece (Elt F) S240x128 .f32)) :
    rd arg22 arg23 arg24 (⟨Rect.unit ![0, 0] S240x128.size inb, w22⟩ :: L22) (⟨Rect.unit ![0, 0] S240x128.size inb, w23⟩ :: L23) (⟨Rect.unit ![0, 0] S240x128.size inb, w24⟩ :: L24)
      = ⟨w22, w23, w24⟩ := by
  unfold rd
  rw [View.read_writes_full (s := S240x128), View.read_writes_full (s := S240x128), View.read_writes_full (s := S240x128)]

theorem iter_congr {step step' : ℕ → St F → St F} {N : ℕ} {S S' : St F} (h : S = S') (h' : step = step') : iter step N S = iter step' N S' := by
  subst h h'; rfl

/-- What the running arrays read after loop 1. -/
theorem loop1 (𝒱 : Variants) (c : Dev nD) (bd : Option 𝒱.V) (i : grid0.Coords) (arg2 : Memref sig .tc .smem S7 .i32) (harg2 : arg2.IsWhole) (arg3 : Memref sig .tc .smem S64 .i32) (harg3 : arg3.IsWhole) (arg4 : Memref sig .tc .smem S64 .i32) (harg4 : arg4.IsWhole) (arg5 : Memref sig .tc .vmem S1x1x240x128 .bf16) (harg5 : arg5.IsWhole) (arg6 : Memref sig .tc .vmem S1x1920x128 .fp8e4m3) (harg6 : arg6.IsWhole) (arg7 : Memref sig .tc .vmem S1x1920x128 .fp8e4m3) (harg7 : arg7.IsWhole) (arg8 : Memref sig .tc .vmem S1x1x1920 .f32) (harg8 : arg8.IsWhole) (arg9 : Memref sig .tc .vmem S1x1x1920 .f32) (harg9 : arg9.IsWhole) (arg10 : Memref sig .tc .vmem S1x1x640x128 .fp8e4m3) (harg10 : arg10.IsWhole) (arg11 : Memref sig .tc .vmem S1x1x640x128 .fp8e4m3) (harg11 : arg11.IsWhole) (arg12 : Memref sig .tc .vmem S1x1x1x640 .f32) (harg12 : arg12.IsWhole) (arg13 : Memref sig .tc .vmem S1x1x1x640 .f32) (harg13 : arg13.IsWhole) (arg14 : Memref sig .tc .vmem S1x1x1024x128 .fp8e4m3) (harg14 : arg14.IsWhole) (arg15 : Memref sig .tc .vmem S1x1x1024x128 .fp8e4m3) (harg15 : arg15.IsWhole) (arg16 : Memref sig .tc .vmem S1x1x1x1024 .f32) (harg16 : arg16.IsWhole) (arg17 : Memref sig .tc .vmem S1x1x1x1024 .f32) (harg17 : arg17.IsWhole) (arg18 : Memref sig .tc .vmem S1x1x48x128 .bf16) (harg18 : arg18.IsWhole) (arg19 : Memref sig .tc .vmem S1x1x48x128 .bf16) (harg19 : arg19.IsWhole) (arg20 : Memref sig .tc .vmem S1x1x240x128 .bf16) (harg20 : arg20.IsWhole) (arg21 : Memref sig .tc .vmem S1x1x240x8 .f32) (harg21 : arg21.IsWhole) (arg22 : Memref sig .tc .vmem S240x128 .f32) (harg22 : arg22.IsWhole) (arg23 : Memref sig .tc .vmem S240x128 .f32) (harg23 : arg23.IsWhole) (arg24 : Memref sig .tc .vmem S240x128 .f32) (harg24 : arg24.IsWhole) (v1 : FVec F S240x128 .bf16) (v45 : FVec F S240x1 .f32) (v68 : FVec F S240x128 .f32) (v69 : Vec F S240x128 .f32) (v70 : FVec F S240x128 .f32) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (L22 L23 L24 : List (View.Piece (Elt F) S240x128 .f32))  (N : ℕ) (hN : N = k0_t1_loop.trips) :
    rd arg22 arg23 arg24 ((pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v45 v68 v69 v70 X_arg6 X_arg7 X_arg8 X_arg9 (arg22.view.writes (Elt F) arg22.view.junk L22) (arg23.view.writes (Elt F) arg23.view.junk L23) (arg24.view.writes (Elt F) arg24.view.junk L24) N).1 ++ L22) ((pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v45 v68 v69 v70 X_arg6 X_arg7 X_arg8 X_arg9 (arg22.view.writes (Elt F) arg22.view.junk L22) (arg23.view.writes (Elt F) arg23.view.junk L23) (arg24.view.writes (Elt F) arg24.view.junk L24) N).2.1 ++ L23) ((pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v45 v68 v69 v70 X_arg6 X_arg7 X_arg8 X_arg9 (arg22.view.writes (Elt F) arg22.view.junk L22) (arg23.view.writes (Elt F) arg23.view.junk L23) (arg24.view.writes (Elt F) arg24.view.junk L24) N).2.2 ++ L24)
      = iter (lift (step1 v1 (arg6.view.read (Elt F) X_arg6) (arg7.view.read (Elt F) X_arg7) (arg8.view.read (Elt F) X_arg8) (arg9.view.read (Elt F) X_arg9))) k0_t1_loop.trips (rd arg22 arg23 arg24 L22 L23 L24) := by
  subst hN; unfold rd; simp only [View.writes_append]
  exact pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v45 v68 v69 v70 X_arg6 X_arg7 X_arg8 X_arg9 (arg22.view.writes (Elt F) arg22.view.junk L22) (arg23.view.writes (Elt F) arg23.view.junk L23) (arg24.view.writes (Elt F) arg24.view.junk L24) _ le_rfl

/-- What the running arrays read after loop 2. -/
theorem loop2 (𝒱 : Variants) (c : Dev nD) (bd : Option 𝒱.V) (i : grid0.Coords) (arg2 : Memref sig .tc .smem S7 .i32) (harg2 : arg2.IsWhole) (arg3 : Memref sig .tc .smem S64 .i32) (harg3 : arg3.IsWhole) (arg4 : Memref sig .tc .smem S64 .i32) (harg4 : arg4.IsWhole) (arg5 : Memref sig .tc .vmem S1x1x240x128 .bf16) (harg5 : arg5.IsWhole) (arg6 : Memref sig .tc .vmem S1x1920x128 .fp8e4m3) (harg6 : arg6.IsWhole) (arg7 : Memref sig .tc .vmem S1x1920x128 .fp8e4m3) (harg7 : arg7.IsWhole) (arg8 : Memref sig .tc .vmem S1x1x1920 .f32) (harg8 : arg8.IsWhole) (arg9 : Memref sig .tc .vmem S1x1x1920 .f32) (harg9 : arg9.IsWhole) (arg10 : Memref sig .tc .vmem S1x1x640x128 .fp8e4m3) (harg10 : arg10.IsWhole) (arg11 : Memref sig .tc .vmem S1x1x640x128 .fp8e4m3) (harg11 : arg11.IsWhole) (arg12 : Memref sig .tc .vmem S1x1x1x640 .f32) (harg12 : arg12.IsWhole) (arg13 : Memref sig .tc .vmem S1x1x1x640 .f32) (harg13 : arg13.IsWhole) (arg14 : Memref sig .tc .vmem S1x1x1024x128 .fp8e4m3) (harg14 : arg14.IsWhole) (arg15 : Memref sig .tc .vmem S1x1x1024x128 .fp8e4m3) (harg15 : arg15.IsWhole) (arg16 : Memref sig .tc .vmem S1x1x1x1024 .f32) (harg16 : arg16.IsWhole) (arg17 : Memref sig .tc .vmem S1x1x1x1024 .f32) (harg17 : arg17.IsWhole) (arg18 : Memref sig .tc .vmem S1x1x48x128 .bf16) (harg18 : arg18.IsWhole) (arg19 : Memref sig .tc .vmem S1x1x48x128 .bf16) (harg19 : arg19.IsWhole) (arg20 : Memref sig .tc .vmem S1x1x240x128 .bf16) (harg20 : arg20.IsWhole) (arg21 : Memref sig .tc .vmem S1x1x240x8 .f32) (harg21 : arg21.IsWhole) (arg22 : Memref sig .tc .vmem S240x128 .f32) (harg22 : arg22.IsWhole) (arg23 : Memref sig .tc .vmem S240x128 .f32) (harg23 : arg23.IsWhole) (arg24 : Memref sig .tc .vmem S240x128 .f32) (harg24 : arg24.IsWhole) (arg1 : BitVec 32) (v1 : FVec F S240x128 .bf16) (v146 : Elt F .i32) (k0_hw2 : k0_chk2 v146) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (L22 L23 L24 : List (View.Piece (Elt F) S240x128 .f32))  (N : ℕ) (hN : N = (k0_t2_loop v146).trips) :
    rd arg22 arg23 arg24 ((pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v1 v146 k0_hw2 X_arg10 X_arg11 X_arg12 X_arg13 (arg22.view.writes (Elt F) arg22.view.junk L22) (arg23.view.writes (Elt F) arg23.view.junk L23) (arg24.view.writes (Elt F) arg24.view.junk L24) N).1 ++ L22) ((pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v1 v146 k0_hw2 X_arg10 X_arg11 X_arg12 X_arg13 (arg22.view.writes (Elt F) arg22.view.junk L22) (arg23.view.writes (Elt F) arg23.view.junk L23) (arg24.view.writes (Elt F) arg24.view.junk L24) N).2.1 ++ L23) ((pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v1 v146 k0_hw2 X_arg10 X_arg11 X_arg12 X_arg13 (arg22.view.writes (Elt F) arg22.view.junk L22) (arg23.view.writes (Elt F) arg23.view.junk L23) (arg24.view.writes (Elt F) arg24.view.junk L24) N).2.2 ++ L24)
      = iter (lift (step2 v1 v146 k0_hw2 (arg10.view.read (Elt F) X_arg10) (arg11.view.read (Elt F) X_arg11) (arg12.view.read (Elt F) X_arg12) (arg13.view.read (Elt F) X_arg13))) (k0_t2_loop v146).trips (rd arg22 arg23 arg24 L22 L23 L24) := by
  subst hN; unfold rd; simp only [View.writes_append]
  exact pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v1 v146 k0_hw2 X_arg10 X_arg11 X_arg12 X_arg13 (arg22.view.writes (Elt F) arg22.view.junk L22) (arg23.view.writes (Elt F) arg23.view.junk L23) (arg24.view.writes (Elt F) arg24.view.junk L24) _ le_rfl

/-- What the running arrays read after loop 4. -/
theorem loop4 (𝒱 : Variants) (c : Dev nD) (bd : Option 𝒱.V) (i : grid0.Coords) (arg2 : Memref sig .tc .smem S7 .i32) (harg2 : arg2.IsWhole) (arg3 : Memref sig .tc .smem S64 .i32) (harg3 : arg3.IsWhole) (arg4 : Memref sig .tc .smem S64 .i32) (harg4 : arg4.IsWhole) (arg5 : Memref sig .tc .vmem S1x1x240x128 .bf16) (harg5 : arg5.IsWhole) (arg6 : Memref sig .tc .vmem S1x1920x128 .fp8e4m3) (harg6 : arg6.IsWhole) (arg7 : Memref sig .tc .vmem S1x1920x128 .fp8e4m3) (harg7 : arg7.IsWhole) (arg8 : Memref sig .tc .vmem S1x1x1920 .f32) (harg8 : arg8.IsWhole) (arg9 : Memref sig .tc .vmem S1x1x1920 .f32) (harg9 : arg9.IsWhole) (arg10 : Memref sig .tc .vmem S1x1x640x128 .fp8e4m3) (harg10 : arg10.IsWhole) (arg11 : Memref sig .tc .vmem S1x1x640x128 .fp8e4m3) (harg11 : arg11.IsWhole) (arg12 : Memref sig .tc .vmem S1x1x1x640 .f32) (harg12 : arg12.IsWhole) (arg13 : Memref sig .tc .vmem S1x1x1x640 .f32) (harg13 : arg13.IsWhole) (arg14 : Memref sig .tc .vmem S1x1x1024x128 .fp8e4m3) (harg14 : arg14.IsWhole) (arg15 : Memref sig .tc .vmem S1x1x1024x128 .fp8e4m3) (harg15 : arg15.IsWhole) (arg16 : Memref sig .tc .vmem S1x1x1x1024 .f32) (harg16 : arg16.IsWhole) (arg17 : Memref sig .tc .vmem S1x1x1x1024 .f32) (harg17 : arg17.IsWhole) (arg18 : Memref sig .tc .vmem S1x1x48x128 .bf16) (harg18 : arg18.IsWhole) (arg19 : Memref sig .tc .vmem S1x1x48x128 .bf16) (harg19 : arg19.IsWhole) (arg20 : Memref sig .tc .vmem S1x1x240x128 .bf16) (harg20 : arg20.IsWhole) (arg21 : Memref sig .tc .vmem S1x1x240x8 .f32) (harg21 : arg21.IsWhole) (arg22 : Memref sig .tc .vmem S240x128 .f32) (harg22 : arg22.IsWhole) (arg23 : Memref sig .tc .vmem S240x128 .f32) (harg23 : arg23.IsWhole) (arg24 : Memref sig .tc .vmem S240x128 .f32) (harg24 : arg24.IsWhole) (v1 : FVec F S240x128 .bf16) (v176 : Elt F .i32) (k0_hw3 : k0_chk3 v176) (v177 : BitVec 32) (c1_i32_93 : BitVec 32) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (L22 L23 L24 : List (View.Piece (Elt F) S240x128 .f32))  (N : ℕ) (hN : N = (k0_t4_loop v176).trips) :
    rd arg22 arg23 arg24 ((pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v176 k0_hw3 v177 c1_i32_93 X_arg14 X_arg15 X_arg16 X_arg17 (arg22.view.writes (Elt F) arg22.view.junk L22) (arg23.view.writes (Elt F) arg23.view.junk L23) (arg24.view.writes (Elt F) arg24.view.junk L24) N).1 ++ L22) ((pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v176 k0_hw3 v177 c1_i32_93 X_arg14 X_arg15 X_arg16 X_arg17 (arg22.view.writes (Elt F) arg22.view.junk L22) (arg23.view.writes (Elt F) arg23.view.junk L23) (arg24.view.writes (Elt F) arg24.view.junk L24) N).2.1 ++ L23) ((pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v176 k0_hw3 v177 c1_i32_93 X_arg14 X_arg15 X_arg16 X_arg17 (arg22.view.writes (Elt F) arg22.view.junk L22) (arg23.view.writes (Elt F) arg23.view.junk L23) (arg24.view.writes (Elt F) arg24.view.junk L24) N).2.2 ++ L24)
      = iter (lift (step4 v1 v176 k0_hw3 (arg14.view.read (Elt F) X_arg14) (arg15.view.read (Elt F) X_arg15) (arg16.view.read (Elt F) X_arg16) (arg17.view.read (Elt F) X_arg17))) (k0_t4_loop v176).trips (rd arg22 arg23 arg24 L22 L23 L24) := by
  subst hN; unfold rd; simp only [View.writes_append]
  exact pb4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v176 k0_hw3 v177 c1_i32_93 X_arg14 X_arg15 X_arg16 X_arg17 (arg22.view.writes (Elt F) arg22.view.junk L22) (arg23.view.writes (Elt F) arg23.view.junk L23) (arg24.view.writes (Elt F) arg24.view.junk L24) _ le_rfl

/-- Loop 3 runs no trip, so the running arrays are what they were. -/
theorem loop3 (𝒱 : Variants) (c : Dev nD) (bd : Option 𝒱.V) (i : grid0.Coords) (arg2 : Memref sig .tc .smem S7 .i32) (harg2 : arg2.IsWhole) (arg3 : Memref sig .tc .smem S64 .i32) (harg3 : arg3.IsWhole) (arg4 : Memref sig .tc .smem S64 .i32) (harg4 : arg4.IsWhole) (arg5 : Memref sig .tc .vmem S1x1x240x128 .bf16) (harg5 : arg5.IsWhole) (arg6 : Memref sig .tc .vmem S1x1920x128 .fp8e4m3) (harg6 : arg6.IsWhole) (arg7 : Memref sig .tc .vmem S1x1920x128 .fp8e4m3) (harg7 : arg7.IsWhole) (arg8 : Memref sig .tc .vmem S1x1x1920 .f32) (harg8 : arg8.IsWhole) (arg9 : Memref sig .tc .vmem S1x1x1920 .f32) (harg9 : arg9.IsWhole) (arg10 : Memref sig .tc .vmem S1x1x640x128 .fp8e4m3) (harg10 : arg10.IsWhole) (arg11 : Memref sig .tc .vmem S1x1x640x128 .fp8e4m3) (harg11 : arg11.IsWhole) (arg12 : Memref sig .tc .vmem S1x1x1x640 .f32) (harg12 : arg12.IsWhole) (arg13 : Memref sig .tc .vmem S1x1x1x640 .f32) (harg13 : arg13.IsWhole) (arg14 : Memref sig .tc .vmem S1x1x1024x128 .fp8e4m3) (harg14 : arg14.IsWhole) (arg15 : Memref sig .tc .vmem S1x1x1024x128 .fp8e4m3) (harg15 : arg15.IsWhole) (arg16 : Memref sig .tc .vmem S1x1x1x1024 .f32) (harg16 : arg16.IsWhole) (arg17 : Memref sig .tc .vmem S1x1x1x1024 .f32) (harg17 : arg17.IsWhole) (arg18 : Memref sig .tc .vmem S1x1x48x128 .bf16) (harg18 : arg18.IsWhole) (arg19 : Memref sig .tc .vmem S1x1x48x128 .bf16) (harg19 : arg19.IsWhole) (arg20 : Memref sig .tc .vmem S1x1x240x128 .bf16) (harg20 : arg20.IsWhole) (arg21 : Memref sig .tc .vmem S1x1x240x8 .f32) (harg21 : arg21.IsWhole) (arg22 : Memref sig .tc .vmem S240x128 .f32) (harg22 : arg22.IsWhole) (arg23 : Memref sig .tc .vmem S240x128 .f32) (harg23 : arg23.IsWhole) (arg24 : Memref sig .tc .vmem S240x128 .f32) (harg24 : arg24.IsWhole) (arg1 : BitVec 32) (v1 : FVec F S240x128 .bf16) (v146 : Elt F .i32) (k0_hw2 : k0_chk2 v146) (v174 : BitVec 32) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (L22 L23 L24 : List (View.Piece (Elt F) S240x128 .f32)) (N : ℕ) (hN : N = (k0_t3_loop v146).trips) :
    rd arg22 arg23 arg24 ((pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v1 v146 k0_hw2 v174 X_arg10 X_arg11 X_arg12 X_arg13 (arg22.view.writes (Elt F) arg22.view.junk L22) (arg23.view.writes (Elt F) arg23.view.junk L23) (arg24.view.writes (Elt F) arg24.view.junk L24) N).1 ++ L22) ((pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v1 v146 k0_hw2 v174 X_arg10 X_arg11 X_arg12 X_arg13 (arg22.view.writes (Elt F) arg22.view.junk L22) (arg23.view.writes (Elt F) arg23.view.junk L23) (arg24.view.writes (Elt F) arg24.view.junk L24) N).2.1 ++ L23) ((pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v1 v146 k0_hw2 v174 X_arg10 X_arg11 X_arg12 X_arg13 (arg22.view.writes (Elt F) arg22.view.junk L22) (arg23.view.writes (Elt F) arg23.view.junk L23) (arg24.view.writes (Elt F) arg24.view.junk L24) N).2.2 ++ L24) = rd arg22 arg23 arg24 L22 L23 L24 := by
  rw [hN, Words.t3_trips v146]; rfl

/-- Loop 5 runs no trip, so the running arrays are what they were. -/
theorem loop5 (𝒱 : Variants) (c : Dev nD) (bd : Option 𝒱.V) (i : grid0.Coords) (arg2 : Memref sig .tc .smem S7 .i32) (harg2 : arg2.IsWhole) (arg3 : Memref sig .tc .smem S64 .i32) (harg3 : arg3.IsWhole) (arg4 : Memref sig .tc .smem S64 .i32) (harg4 : arg4.IsWhole) (arg5 : Memref sig .tc .vmem S1x1x240x128 .bf16) (harg5 : arg5.IsWhole) (arg6 : Memref sig .tc .vmem S1x1920x128 .fp8e4m3) (harg6 : arg6.IsWhole) (arg7 : Memref sig .tc .vmem S1x1920x128 .fp8e4m3) (harg7 : arg7.IsWhole) (arg8 : Memref sig .tc .vmem S1x1x1920 .f32) (harg8 : arg8.IsWhole) (arg9 : Memref sig .tc .vmem S1x1x1920 .f32) (harg9 : arg9.IsWhole) (arg10 : Memref sig .tc .vmem S1x1x640x128 .fp8e4m3) (harg10 : arg10.IsWhole) (arg11 : Memref sig .tc .vmem S1x1x640x128 .fp8e4m3) (harg11 : arg11.IsWhole) (arg12 : Memref sig .tc .vmem S1x1x1x640 .f32) (harg12 : arg12.IsWhole) (arg13 : Memref sig .tc .vmem S1x1x1x640 .f32) (harg13 : arg13.IsWhole) (arg14 : Memref sig .tc .vmem S1x1x1024x128 .fp8e4m3) (harg14 : arg14.IsWhole) (arg15 : Memref sig .tc .vmem S1x1x1024x128 .fp8e4m3) (harg15 : arg15.IsWhole) (arg16 : Memref sig .tc .vmem S1x1x1x1024 .f32) (harg16 : arg16.IsWhole) (arg17 : Memref sig .tc .vmem S1x1x1x1024 .f32) (harg17 : arg17.IsWhole) (arg18 : Memref sig .tc .vmem S1x1x48x128 .bf16) (harg18 : arg18.IsWhole) (arg19 : Memref sig .tc .vmem S1x1x48x128 .bf16) (harg19 : arg19.IsWhole) (arg20 : Memref sig .tc .vmem S1x1x240x128 .bf16) (harg20 : arg20.IsWhole) (arg21 : Memref sig .tc .vmem S1x1x240x8 .f32) (harg21 : arg21.IsWhole) (arg22 : Memref sig .tc .vmem S240x128 .f32) (harg22 : arg22.IsWhole) (arg23 : Memref sig .tc .vmem S240x128 .f32) (harg23 : arg23.IsWhole) (arg24 : Memref sig .tc .vmem S240x128 .f32) (harg24 : arg24.IsWhole) (v1 : FVec F S240x128 .bf16) (v176 : Elt F .i32) (k0_hw3 : k0_chk3 v176) (v177 : BitVec 32) (c1_i32_93 : BitVec 32) (v204 : BitVec 32) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (L22 L23 L24 : List (View.Piece (Elt F) S240x128 .f32)) (N : ℕ) (hN : N = (k0_t5_loop v176).trips) :
    rd arg22 arg23 arg24 ((pb_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v176 k0_hw3 v177 c1_i32_93 v204 X_arg14 X_arg15 X_arg16 X_arg17 (arg22.view.writes (Elt F) arg22.view.junk L22) (arg23.view.writes (Elt F) arg23.view.junk L23) (arg24.view.writes (Elt F) arg24.view.junk L24) N).1 ++ L22) ((pb_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v176 k0_hw3 v177 c1_i32_93 v204 X_arg14 X_arg15 X_arg16 X_arg17 (arg22.view.writes (Elt F) arg22.view.junk L22) (arg23.view.writes (Elt F) arg23.view.junk L23) (arg24.view.writes (Elt F) arg24.view.junk L24) N).2.1 ++ L23) ((pb_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v176 k0_hw3 v177 c1_i32_93 v204 X_arg14 X_arg15 X_arg16 X_arg17 (arg22.view.writes (Elt F) arg22.view.junk L22) (arg23.view.writes (Elt F) arg23.view.junk L23) (arg24.view.writes (Elt F) arg24.view.junk L24) N).2.2 ++ L24) = rd arg22 arg23 arg24 L22 L23 L24 := by
  rw [hN, Words.t5_trips v176]; rfl

end Cert.KernelIdeal.Values

end
-- ==== Proof.Softmax.lean ====
/- The softmax taken chunk by chunk over the extended reals: a running maximum, running sums rescaled whenever the maximum
   grows, and the whole sums they equal. -/
module

public import Idealize.ShloMosaic.PureOps.Ideal
public import Mathlib.Data.EReal.Operations
public import Mathlib.Data.EReal.Inv
public import Mathlib.Analysis.SpecialFunctions.Pow.Real
public import Mathlib.Algebra.BigOperators.Fin
public import Mathlib.Data.Finset.Lattice.Fold

@[expose] public section

noncomputable section

namespace Cert.Soft

open Idealize.ShloMosaic Finset

/-- The weight of a score `s` against a maximum `M`, base two. -/
def e (s M : EReal) : EReal := Ideal.exp2 (s - M)

theorem e_bot (M : EReal) : e ⊥ M = 0 := by rw [e, EReal.bot_sub]; rfl

theorem e_top (s : EReal) : e s ⊤ = 0 := by
  rw [e, sub_eq_add_neg, EReal.neg_top, EReal.add_bot]; rfl

theorem exp2_nonneg (x : EReal) : 0 ≤ Ideal.exp2 x := by
  induction x with
  | bot => exact le_refl _
  | top => exact le_top
  | coe r => exact EReal.coe_nonneg.2 (Real.rpow_nonneg (by norm_num) r)

theorem e_nonneg (s M : EReal) : 0 ≤ e s M := exp2_nonneg _

/-- Against a maximum at least the score a weight is finite. -/
theorem e_ne_top {s M : EReal} (h : s ≤ M) : e s M ≠ ⊤ := by
  induction M with
  | top => rw [e_top]; exact EReal.zero_ne_top
  | bot => rw [le_bot_iff.1 h, e_bot]; exact EReal.zero_ne_top
  | coe b =>
    induction s with
    | top => exact absurd h (by simp)
    | bot => rw [e_bot]; exact EReal.zero_ne_top
    | coe a => rw [e, ← EReal.coe_sub]; exact EReal.coe_ne_top _

/-- Rescaling: the weight against a maximum times the old maximum's weight against the new one is the weight against the new one. -/
theorem e_mul {s M M' : EReal} (h : s ≤ M) (h' : M ≤ M') : e s M * e M M' = e s M' := by
  induction M' with
  | top => rw [e_top, e_top, mul_zero]
  | bot => rw [le_bot_iff.1 h'] at h ⊢; rw [le_bot_iff.1 h, e_bot, zero_mul]
  | coe c =>
    induction M with
    | top => exact absurd h' (by simp)
    | bot => rw [le_bot_iff.1 h, e_bot, zero_mul, e_bot]
    | coe b =>
      induction s with
      | top => exact absurd h (by simp)
      | bot => rw [e_bot, zero_mul, e_bot]
      | coe a =>
        simp only [e, ← EReal.coe_sub, Ideal.exp2_coe]
        rw [← EReal.coe_mul]
        congr 1
        show (2:ℝ) ^ (a - b) * (2:ℝ) ^ (b - c) = (2:ℝ) ^ (a - c)
        rw [← Real.rpow_add (by norm_num)]; congr 1; ring

/-- A finite nonnegative factor goes into a sum. -/
theorem sum_mul_fin {ι : Type} (S : Finset ι) (f : ι → EReal) {x : EReal} (h0 : 0 ≤ x) (h1 : x ≠ ⊤) :
    (∑ i ∈ S, f i) * x = ∑ i ∈ S, f i * x := by
  classical
  induction S using Finset.induction_on with
  | empty => simp
  | insert a S ha ih => rw [sum_insert ha, sum_insert ha, EReal.right_distrib_of_nonneg_of_ne_top h0 h1, ih]

/-- A supremum over the first `n + w` numbers, cut at `n`. -/
theorem sup_range_add (f : ℕ → EReal) (n w : ℕ) : (range (n + w)).sup f = max ((range n).sup f) (univ.sup fun t : Fin w => f (n + t)) := by
  apply le_antisymm
  · refine Finset.sup_le fun j hj => ?_
    by_cases h : j < n
    · exact le_max_of_le_left (Finset.le_sup (f := f) (mem_range.2 h))
    · have hj' := mem_range.1 hj
      refine le_max_of_le_right ?_
      have := Finset.le_sup (f := fun t : Fin w => f (n + t)) (mem_univ (⟨j - n, by omega⟩ : Fin w))
      simpa only [show n + (j - n) = j by omega] using this
  · refine max_le (Finset.sup_mono (range_mono (Nat.le_add_right _ _))) (Finset.sup_le fun t _ => ?_)
    exact Finset.le_sup (f := f) (mem_range.2 (by have := t.isLt; omega))

/-- A sum over the first `n + w` numbers, cut at `n`. -/
theorem sum_range_add' (f : ℕ → EReal) (n w : ℕ) : ∑ j ∈ range (n + w), f j = ∑ j ∈ range n, f j + ∑ t : Fin w, f (n + t) := by
  induction w with
  | zero => simp
  | succ w ih => rw [← Nat.add_assoc, sum_range_succ, ih, Fin.sum_univ_castSucc, add_assoc]; rfl

variable (u c : ℕ → ℕ → EReal) (v : ℕ → ℕ → Fin 128 → EReal)

/-- The greatest score among the first `n i` tokens of each level `i`. -/
def top (n : ℕ → ℕ) : EReal := (range 4).sup fun i => (range (n i)).sup (u i)

/-- The sum of the weights of a level's first tokens against `M`. -/
def lsum (n : ℕ → ℕ) (M : EReal) (i : ℕ) : EReal := ∑ j ∈ range (n i), e (u i j) M

/-- The weighted sum of the values of all levels' first tokens against `M`. -/
def asum (n : ℕ → ℕ) (M : EReal) (d : Fin 128) : EReal := ∑ i ∈ range 4, ∑ j ∈ range (n i), e (u i j) M * c i j * v i j d

theorem le_top' {n : ℕ → ℕ} {i j : ℕ} (hi : i < 4) (hj : j < n i) : u i j ≤ top u n :=
  (Finset.le_sup (f := u i) (mem_range.2 hj)).trans (Finset.le_sup (f := fun i => (range (n i)).sup (u i)) (mem_range.2 hi))

theorem top_update (n : ℕ → ℕ) (lv w : ℕ) (hl : lv < 4) :
    top u (Function.update n lv (n lv + w)) = max (top u n) (univ.sup fun t : Fin w => u lv (n lv + t)) := by
  apply le_antisymm
  · refine Finset.sup_le fun i hi => ?_
    by_cases h : i = lv
    · subst h; rw [Function.update_self, sup_range_add]
      exact max_le_max (Finset.le_sup (f := fun i => (range (n i)).sup (u i)) hi) le_rfl
    · rw [Function.update_of_ne h]
      exact le_max_of_le_left (Finset.le_sup (f := fun i => (range (n i)).sup (u i)) hi)
  · refine max_le (Finset.sup_le fun i hi => ?_) (Finset.sup_le fun t _ => ?_)
    · refine le_trans ?_ (Finset.le_sup (f := fun i => (range (Function.update n lv (n lv + w) i)).sup (u i)) hi)
      refine Finset.sup_mono (range_mono ?_)
      by_cases h : i = lv
      · subst h; rw [Function.update_self]; omega
      · rw [Function.update_of_ne h]
    · refine le_top' u (n := Function.update n lv (n lv + w)) hl ?_
      rw [Function.update_self]; have := t.isLt; omega

theorem lsum_scale (n : ℕ → ℕ) {M' : EReal} (h : top u n ≤ M') {i : ℕ} (hi : i < 4) : lsum u n (top u n) i * e (top u n) M' = lsum u n M' i := by
  rw [lsum, sum_mul_fin _ _ (e_nonneg _ _) (e_ne_top h)]
  exact sum_congr rfl fun j hj => e_mul (le_top' u hi (mem_range.1 hj)) h

theorem asum_scale (n : ℕ → ℕ) {M' : EReal} (h : top u n ≤ M') (d : Fin 128) : asum u c v n (top u n) d * e (top u n) M' = asum u c v n M' d := by
  rw [asum, sum_mul_fin _ _ (e_nonneg _ _) (e_ne_top h)]
  refine sum_congr rfl fun i hi => ?_
  rw [sum_mul_fin _ _ (e_nonneg _ _) (e_ne_top h)]
  refine sum_congr rfl fun j hj => ?_
  rw [← e_mul (le_top' u (mem_range.1 hi) (mem_range.1 hj)) h, mul_right_comm, mul_right_comm (e _ _)]

theorem lsum_update (n : ℕ → ℕ) (lv w : ℕ) (M : EReal) (i : ℕ) :
    lsum u (Function.update n lv (n lv + w)) M i = lsum u n M i + if i = lv then ∑ t : Fin w, e (u lv (n lv + t)) M else 0 := by
  unfold lsum
  by_cases h : i = lv
  · subst h; rw [Function.update_self, if_pos rfl, sum_range_add']
  · rw [Function.update_of_ne h, if_neg h, add_zero]

theorem asum_update (n : ℕ → ℕ) (lv w : ℕ) (hl : lv < 4) (M : EReal) (d : Fin 128) :
    asum u c v (Function.update n lv (n lv + w)) M d = asum u c v n M d + ∑ t : Fin w, e (u lv (n lv + t)) M * c lv (n lv + t) * v lv (n lv + t) d := by
  unfold asum
  rw [← Finset.add_sum_erase _ _ (mem_range.2 hl), ← Finset.add_sum_erase (range 4) (fun i => ∑ j ∈ range (n i), _) (mem_range.2 hl), Function.update_self,
    sum_range_add' (fun j => e (u lv j) M * c lv j * v lv j d)]
  have h : ∀ i ∈ (range 4).erase lv, ∑ j ∈ range (Function.update n lv (n lv + w) i), e (u i j) M * c i j * v i j d = ∑ j ∈ range (n i), e (u i j) M * c i j * v i j d :=
    fun i hi => by rw [Function.update_of_ne (ne_of_mem_erase hi)]
  rw [sum_congr rfl h]
  rw [add_right_comm]

/-- A row of the running arrays holds the softmax sums of the first `n i` tokens of each level `i`: the maximum in every lane,
    level `i`'s sum in lane `i`, the weighted values. -/
structure Holds (n : ℕ → ℕ) (m l a : Fin 128 → EReal) : Prop where
  four : ∀ i, 4 ≤ i → n i = 0
  m_eq : ∀ d, m d = top u n
  l_eq : ∀ d : Fin 128, l d = lsum u n (top u n) d
  a_eq : ∀ d, a d = asum u c v n (top u n) d

variable {u c v}

/-- One chunk of `w` tokens of level `lv` keeps a row's running arrays the softmax sums. -/
theorem Holds.step {n : ℕ → ℕ} {m l a m' l' a' : Fin 128 → EReal} (H : Holds u c v n m l a) (lv w : ℕ) (hl : lv < 4) (x y : Fin w → EReal) (z : Fin w → Fin 128 → EReal)
    (hx : ∀ t : Fin w, x t = u lv (n lv + t)) (hy : ∀ t : Fin w, y t = c lv (n lv + t)) (hz : ∀ (t : Fin w) d, z t d = v lv (n lv + t) d)
    (hm : ∀ d, m' d = max (m 0) (univ.sup x))
    (hl' : ∀ d : Fin 128, l' d = l d * e (m 0) (max (m 0) (univ.sup x)) + if d.val = lv then ∑ t, e (x t) (max (m 0) (univ.sup x)) else 0)
    (ha : ∀ d, a' d = a d * e (m 0) (max (m 0) (univ.sup x)) + ∑ t, e (x t) (max (m 0) (univ.sup x)) * y t * z t d) :
    Holds u c v (Function.update n lv (n lv + w)) m' l' a' := by
  have hsup : max (m 0) (univ.sup x) = top u (Function.update n lv (n lv + w)) := by
    rw [top_update u n lv w hl, H.m_eq, show x = fun t : Fin w => u lv (n lv + t) from funext hx]
  have hle : top u n ≤ top u (Function.update n lv (n lv + w)) := by rw [top_update u n lv w hl]; exact le_max_left _ _
  refine ⟨fun i hi => ?_, fun d => ?_, fun d => ?_, fun d => ?_⟩
  · rw [Function.update_of_ne (by omega)]; exact H.four i hi
  · rw [hm, hsup]
  · rw [hl', hsup, H.l_eq, H.m_eq, lsum_update]
    congr 1
    · by_cases hd : d.val < 4
      · exact lsum_scale u n hle hd
      · unfold lsum; rw [H.four _ (by omega)]; simp
    · simp only [hx]
  · rw [ha, hsup, H.a_eq, H.m_eq, asum_scale u c v n hle, asum_update u c v n lv w hl]
    simp only [hx, hy, hz]

/-- The arrays before the first chunk. -/
theorem Holds.init {m l a : Fin 128 → EReal} (hm : ∀ d, m d = ⊥) (hl : ∀ d, l d = 0) (ha : ∀ d, a d = 0) : Holds u c v (fun _ => 0) m l a :=
  ⟨fun _ _ => rfl, fun d => by rw [hm]; simp [top], fun d => by rw [hl]; simp [lsum], fun d => by rw [ha]; simp [asum]⟩

end Cert.Soft

end
-- ==== Proof.Joint.lean ====
/- The sums the chunked softmax ends with, read as the softmax of four levels taken at once with base `e`. -/
module

public import proofs.«01_k».proof.Proof.Softmax

@[expose] public section

noncomputable section

namespace Cert.Soft

open Idealize.ShloMosaic Finset

/-- The reciprocal of the natural logarithm of two. -/
def il2 : EReal := (((Real.log 2)⁻¹ : ℝ) : EReal)

theorem il2_pos : (0 : ℝ) < (Real.log 2)⁻¹ := inv_pos.2 (Real.log_pos (by norm_num))

theorem top_mul_il2 : (⊤ : EReal) * il2 = ⊤ := EReal.top_mul_coe_of_pos il2_pos

theorem bot_mul_il2 : (⊥ : EReal) * il2 = ⊥ := EReal.bot_mul_coe_of_pos il2_pos

/-- Base two after the scaling is base `e`. -/
theorem exp2_mul_il2 (x : EReal) : Ideal.exp2 (x * il2) = Ideal.exp x := by
  induction x with
  | bot => rw [bot_mul_il2]; rfl
  | top => rw [top_mul_il2]; rfl
  | coe r =>
    rw [il2, ← EReal.coe_mul]
    show (((2:ℝ) ^ (r * (Real.log 2)⁻¹) : ℝ) : EReal) = ((Real.exp r : ℝ) : EReal)
    rw [Real.rpow_def_of_pos (by norm_num)]
    congr 2
    have h : Real.log 2 ≠ 0 := (Real.log_pos (by norm_num)).ne'
    field_simp

theorem sub_mul_il2 (x y : EReal) : x * il2 - y * il2 = (x - y) * il2 := by
  induction x with
  | bot => rw [bot_mul_il2, EReal.bot_sub, EReal.bot_sub, bot_mul_il2]
  | top =>
    induction y with
    | bot => rw [bot_mul_il2, top_mul_il2, sub_eq_add_neg, EReal.neg_bot, EReal.top_add_top, top_mul_il2]
    | top => rw [top_mul_il2, sub_eq_add_neg, EReal.neg_top, EReal.add_bot, bot_mul_il2]
    | coe b => rw [top_mul_il2, il2, ← EReal.coe_mul, EReal.top_sub_coe, EReal.top_sub_coe, ← il2, top_mul_il2]
  | coe a =>
    induction y with
    | bot => rw [bot_mul_il2, il2, ← EReal.coe_mul, sub_eq_add_neg, sub_eq_add_neg, EReal.neg_bot, EReal.coe_add_top, EReal.coe_add_top, ← il2, top_mul_il2]
    | top => rw [top_mul_il2, sub_eq_add_neg, sub_eq_add_neg, EReal.neg_top, EReal.add_bot, EReal.add_bot, bot_mul_il2]
    | coe b => simp only [il2, ← EReal.coe_mul, ← EReal.coe_sub]; congr 1; ring

theorem e_il2 (s M : EReal) : e (s * il2) (M * il2) = Ideal.exp (s - M) := by rw [e, sub_mul_il2, exp2_mul_il2]

theorem mono_il2 : Monotone fun x : EReal => x * il2 := fun _ _ h => mul_le_mul_of_nonneg_right h (EReal.coe_nonneg.2 il2_pos.le)

/-- Scaling goes into a supremum. -/
theorem sup_mul_il2 {ι : Type} (S : Finset ι) (s : ι → EReal) : S.sup s * il2 = S.sup fun t => s t * il2 := by
  classical
  induction S using Finset.induction_on with
  | empty => simpa using bot_mul_il2
  | insert a S ha ih => rw [sup_insert, sup_insert, ← ih]; exact mono_il2.map_max

/-- The first `n` terms of a sequence against the `N` terms of a row, when each is zero where the other stops. -/
theorem sum_level {N : ℕ} (n : ℕ) (f : ℕ → EReal) (g : Fin N → EReal) (hf : ∀ t : Fin N, f t = g t) (hbig : ∀ t, N ≤ t → f t = 0)
    (hn : ∀ t : Fin N, n ≤ t → g t = 0) : ∑ j ∈ range n, f j = ∑ t, g t := by
  rw [← sum_congr rfl fun t (_ : t ∈ univ) => hf t, Fin.sum_univ_eq_sum_range f N]
  rw [sum_subset (range_mono (le_max_left n N)) fun j _ hj => ?_, sum_subset (range_mono (le_max_right n N)) fun j _ hj => ?_]
  · exact hbig j (by simpa using hj)
  · by_cases h : j < N
    · rw [hf ⟨j, h⟩]; exact hn ⟨j, h⟩ (by simpa using hj)
    · exact hbig j (not_lt.1 h)

/-- The first `n` tokens of a level, with scores `u` at base two, are the `N` tokens of a row with scores `s` at base `e`: what one has
    beyond the other is masked. -/
structure Level (u c : ℕ → EReal) (v : ℕ → Fin 128 → EReal) (n : ℕ) {N : ℕ} (s y : Fin N → EReal) (z : Fin N → Fin 128 → EReal) : Prop where
  hu : ∀ t : Fin N, u t = s t * il2
  hc : ∀ t : Fin N, c t = y t
  hv : ∀ (t : Fin N) d, v t d = z t d
  big : ∀ t, N ≤ t → u t = ⊥
  small : ∀ t : Fin N, n ≤ t → s t = ⊥

section
variable {u c : ℕ → EReal} {v : ℕ → Fin 128 → EReal} {n N : ℕ} {s y : Fin N → EReal} {z : Fin N → Fin 128 → EReal}

theorem Level.sup (L : Level u c v n s y z) : (range n).sup u = univ.sup s * il2 := by
  rw [sup_mul_il2]
  apply le_antisymm
  · refine Finset.sup_le fun j hj => ?_
    by_cases h : j < N
    · rw [L.hu ⟨j, h⟩]; exact Finset.le_sup (f := fun t => s t * il2) (mem_univ _)
    · rw [L.big j (not_lt.1 h)]; exact bot_le
  · refine Finset.sup_le fun t _ => ?_
    by_cases h : t.val < n
    · rw [← L.hu t]; exact Finset.le_sup (f := u) (mem_range.2 h)
    · rw [L.small t (not_lt.1 h), bot_mul_il2]; exact bot_le

theorem exp_bot_sub (M : EReal) : Ideal.exp (⊥ - M) = 0 := by rw [EReal.bot_sub]; rfl

theorem Level.lsum (L : Level u c v n s y z) (M : EReal) : ∑ j ∈ range n, e (u j) (M * il2) = ∑ t, Ideal.exp (s t - M) :=
  sum_level n _ _ (fun t => by rw [L.hu, e_il2]) (fun t h => by rw [L.big t h, e_bot]) (fun t h => by rw [L.small t h, exp_bot_sub])

theorem Level.asum (L : Level u c v n s y z) (M : EReal) (d : Fin 128) :
    ∑ j ∈ range n, e (u j) (M * il2) * c j * v j d = ∑ t, Ideal.exp (s t - M) * y t * z t d :=
  sum_level n _ _ (fun t => by rw [L.hu, e_il2, L.hc, L.hv]) (fun t h => by rw [L.big t h, e_bot, zero_mul, zero_mul])
    (fun t h => by rw [L.small t h, exp_bot_sub, zero_mul, zero_mul])

end

section
variable {u c : ℕ → ℕ → EReal} {v : ℕ → ℕ → Fin 128 → EReal} {n : ℕ → ℕ} {m l a : Fin 128 → EReal} {N0 N1 N2 N3 : ℕ}
  {s0 y0 : Fin N0 → EReal} {z0 : Fin N0 → Fin 128 → EReal} {s1 y1 : Fin N1 → EReal} {z1 : Fin N1 → Fin 128 → EReal}
  {s2 y2 : Fin N2 → EReal} {z2 : Fin N2 → Fin 128 → EReal} {s3 y3 : Fin N3 → EReal} {z3 : Fin N3 → Fin 128 → EReal}

/-- The maximum over four levels. -/
def top4 (s0 : Fin N0 → EReal) (s1 : Fin N1 → EReal) (s2 : Fin N2 → EReal) (s3 : Fin N3 → EReal) : EReal :=
  max (max (univ.sup s0) (univ.sup s1)) (max (univ.sup s2) (univ.sup s3))

theorem top_eq (L0 : Level (u 0) (c 0) (v 0) (n 0) s0 y0 z0) (L1 : Level (u 1) (c 1) (v 1) (n 1) s1 y1 z1)
    (L2 : Level (u 2) (c 2) (v 2) (n 2) s2 y2 z2) (L3 : Level (u 3) (c 3) (v 3) (n 3) s3 y3 z3) : top u n = top4 s0 s1 s2 s3 * il2 := by
  have h : top4 s0 s1 s2 s3 * il2 = max (max (univ.sup s0 * il2) (univ.sup s1 * il2)) (max (univ.sup s2 * il2) (univ.sup s3 * il2)) := by
    rw [top4, mono_il2.map_max, mono_il2.map_max, mono_il2.map_max]
  rw [h, ← L0.sup, ← L1.sup, ← L2.sup, ← L3.sup, top, show range 4 = {0, 1, 2, 3} from rfl]
  simp only [sup_insert, sup_singleton, sup_assoc]

/-- The lanes of the sums add up to the sum over the four levels. -/
theorem lanes_eq (H : Holds u c v n m l a) (L0 : Level (u 0) (c 0) (v 0) (n 0) s0 y0 z0) (L1 : Level (u 1) (c 1) (v 1) (n 1) s1 y1 z1)
    (L2 : Level (u 2) (c 2) (v 2) (n 2) s2 y2 z2) (L3 : Level (u 3) (c 3) (v 3) (n 3) s3 y3 z3) :
    ∑ d, l d = ∑ t, Ideal.exp (s0 t - top4 s0 s1 s2 s3) + ∑ t, Ideal.exp (s1 t - top4 s0 s1 s2 s3)
      + ∑ t, Ideal.exp (s2 t - top4 s0 s1 s2 s3) + ∑ t, Ideal.exp (s3 t - top4 s0 s1 s2 s3) := by
  rw [← L0.lsum, ← L1.lsum, ← L2.lsum, ← L3.lsum, ← top_eq L0 L1 L2 L3,
    sum_congr rfl fun d (_ : d ∈ univ) => H.l_eq d, Fin.sum_univ_eq_sum_range (fun i => lsum u n (top u n) i) 128,
    ← sum_subset (range_mono (show 4 ≤ 128 by norm_num)) fun i _ hi => by
      rw [lsum, H.four i (by simpa using hi), range_zero, sum_empty]]
  simp only [sum_range_succ, range_zero, sum_empty, zero_add, lsum]

/-- The normalised values are those of the softmax over the four levels. -/
theorem out_eq (H : Holds u c v n m l a) (L0 : Level (u 0) (c 0) (v 0) (n 0) s0 y0 z0) (L1 : Level (u 1) (c 1) (v 1) (n 1) s1 y1 z1)
    (L2 : Level (u 2) (c 2) (v 2) (n 2) s2 y2 z2) (L3 : Level (u 3) (c 3) (v 3) (n 3) s3 y3 z3) (d : Fin 128) :
    a d = ∑ t, Ideal.exp (s0 t - top4 s0 s1 s2 s3) * y0 t * z0 t d + ∑ t, Ideal.exp (s1 t - top4 s0 s1 s2 s3) * y1 t * z1 t d
      + ∑ t, Ideal.exp (s2 t - top4 s0 s1 s2 s3) * y2 t * z2 t d + ∑ t, Ideal.exp (s3 t - top4 s0 s1 s2 s3) * y3 t * z3 t d := by
  rw [← L0.asum, ← L1.asum, ← L2.asum, ← L3.asum, ← top_eq L0 L1 L2 L3, H.a_eq, asum]
  simp only [sum_range_succ, sum_range_zero, zero_add]

/-- A lane of the sums is its level's sum, and zero past the four levels. -/
theorem lane_eq (H : Holds u c v n m l a) (L0 : Level (u 0) (c 0) (v 0) (n 0) s0 y0 z0) (L1 : Level (u 1) (c 1) (v 1) (n 1) s1 y1 z1)
    (L2 : Level (u 2) (c 2) (v 2) (n 2) s2 y2 z2) (L3 : Level (u 3) (c 3) (v 3) (n 3) s3 y3 z3) (d : Fin 128) :
    l d = if d.val = 0 then ∑ t, Ideal.exp (s0 t - top4 s0 s1 s2 s3) else if d.val = 1 then ∑ t, Ideal.exp (s1 t - top4 s0 s1 s2 s3)
      else if d.val = 2 then ∑ t, Ideal.exp (s2 t - top4 s0 s1 s2 s3) else if d.val = 3 then ∑ t, Ideal.exp (s3 t - top4 s0 s1 s2 s3) else 0 := by
  rw [← L0.lsum, ← L1.lsum, ← L2.lsum, ← L3.lsum, ← top_eq L0 L1 L2 L3, H.l_eq]
  split_ifs with h0 h1 h2 h3
  · rw [h0]; rfl
  · rw [h1]; rfl
  · rw [h2]; rfl
  · rw [h3]; rfl
  · rw [lsum, H.four _ (by omega), range_zero, sum_empty]

end

end Cert.Soft

end
-- ==== Proof.KernelIdeal.Rows.lean ====
/- One update of the idealized kernel's running arrays, read at a row: the chunk's part of the row's softmax. -/
module

public import proofs.«01_k».proof.Proof.KernelIdeal.Reads
public import proofs.«01_k».proof.Proof.Joint
public import Idealize.ShloMosaic.Lib.Pointwise

@[expose] public section

set_option maxRecDepth 16384

noncomputable section

namespace Cert.KernelIdeal.Rows

open Cert.KernelIdeal Cert.KernelIdeal.Gen Cert.KernelIdeal.Values Cert.Soft
open Idealize.ShloMosaic Idealize.ShloMosaic.TcCoe

/-- A window at an index is the array at the index moved by the window's offsets. -/
theorem window_at {α : Type} {s : Shape} (x : s.Idx → α) (off size : Fin s.rank → ℕ) (inb : ∀ a, off a + size a ≤ s.size a)
    (y : (Rect.unit off size inb).shape.Idx) (z : s.Idx) (h : ∀ a, (z a).val = off a + (y a).val) : VecWindow.window x off size inb y = x z := by
  unfold VecWindow.window
  refine congrArg x (funext fun a => Fin.ext ?_)
  rw [h a]
  show off a + 1 * (y a).val = _
  rw [one_mul]

theorem whole_eq {F : FTy → Type} (x : Vec F S240x128 .f32) : whole x = x :=
  funext fun y => window_at x _ _ _ y y fun a => by fin_cases a <;> exact (Nat.zero_add _).symm

theorem col_at (x : Vec Ideal S240x128 .f32) (r : Fin 240) (j : Fin 1) : col x (ix2 r j) = x (ix2 r 0) := by
  have hj : j = 0 := Subsingleton.elim _ _
  subst hj
  exact window_at x _ _ _ _ (ix2 r 0) fun a => by fin_cases a <;> exact (Nat.zero_add _).symm

/-- The word of minus infinity. -/
theorem ofBits_bot : Ideal.ofBits .f32 0xFF800000#32 = ⊥ := by simp [Ideal.ofBits, Ideal.ieee]

theorem select_eq {α : Type} {n : ℕ} (a b : BitVec n) (x y : α) : Scalar.select (IntOp.cmpi .eq a b) x y = if a = b then x else y := by
  by_cases h : a = b
  · simp [Scalar.select, IntOp.cmpi, h]
  · simp [Scalar.select, IntOp.cmpi, h, show (a == b) = false from beq_eq_false_iff_ne.2 h]

theorem lane_iff (d : Fin 128) (lv : ℕ) (h : lv < 4) : BitVec.ofNat 32 d.val = BitVec.ofNat 32 lv ↔ d.val = lv := by
  constructor
  · intro he
    have := congrArg BitVec.toNat he
    simpa [BitVec.toNat_ofNat, Nat.mod_eq_of_lt (show d.val < 4294967296 by omega), Nat.mod_eq_of_lt (show lv < 4294967296 by omega)] using this
  · intro he; rw [he]

theorem fold_max (n : ℕ) (f : Fin n → EReal) : Finset.univ.fold max (⊥ : EReal) f = Finset.univ.sup f := rfl

section
variable (lv : BitVec 32) (s : FVec Ideal S240x256 .f32) (w : FVec Ideal S1x256 .f32) (v : FVec Ideal S256x128 .fp8e4m3) (S : St Ideal)

theorem mx256_at (r : Fin 240) (j : Fin 1) : mx256 s S (ix2 r j) = max (S.m (ix2 r 0)) (Finset.univ.sup fun t : Fin 256 => s (ix2 r t)) := by
  pointwise [mx256]
  rw [col_at, ofBits_bot, fold_max]

theorem scl256_at (r : Fin 240) (j : Fin 1) : scl256 s S (ix2 r j) = e (S.m (ix2 r 0)) (max (S.m (ix2 r 0)) (Finset.univ.sup fun t : Fin 256 => s (ix2 r t))) := by
  pointwise [scl256]
  rw [col_at, mx256_at]; rfl

theorem prob256_at (r : Fin 240) (t : Fin 256) : prob256 s S (ix2 r t) = e (s (ix2 r t)) (max (S.m (ix2 r 0)) (Finset.univ.sup fun t : Fin 256 => s (ix2 r t))) := by
  pointwise [prob256]
  rw [mx256_at]; rfl

theorem att256_m (r : Fin 240) (d : Fin 128) : (att256 lv s w v S).m (ix2 r d) = max (S.m (ix2 r 0)) (Finset.univ.sup fun t : Fin 256 => s (ix2 r t)) := by
  show spread (mx256 s S) (ix2 r d) = _
  pointwise [spread]
  rw [mx256_at]

theorem att256_l (r : Fin 240) (d : Fin 128) : (att256 lv s w v S).l (ix2 r d) =
    S.l (ix2 r d) * e (S.m (ix2 r 0)) (max (S.m (ix2 r 0)) (Finset.univ.sup fun t : Fin 256 => s (ix2 r t)))
      + (if BitVec.ofNat 32 d.val = lv then ∑ t : Fin 256, e (s (ix2 r t)) (max (S.m (ix2 r 0)) (Finset.univ.sup fun t : Fin 256 => s (ix2 r t))) else 0) := by
  simp only [att256, whole_eq]
  pointwise
  simp only [scl256_at, prob256_at]
  rw [select_eq]

theorem att256_a (r : Fin 240) (d : Fin 128) : (att256 lv s w v S).a (ix2 r d) =
    S.a (ix2 r d) * e (S.m (ix2 r 0)) (max (S.m (ix2 r 0)) (Finset.univ.sup fun t : Fin 256 => s (ix2 r t)))
      + ∑ t : Fin 256, e (s (ix2 r t)) (max (S.m (ix2 r 0)) (Finset.univ.sup fun t : Fin 256 => s (ix2 r t))) * w (ix2 0 t) * v (ix2 t d) := by
  simp only [att256, whole_eq]
  pointwise
  simp only [scl256_at, prob256_at]

/-- A chunk of 256 keys of level `i` keeps a row's arrays the softmax sums of what the row has seen. -/
theorem att256_holds {u c : ℕ → ℕ → EReal} {z : ℕ → ℕ → Fin 128 → EReal} {k : ℕ → ℕ} (r : Fin 240) (i : ℕ) (hi : i < 4) (hlv : lv = BitVec.ofNat 32 i)
    (H : Holds u c z k (fun d => S.m (ix2 r d)) (fun d => S.l (ix2 r d)) (fun d => S.a (ix2 r d)))
    (hx : ∀ t : Fin 256, s (ix2 r t) = u i (k i + t)) (hy : ∀ t : Fin 256, w (ix2 0 t) = c i (k i + t)) (hz : ∀ (t : Fin 256) d, v (ix2 t d) = z i (k i + t) d) :
    Holds u c z (Function.update k i (k i + 256)) (fun d => (att256 lv s w v S).m (ix2 r d)) (fun d => (att256 lv s w v S).l (ix2 r d))
      (fun d => (att256 lv s w v S).a (ix2 r d)) := by
  refine H.step i 256 hi (fun t => s (ix2 r t)) (fun t => w (ix2 0 t)) (fun t d => v (ix2 t d)) hx hy hz (fun d => ?_) (fun d => ?_) (fun d => ?_)
  · exact att256_m lv s w v S r d
  · rw [att256_l lv s w v S r d, hlv]; simp only [lane_iff d i hi]
  · rw [att256_a lv s w v S r d]

end

section
variable (lv : BitVec 32) (s : FVec Ideal S240x128 .f32) (w : FVec Ideal S1x128 .f32) (v : FVec Ideal S128x128 .fp8e4m3) (S : St Ideal)

theorem mx128_at (r : Fin 240) (j : Fin 1) : mx128 s S (ix2 r j) = max (S.m (ix2 r 0)) (Finset.univ.sup fun t : Fin 128 => s (ix2 r t)) := by
  pointwise [mx128]
  rw [col_at, ofBits_bot, fold_max]

theorem scl128_at (r : Fin 240) (j : Fin 1) : scl128 s S (ix2 r j) = e (S.m (ix2 r 0)) (max (S.m (ix2 r 0)) (Finset.univ.sup fun t : Fin 128 => s (ix2 r t))) := by
  pointwise [scl128]
  rw [col_at, mx128_at]; rfl

theorem prob128_at (r : Fin 240) (t : Fin 128) : prob128 s S (ix2 r t) = e (s (ix2 r t)) (max (S.m (ix2 r 0)) (Finset.univ.sup fun t : Fin 128 => s (ix2 r t))) := by
  pointwise [prob128]
  rw [mx128_at]; rfl

theorem att128_m (r : Fin 240) (d : Fin 128) : (att128 lv s w v S).m (ix2 r d) = max (S.m (ix2 r 0)) (Finset.univ.sup fun t : Fin 128 => s (ix2 r t)) := by
  show spread (mx128 s S) (ix2 r d) = _
  pointwise [spread]
  rw [mx128_at]

theorem att128_l (r : Fin 240) (d : Fin 128) : (att128 lv s w v S).l (ix2 r d) =
    S.l (ix2 r d) * e (S.m (ix2 r 0)) (max (S.m (ix2 r 0)) (Finset.univ.sup fun t : Fin 128 => s (ix2 r t)))
      + (if BitVec.ofNat 32 d.val = lv then ∑ t : Fin 128, e (s (ix2 r t)) (max (S.m (ix2 r 0)) (Finset.univ.sup fun t : Fin 128 => s (ix2 r t))) else 0) := by
  simp only [att128, whole_eq]
  pointwise
  simp only [scl128_at, prob128_at]
  rw [select_eq]

theorem att128_a (r : Fin 240) (d : Fin 128) : (att128 lv s w v S).a (ix2 r d) =
    S.a (ix2 r d) * e (S.m (ix2 r 0)) (max (S.m (ix2 r 0)) (Finset.univ.sup fun t : Fin 128 => s (ix2 r t)))
      + ∑ t : Fin 128, e (s (ix2 r t)) (max (S.m (ix2 r 0)) (Finset.univ.sup fun t : Fin 128 => s (ix2 r t))) * w (ix2 0 t) * v (ix2 t d) := by
  simp only [att128, whole_eq]
  pointwise
  simp only [scl128_at, prob128_at]

/-- A chunk of 128 keys of level `i` keeps a row's arrays the softmax sums of what the row has seen. -/
theorem att128_holds {u c : ℕ → ℕ → EReal} {z : ℕ → ℕ → Fin 128 → EReal} {k : ℕ → ℕ} (r : Fin 240) (i : ℕ) (hi : i < 4) (hlv : lv = BitVec.ofNat 32 i)
    (H : Holds u c z k (fun d => S.m (ix2 r d)) (fun d => S.l (ix2 r d)) (fun d => S.a (ix2 r d)))
    (hx : ∀ t : Fin 128, s (ix2 r t) = u i (k i + t)) (hy : ∀ t : Fin 128, w (ix2 0 t) = c i (k i + t)) (hz : ∀ (t : Fin 128) d, v (ix2 t d) = z i (k i + t) d) :
    Holds u c z (Function.update k i (k i + 128)) (fun d => (att128 lv s w v S).m (ix2 r d)) (fun d => (att128 lv s w v S).l (ix2 r d))
      (fun d => (att128 lv s w v S).a (ix2 r d)) := by
  refine H.step i 128 hi (fun t => s (ix2 r t)) (fun t => w (ix2 0 t)) (fun t d => v (ix2 t d)) hx hy hz (fun d => ?_) (fun d => ?_) (fun d => ?_)
  · exact att128_m lv s w v S r d
  · rw [att128_l lv s w v S r d, hlv]; simp only [lane_iff d i hi]
  · rw [att128_a lv s w v S r d]

end

section
variable (lv : BitVec 32) (s : FVec Ideal S240x48 .f32) (v : FVec Ideal S48x128 .bf16) (S : St Ideal)

theorem mx48_at (r : Fin 240) (j : Fin 1) : mx48 s S (ix2 r j) = max (S.m (ix2 r 0)) (Finset.univ.sup fun t : Fin 48 => s (ix2 r t)) := by
  pointwise [mx48]
  rw [col_at, ofBits_bot, fold_max]

theorem scl48_at (r : Fin 240) (j : Fin 1) : scl48 s S (ix2 r j) = e (S.m (ix2 r 0)) (max (S.m (ix2 r 0)) (Finset.univ.sup fun t : Fin 48 => s (ix2 r t))) := by
  pointwise [scl48]
  rw [col_at, mx48_at]; rfl

theorem prob48_at (r : Fin 240) (t : Fin 48) : prob48 s S (ix2 r t) = e (s (ix2 r t)) (max (S.m (ix2 r 0)) (Finset.univ.sup fun t : Fin 48 => s (ix2 r t))) := by
  pointwise [prob48]
  rw [mx48_at]; rfl

theorem att48_m (r : Fin 240) (d : Fin 128) : (att48 lv s v S).m (ix2 r d) = max (S.m (ix2 r 0)) (Finset.univ.sup fun t : Fin 48 => s (ix2 r t)) := by
  show spread (mx48 s S) (ix2 r d) = _
  pointwise [spread]
  rw [mx48_at]

theorem att48_l (r : Fin 240) (d : Fin 128) : (att48 lv s v S).l (ix2 r d) =
    S.l (ix2 r d) * e (S.m (ix2 r 0)) (max (S.m (ix2 r 0)) (Finset.univ.sup fun t : Fin 48 => s (ix2 r t)))
      + (if BitVec.ofNat 32 d.val = lv then ∑ t : Fin 48, e (s (ix2 r t)) (max (S.m (ix2 r 0)) (Finset.univ.sup fun t : Fin 48 => s (ix2 r t))) else 0) := by
  simp only [att48, whole_eq]
  pointwise
  simp only [scl48_at, prob48_at]
  rw [select_eq]

theorem att48_a (r : Fin 240) (d : Fin 128) : (att48 lv s v S).a (ix2 r d) =
    S.a (ix2 r d) * e (S.m (ix2 r 0)) (max (S.m (ix2 r 0)) (Finset.univ.sup fun t : Fin 48 => s (ix2 r t)))
      + ∑ t : Fin 48, e (s (ix2 r t)) (max (S.m (ix2 r 0)) (Finset.univ.sup fun t : Fin 48 => s (ix2 r t))) * v (ix2 t d) := by
  simp only [att48, whole_eq]
  pointwise
  simp only [scl48_at, prob48_at]

/-- A chunk of 48 keys of level `i` keeps a row's arrays the softmax sums of what the row has seen. -/
theorem att48_holds {u c : ℕ → ℕ → EReal} {z : ℕ → ℕ → Fin 128 → EReal} {k : ℕ → ℕ} (r : Fin 240) (i : ℕ) (hi : i < 4) (hlv : lv = BitVec.ofNat 32 i)
    (H : Holds u c z k (fun d => S.m (ix2 r d)) (fun d => S.l (ix2 r d)) (fun d => S.a (ix2 r d)))
    (hx : ∀ t : Fin 48, s (ix2 r t) = u i (k i + t)) (hy : ∀ t : Fin 48, (1 : EReal) = c i (k i + t)) (hz : ∀ (t : Fin 48) d, v (ix2 t d) = z i (k i + t) d) :
    Holds u c z (Function.update k i (k i + 48)) (fun d => (att48 lv s v S).m (ix2 r d)) (fun d => (att48 lv s v S).l (ix2 r d))
      (fun d => (att48 lv s v S).a (ix2 r d)) := by
  refine H.step i 48 hi (fun t => s (ix2 r t)) (fun t => (1 : EReal)) (fun t d => v (ix2 t d)) hx hy hz (fun d => ?_) (fun d => ?_) (fun d => ?_)
  · exact att48_m lv s v S r d
  · rw [att48_l lv s v S r d, hlv]; simp only [lane_iff d i hi]
  · rw [att48_a lv s v S r d]; simp only [mul_one]

end

end Cert.KernelIdeal.Rows

end
-- ==== Proof.KernelIdeal.Scores.lean ====
/- The scores of a chunk, read at a row and a key, and the levels they belong to. -/
module

public import proofs.«01_k».proof.Proof.KernelIdeal.Rows

@[expose] public section

set_option maxRecDepth 16384

noncomputable section

namespace Cert.KernelIdeal.Rows

open Cert.KernelIdeal Cert.KernelIdeal.Gen Cert.KernelIdeal.Values Cert.Soft
open Idealize.ShloMosaic Idealize.ShloMosaic.TcCoe

/-- The softmax's scale, the reciprocal root of the head's width. -/
def sm : EReal := (((Real.sqrt 128)⁻¹ : ℝ) : EReal)

theorem qk_eq : (Named.named (F := Ideal) κ "qk_scale" 0x3E0293EE#32 : Ideal .f32) = sm * il2 :=
  (IdealRules.named_const.ideal_named_scalar _ _ _ _ rfl).trans (EReal.coe_mul _ _)

theorem mask_eq : (Named.named (F := Ideal) κ "mask" 0xF149F2CA#32 : Ideal .f32) = (⊥ : EReal) :=
  IdealRules.named_const.ideal_named_scalar _ _ _ _ rfl

theorem select_iff {α : Type} (b : BitVec 1) (p : Prop) [Decidable p] (h : b = 1#1 ↔ p) (x y : α) : Scalar.select b x y = if p then x else y := by
  unfold Scalar.select
  by_cases hp : p
  · rw [if_pos hp]; simp [h.2 hp]
  · rw [if_neg hp]; simp [mt h.1 hp]

theorem toInt_ofNat (t : ℕ) (h : t < 4096) : (BitVec.ofNat 32 t).toInt = t := by
  rw [BitVec.toInt_eq_toNat_of_lt (by rw [BitVec.toNat_ofNat, Nat.mod_eq_of_lt (by omega)]; omega), BitVec.toNat_ofNat, Nat.mod_eq_of_lt (by omega)]

theorem slt_iff (a b : BitVec 32) : IntOp.cmpi .slt a b = 1#1 ↔ a.toInt < b.toInt := by
  show BitVec.ofBool (a.slt b) = 1#1 ↔ _
  rw [BitVec.slt_eq_decide]
  by_cases h : a.toInt < b.toInt <;> simp [h]

theorem sub_toInt (w : BitVec 32) (o : ℕ) (ho : o < 4096) (hw : 0 ≤ w.toInt) : (w - BitVec.ofNat 32 o).toInt = w.toInt - o := by
  have hl := @BitVec.toInt_lt 32 w
  rw [BitVec.toInt_sub, toInt_ofNat o ho]
  apply Int.bmod_eq_of_le <;> omega

/-- A key at `t` of the chunk at `o` is among the first `w`. -/
theorem chunk_iff (w : BitVec 32) (o t : ℕ) (ho : o < 4096) (ht : t < 4096) (hw : 0 ≤ w.toInt) :
    IntOp.cmpi .slt (BitVec.ofNat 32 t) (Scalar.subi w (BitVec.ofNat 32 o)) = 1#1 ↔ ((o + t : ℕ) : ℤ) < w.toInt := by
  show IntOp.cmpi .slt (BitVec.ofNat 32 t) (w - BitVec.ofNat 32 o) = 1#1 ↔ _
  rw [slt_iff, toInt_ofNat t ht, sub_toInt w o ho hw]; push_cast; omega

variable (q : FVec Ideal S240x128 .bf16)

theorem pay5_at (k : Vec Ideal S1x256x128 .fp8e4m3) (ks : Vec Ideal S1x1x256 .f32) (r : Fin 240) (t : Fin 256) :
    k0_pay5 q k ks (ix2 r t) = (∑ d : Fin 128, q (ix2 r d) * k (ix3 0 t d)) * ks (ix3 0 0 t) * sm * il2 := by
  pointwise [k0_pay5]
  rw [qk_eq]
  simp only [mul_assoc]

theorem pay55_at (k : Vec Ideal S1x128x128 .fp8e4m3) (ks : Vec Ideal S1x1x128 .f32) (r : Fin 240) (t : Fin 128) :
    k0_pay55 q k ks (ix2 r t) = if t.val < 8 then (∑ d : Fin 128, q (ix2 r d) * k (ix3 0 t d)) * ks (ix3 0 0 t) * sm * il2 else ⊥ := by
  pointwise [k0_pay55]
  rw [qk_eq, mask_eq, select_iff _ (t.val < 8) (by rw [slt_iff, toInt_ofNat _ (by omega), show (8#32 : BitVec 32).toInt = 8 by decide]; omega)]
  simp only [mul_assoc]

theorem pay14_at (w : BitVec 32) (i : Fin (k0_t2_loop w).trips) (hi : i.val < 32) (hw : 0 ≤ w.toInt) (k : Vec Ideal S1x1x128x128 .fp8e4m3) (ks : Vec Ideal S1x1x1x128 .f32) (r : Fin 240) (t : Fin 128) :
    k0_pay14 q w 1#32 0#32 0#32 1#32 i k ks (ix2 r t) =
      if ((i.val * 128 + t.val : ℕ) : ℤ) < w.toInt then (∑ d : Fin 128, q (ix2 r d) * k (ix4 0 0 t d)) * ks (ix4 0 0 0 t) * sm * il2 else ⊥ := by
  have hm : Scalar.muli (Scalar.addi 0#32 (Scalar.muli (Scf.iv 0#32 1#32 i.val) 1#32)) 128#32 = BitVec.ofNat 32 (i.val * 128) :=
    BitVec.eq_of_toNat_eq (by rw [Words.mul_word i.val 128 (by omega), BitVec.toNat_ofNat, Nat.mod_eq_of_lt (by omega)])
  unfold k0_pay14
  simp only [hm]
  pointwise
  rw [qk_eq, mask_eq, select_iff _ _ (chunk_iff w (i.val * 128) t.val (by omega) (by omega) hw)]
  simp only [mul_assoc]

theorem pay26_at (w : BitVec 32) (i : Fin (k0_t4_loop w).trips) (hi : i.val < 15) (hw : 0 ≤ w.toInt) (k : Vec Ideal S1x1x256x128 .fp8e4m3) (ks : Vec Ideal S1x1x1x256 .f32) (r : Fin 240) (t : Fin 256) :
    k0_pay26 q w 1#32 0#32 0#32 1#32 i k ks (ix2 r t) =
      if ((i.val * 256 + t.val : ℕ) : ℤ) < w.toInt then (∑ d : Fin 128, q (ix2 r d) * k (ix4 0 0 t d)) * ks (ix4 0 0 0 t) * sm * il2 else ⊥ := by
  have hm : Scalar.muli (Scalar.addi 0#32 (Scalar.muli (Scf.iv 0#32 1#32 i.val) 1#32)) 256#32 = BitVec.ofNat 32 (i.val * 256) :=
    BitVec.eq_of_toNat_eq (by rw [Words.mul_word i.val 256 (by omega), BitVec.toNat_ofNat, Nat.mod_eq_of_lt (by omega)])
  unfold k0_pay26
  simp only [hm]
  pointwise
  rw [qk_eq, mask_eq, select_iff _ _ (chunk_iff w (i.val * 256) t.val (by omega) (by omega) hw)]
  simp only [mul_assoc]

/-- A new token is visible to the rows at or after its position. -/
def new (r : Fin 240) (t : Fin 48) : Prop := IntOp.cmpi .sle (BitVec.ofNat 32 t.val) (k0_pay40 (ix2 r t)) = 1#1

instance (r : Fin 240) (t : Fin 48) : Decidable (new r t) := inferInstanceAs (Decidable (_ = _))

theorem pay41_at (k : Vec Ideal S1x1x48x128 .bf16) (r : Fin 240) (t : Fin 48) :
    k0_pay41 q k0_pay40 (iota .tc S240x48 32 [1] iota_S240x48_d1_w32) k (ix2 r t) =
      if new r t then (∑ d : Fin 128, q (ix2 r d) * k (ix4 0 0 t d)) * sm * il2 else ⊥ := by
  pointwise [k0_pay41]
  rw [qk_eq, mask_eq, select_iff _ (new r t) (Iff.rfl)]
  simp only [mul_assoc]

end Cert.KernelIdeal.Rows

end
-- ==== Proof.KernelIdeal.Chunks.lean ====
/- The running arrays after every chunk, read at a row: the sums of one softmax over the visible tokens of the four levels. -/
module

public import proofs.«01_k».proof.Proof.KernelIdeal.Scores

@[expose] public section

set_option maxRecDepth 16384

noncomputable section

namespace Cert.KernelIdeal.Rows

open Cert.KernelIdeal Cert.KernelIdeal.Gen Cert.KernelIdeal.Values Cert.Soft
open Idealize.ShloMosaic Idealize.ShloMosaic.TcCoe

/-- A point's blocks: the queries, each level's keys, values and scales, and the two lengths. -/
structure Blk where
  q : FVec Ideal S240x128 .bf16
  x1 : Vec Ideal S1x1920x128 .fp8e4m3
  x2 : Vec Ideal S1x1920x128 .fp8e4m3
  x3 : Vec Ideal S1x1x1920 .f32
  x4 : Vec Ideal S1x1x1920 .f32
  x5 : Vec Ideal S1x1x640x128 .fp8e4m3
  x6 : Vec Ideal S1x1x640x128 .fp8e4m3
  x7 : Vec Ideal S1x1x1x640 .f32
  x8 : Vec Ideal S1x1x1x640 .f32
  x9 : Vec Ideal S1x1x1024x128 .fp8e4m3
  x10 : Vec Ideal S1x1x1024x128 .fp8e4m3
  x11 : Vec Ideal S1x1x1x1024 .f32
  x12 : Vec Ideal S1x1x1x1024 .f32
  x13 : Vec Ideal S1x1x48x128 .bf16
  x14 : Vec Ideal S1x1x48x128 .bf16
  g : BitVec 32
  hg : k0_chk2 g
  w : BitVec 32
  hw : k0_chk3 w

/-- The running arrays after every chunk of a point's blocks. -/
def Blk.total (B : Blk) : St Ideal := Values.total B.q B.x1 B.x2 B.x3 B.x4 B.x5 B.x6 B.x7 B.x8 B.x9 B.x10 B.x11 B.x12 B.x13 B.x14 B.g B.hg B.w B.hw

/-- A sequence that continues a finite one by `z`. -/
def ext {α : Type} {N : ℕ} (f : Fin N → α) (z : α) (t : ℕ) : α := if h : t < N then f ⟨t, h⟩ else z

theorem ext_lt {α : Type} {N : ℕ} (f : Fin N → α) (z : α) (t : ℕ) (h : t < N) : ext f z t = f ⟨t, h⟩ := dif_pos h
theorem ext_ge {α : Type} {N : ℕ} (f : Fin N → α) (z : α) (t : ℕ) (h : N ≤ t) : ext f z t = z := dif_neg (not_lt.2 h)

variable (B : Blk) (r : Fin 240)

/-- The row's scores of the prefix's keys. -/
def s0 (t : Fin 1800) : EReal := (∑ d : Fin 128, B.q (ix2 r d) * B.x1 (ix3 0 (t.castLE (by norm_num)) d)) * B.x3 (ix3 0 0 (t.castLE (by norm_num))) * sm

/-- The row's scores of the group's keys, the hidden ones at minus infinity. -/
def s1 (t : Fin 640) : EReal := if (t.val : ℤ) < B.g.toInt then (∑ d : Fin 128, B.q (ix2 r d) * B.x5 (ix4 0 0 t d)) * B.x7 (ix4 0 0 0 t) * sm else ⊥

/-- The row's scores of the sequence's own keys, the hidden ones at minus infinity. -/
def s2 (t : Fin 1024) : EReal := if (t.val : ℤ) < B.w.toInt then (∑ d : Fin 128, B.q (ix2 r d) * B.x9 (ix4 0 0 t d)) * B.x11 (ix4 0 0 0 t) * sm else ⊥

/-- The row's scores of the new tokens' keys, the hidden ones at minus infinity. -/
def s3 (t : Fin 48) : EReal := if new r t then (∑ d : Fin 128, B.q (ix2 r d) * B.x13 (ix4 0 0 t d)) * sm else ⊥

/-- The scores at base two, by level and token. -/
def U : ℕ → ℕ → EReal
  | 0 => ext (fun t => s0 B r t * il2) ⊥
  | 1 => ext (fun t => s1 B r t * il2) ⊥
  | 2 => ext (fun t => s2 B r t * il2) ⊥
  | 3 => ext (fun t => s3 B r t * il2) ⊥
  | _ => fun _ => ⊥

/-- The values' scales, by level and token. -/
def C : ℕ → ℕ → EReal
  | 0 => ext (fun t : Fin 1920 => B.x4 (ix3 0 0 t)) 0
  | 1 => ext (fun t : Fin 640 => B.x8 (ix4 0 0 0 t)) 0
  | 2 => ext (fun t : Fin 1024 => B.x12 (ix4 0 0 0 t)) 0
  | _ => fun _ => 1

/-- The values, by level and token. -/
def W : ℕ → ℕ → Fin 128 → EReal
  | 0 => ext (fun t : Fin 1920 => fun d => B.x2 (ix3 0 t d)) 0
  | 1 => ext (fun t : Fin 640 => fun d => B.x6 (ix4 0 0 t d)) 0
  | 2 => ext (fun t : Fin 1024 => fun d => B.x10 (ix4 0 0 t d)) 0
  | 3 => ext (fun t : Fin 48 => fun d => B.x14 (ix4 0 0 t d)) 0
  | _ => fun _ _ => 0

/-- How many tokens of each level have been seen. -/
def cnt (a b c d : ℕ) : ℕ → ℕ
  | 0 => a
  | 1 => b
  | 2 => c
  | 3 => d
  | _ => 0

theorem cnt_0 (a b c d x : ℕ) : Function.update (cnt a b c d) 0 x = cnt x b c d := by
  funext i; rcases i with _ | _ | _ | _ | i <;> simp [Function.update, cnt]
theorem cnt_1 (a b c d x : ℕ) : Function.update (cnt a b c d) 1 x = cnt a x c d := by
  funext i; rcases i with _ | _ | _ | _ | i <;> simp [Function.update, cnt]
theorem cnt_2 (a b c d x : ℕ) : Function.update (cnt a b c d) 2 x = cnt a b x d := by
  funext i; rcases i with _ | _ | _ | _ | i <;> simp [Function.update, cnt]
theorem cnt_3 (a b c d x : ℕ) : Function.update (cnt a b c d) 3 x = cnt a b c x := by
  funext i; rcases i with _ | _ | _ | _ | i <;> simp [Function.update, cnt]

/-- A row of the running arrays holds the sums of the first tokens of each level. -/
def Ok (k : ℕ → ℕ) (S : St Ideal) : Prop := Holds (U B r) (C B) (W B) k (fun d => S.m (ix2 r d)) (fun d => S.l (ix2 r d)) (fun d => S.a (ix2 r d))

/-- What every trip of a loop keeps holds after the loop. -/
theorem iter_keeps {N : ℕ} (step : Fin N → St Ideal → St Ideal) (P : ℕ → St Ideal → Prop) (S : St Ideal) (h0 : P 0 S)
    (hs : ∀ (k : Fin N) S, P k.val S → P (k.val + 1) (step k S)) : ∀ k, k ≤ N → P k (iter (lift step) k S)
  | 0, _ => h0
  | k + 1, h => by
    have := hs ⟨k, h⟩ _ (iter_keeps step P S h0 hs k (Nat.le_of_succ_le h))
    show P (k + 1) (lift step k _)
    rw [show lift step k _ = step ⟨k, h⟩ _ from dif_pos h]
    exact this

theorem init_ok : Ok B r (cnt 0 0 0 0) init := by
  have hc : cnt 0 0 0 0 = fun _ => 0 := by funext i; rcases i with _ | _ | _ | _ | i <;> rfl
  rw [hc]
  refine Holds.init (fun d => ?_) (fun d => ?_) (fun d => ?_)
  · show k0_pay37 (F := Ideal) (ix2 r d) = ⊥
    pointwise [k0_pay37]
    exact mask_eq
  · show k0_pay38 (F := Ideal) (ix2 r d) = 0
    pointwise [k0_pay38]
  · show k0_pay39 (F := Ideal) (ix2 r d) = 0
    pointwise [k0_pay39]

theorem stepN_ok (S : St Ideal) (H : Ok B r (cnt 0 0 0 0) S) : Ok B r (cnt 0 0 0 48) (stepN B.q B.x13 B.x14 S) := by
  rw [← cnt_3 0 0 0 0 48]
  refine att48_holds _ _ _ S r 3 (by norm_num) rfl H (fun t => ?_) (fun t => ?_) (fun t d => ?_)
  · rw [pay41_at]
    simp only [U, cnt]
    rw [Nat.zero_add, ext_lt _ _ _ t.isLt, s3]
    split_ifs <;> simp [bot_mul_il2]
  · rfl
  · simp only [W, cnt]
    rw [Nat.zero_add, ext_lt _ _ _ t.isLt]
    pointwise

theorem off2_eq : ∀ k : Fin k0_t1_loop.trips, k0_off2 k = ![0, k.val * 256, 0] := by decide +kernel
theorem off3_eq : ∀ k : Fin k0_t1_loop.trips, k0_off3 k = ![0, 0, k.val * 256] := by decide +kernel
theorem trips1_eq : k0_t1_loop.trips = 7 := by decide +kernel

theorem step1_ok (k : Fin k0_t1_loop.trips) (S : St Ideal) (H : Ok B r (cnt (k.val * 256) 0 0 48) S) :
    Ok B r (cnt ((k.val + 1) * 256) 0 0 48) (step1 B.q B.x1 B.x2 B.x3 B.x4 k S) := by
  have hk : k.val < 7 := trips1_eq ▸ k.isLt
  rw [show (k.val + 1) * 256 = k.val * 256 + 256 by ring, ← cnt_0 (k.val * 256) 0 0 48]
  refine att256_holds _ _ _ _ S r 0 (by norm_num) rfl H (fun t => ?_) (fun t => ?_) (fun t d => ?_)
  · rw [pay5_at]
    simp only [U, cnt]
    rw [ext_lt _ _ _ (by omega), s0]
    have h3 : VecWindow.window B.x3 (k0_off3 k) S1x1x256.size (k0_off3_inb k) (ix3 0 0 t) = B.x3 (ix3 0 0 ⟨k.val * 256 + t.val, by omega⟩) :=
      window_at _ _ _ _ _ _ fun a => by have e := congrFun (off3_eq k) a; rw [e]; fin_cases a <;> first | rfl | exact (Nat.zero_add _).symm
    rw [h3]
    have h1 : ∀ d : Fin 128, VecWindow.window B.x1 (k0_off2 k) S1x256x128.size (k0_off2_inb k) (ix3 0 t d) = B.x1 (ix3 0 ⟨k.val * 256 + t.val, by omega⟩ d) := fun d =>
      window_at _ _ _ _ _ _ fun a => by have e := congrFun (off2_eq k) a; rw [e]; fin_cases a <;> first | rfl | exact (Nat.zero_add _).symm
    simp only [h1]
    rfl
  · show k0_pay4 _ (ix2 0 t) = _
    simp only [C, cnt]
    rw [ext_lt _ _ _ (by omega)]
    pointwise [k0_pay4]
    exact window_at _ _ _ _ _ _ fun a => by have e := congrFun (off3_eq k) a; rw [e]; fin_cases a <;> first | rfl | exact (Nat.zero_add _).symm
  · show k0_pay3 _ (ix2 t d) = _
    simp only [W, cnt]
    rw [ext_lt _ _ _ (by omega)]
    pointwise [k0_pay3]
    exact window_at _ _ _ _ _ _ fun a => by have e := congrFun (off2_eq k) a; rw [e]; fin_cases a <;> first | rfl | exact (Nat.zero_add _).symm

theorem stepR_ok (S : St Ideal) (H : Ok B r (cnt 1792 0 0 48) S) : Ok B r (cnt 1920 0 0 48) (stepR B.q B.x1 B.x2 B.x3 B.x4 S) := by
  rw [show 1920 = 1792 + 128 by norm_num, ← cnt_0 1792 0 0 48]
  refine att128_holds _ _ _ _ S r 0 (by norm_num) rfl H (fun t => ?_) (fun t => ?_) (fun t d => ?_)
  · rw [pay55_at]
    simp only [U, cnt]
    by_cases ht : t.val < 8
    · rw [if_pos ht, ext_lt _ _ _ (by omega), s0]
      have h3 : VecWindow.window B.x3 ![0, 0, 1792] S1x1x128.size inb_S1x1x1920_S1x1x128_0_0_1792 (ix3 0 0 t) = B.x3 (ix3 0 0 ⟨1792 + t.val, by omega⟩) :=
        window_at _ _ _ _ _ _ fun a => by fin_cases a <;> first | rfl | exact (Nat.zero_add _).symm
      rw [h3]
      have h1 : ∀ d : Fin 128, VecWindow.window B.x1 ![0, 1792, 0] S1x128x128.size inb_S1x1920x128_S1x128x128_0_1792_0 (ix3 0 t d) = B.x1 (ix3 0 ⟨1792 + t.val, by omega⟩ d) := fun d =>
        window_at _ _ _ _ _ _ fun a => by fin_cases a <;> first | rfl | exact (Nat.zero_add _).symm
      simp only [h1]
      rfl
    · rw [if_neg ht, ext_ge _ _ _ (by omega)]
  · show k0_pay54 _ (ix2 0 t) = _
    simp only [C, cnt]
    rw [ext_lt _ _ _ (by omega)]
    pointwise [k0_pay54]
    exact window_at _ _ _ _ _ _ fun a => by fin_cases a <;> first | rfl | exact (Nat.zero_add _).symm
  · show k0_pay53 _ (ix2 t d) = _
    simp only [W, cnt]
    rw [ext_lt _ _ _ (by omega)]
    pointwise [k0_pay53]
    exact window_at _ _ _ _ _ _ fun a => by fin_cases a <;> first | rfl | exact (Nat.zero_add _).symm

theorem step2_ok (hl : B.g.toInt ≤ 640) (k : Fin (k0_t2_loop B.g).trips) (S : St Ideal) (H : Ok B r (cnt 1920 (k.val * 128) 0 48) S) :
    Ok B r (cnt 1920 (((k.val + 1) * 128)) 0 48) (step2 B.q B.g B.hg B.x5 B.x6 B.x7 B.x8 k S) := by
  have hk := k.isLt
  have hk' : k.val < ((B.g.toInt + 127) / 128).toNat := Words.t2_trips B.g hl ▸ hk
  rw [show (k.val + 1) * 128 = k.val * 128 + 128 by ring, ← cnt_1 1920 ((k.val * 128)) 0 48]
  refine att128_holds _ _ _ _ S r 1 (by norm_num) rfl H (fun t => ?_) (fun t => ?_) (fun t d => ?_)
  · rw [pay14_at B.q B.g k (by omega) (by omega)]
    simp only [U, cnt]
    rw [ext_lt _ _ _ (by omega), s1]
    have h3 : VecWindow.window B.x7 (k0_off6 B.g k) S1x1x1x128.size (k0_off6_inb B.g B.hg k) (ix4 0 0 0 t) = B.x7 (ix4 0 0 0 ⟨k.val * 128 + t.val, by omega⟩) :=
      window_at _ _ _ _ _ _ fun a => by have e := congrFun (Words.off6_eq B.g hl k) a; rw [e]; fin_cases a <;> first | rfl | exact (Nat.zero_add _).symm
    rw [h3]
    have h1 : ∀ d : Fin 128, VecWindow.window B.x5 (k0_off5 B.g k) S1x1x128x128.size (k0_off5_inb B.g B.hg k) (ix4 0 0 t d) = B.x5 (ix4 0 0 ⟨k.val * 128 + t.val, by omega⟩ d) := fun d =>
      window_at _ _ _ _ _ _ fun a => by have e := congrFun (Words.off5_eq B.g hl k) a; rw [e]; fin_cases a <;> first | rfl | exact (Nat.zero_add _).symm
    simp only [h1]
    split_ifs
    · rfl
    · exact bot_mul_il2.symm
  · show k0_pay13 _ (ix2 0 t) = _
    simp only [C, cnt]
    rw [ext_lt _ _ _ (by omega)]
    pointwise [k0_pay13]
    exact window_at _ _ _ _ _ _ fun a => by have e := congrFun (Words.off6_eq B.g hl k) a; rw [e]; fin_cases a <;> first | rfl | exact (Nat.zero_add _).symm
  · show k0_pay12 _ (ix2 t d) = _
    simp only [W, cnt]
    rw [ext_lt _ _ _ (by omega)]
    pointwise [k0_pay12]
    exact window_at _ _ _ _ _ _ fun a => by have e := congrFun (Words.off5_eq B.g hl k) a; rw [e]; fin_cases a <;> first | rfl | exact (Nat.zero_add _).symm

theorem step4_ok (hl : B.w.toInt ≤ 1024) (k : Fin (k0_t4_loop B.w).trips) (S : St Ideal) (H : Ok B r (cnt 1920 ((k0_t2_loop B.g).trips * 128) (k.val * 256) 48) S) :
    Ok B r (cnt 1920 ((k0_t2_loop B.g).trips * 128) (((k.val + 1) * 256)) 48) (step4 B.q B.w B.hw B.x9 B.x10 B.x11 B.x12 k S) := by
  have hk := k.isLt
  have hk' : k.val < ((B.w.toInt + 255) / 256).toNat := Words.t4_trips B.w hl ▸ hk
  rw [show (k.val + 1) * 256 = k.val * 256 + 256 by ring, ← cnt_2 1920 ((k0_t2_loop B.g).trips * 128) ((k.val * 256)) 48]
  refine att256_holds _ _ _ _ S r 2 (by norm_num) rfl H (fun t => ?_) (fun t => ?_) (fun t d => ?_)
  · rw [pay26_at B.q B.w k (by omega) (by omega)]
    simp only [U, cnt]
    rw [ext_lt _ _ _ (by omega), s2]
    have h3 : VecWindow.window B.x11 (k0_off11 B.w k) S1x1x1x256.size (k0_off11_inb B.w B.hw k) (ix4 0 0 0 t) = B.x11 (ix4 0 0 0 ⟨k.val * 256 + t.val, by omega⟩) :=
      window_at _ _ _ _ _ _ fun a => by have e := congrFun (Words.off11_eq B.w hl k) a; rw [e]; fin_cases a <;> first | rfl | exact (Nat.zero_add _).symm
    rw [h3]
    have h1 : ∀ d : Fin 128, VecWindow.window B.x9 (k0_off10 B.w k) S1x1x256x128.size (k0_off10_inb B.w B.hw k) (ix4 0 0 t d) = B.x9 (ix4 0 0 ⟨k.val * 256 + t.val, by omega⟩ d) := fun d =>
      window_at _ _ _ _ _ _ fun a => by have e := congrFun (Words.off10_eq B.w hl k) a; rw [e]; fin_cases a <;> first | rfl | exact (Nat.zero_add _).symm
    simp only [h1]
    split_ifs
    · rfl
    · exact bot_mul_il2.symm
  · show k0_pay25 _ (ix2 0 t) = _
    simp only [C, cnt]
    rw [ext_lt _ _ _ (by omega)]
    pointwise [k0_pay25]
    exact window_at _ _ _ _ _ _ fun a => by have e := congrFun (Words.off11_eq B.w hl k) a; rw [e]; fin_cases a <;> first | rfl | exact (Nat.zero_add _).symm
  · show k0_pay24 _ (ix2 t d) = _
    simp only [W, cnt]
    rw [ext_lt _ _ _ (by omega)]
    pointwise [k0_pay24]
    exact window_at _ _ _ _ _ _ fun a => by have e := congrFun (Words.off10_eq B.w hl k) a; rw [e]; fin_cases a <;> first | rfl | exact (Nat.zero_add _).symm

/-- After every chunk a row holds the sums over all its tokens. -/
theorem total_ok (hg : B.g.toInt ≤ 640) (hw : B.w.toInt ≤ 1024) :
    Ok B r (cnt 1920 ((k0_t2_loop B.g).trips * 128) ((k0_t4_loop B.w).trips * 256) 48) B.total := by
  have hN := stepN_ok B r _ (init_ok B r)
  have h1 := iter_keeps (step1 B.q B.x1 B.x2 B.x3 B.x4) (fun k S => Ok B r (cnt (k * 256) 0 0 48) S) _ (by simpa using hN) (step1_ok B r) k0_t1_loop.trips le_rfl
  have he : k0_t1_loop.trips * 256 = 1792 := by rw [trips1_eq]
  simp only [he] at h1
  have hR := stepR_ok B r _ h1
  have h2 := iter_keeps (step2 B.q B.g B.hg B.x5 B.x6 B.x7 B.x8) (fun k S => Ok B r (cnt 1920 (k * 128) 0 48) S) _ (by simpa using hR) (step2_ok B r hg) _ le_rfl
  exact iter_keeps (step4 B.q B.w B.hw B.x9 B.x10 B.x11 B.x12) (fun k S => Ok B r (cnt 1920 ((k0_t2_loop B.g).trips * 128) (k * 256) 48) S) _ (by simpa using h2) (step4_ok B r hw) _ le_rfl

theorem level0 : Level (U B r 0) (C B 0) (W B 0) 1920 (s0 B r) (fun t => B.x4 (ix3 0 0 (t.castLE (by norm_num)))) (fun t d => B.x2 (ix3 0 (t.castLE (by norm_num)) d)) where
  hu t := by simp only [U, ext_lt _ _ _ t.isLt]
  hc t := by simp only [C]; exact ext_lt _ _ _ (by omega)
  hv t d := by simp only [W]; rw [ext_lt _ _ _ (by omega)]; rfl
  big t h := by simp only [U, ext_ge _ _ _ h]
  small t h := absurd h (by omega)

theorem level1 (hg : B.g.toInt ≤ 640) : Level (U B r 1) (C B 1) (W B 1) ((k0_t2_loop B.g).trips * 128) (s1 B r) (fun t => B.x8 (ix4 0 0 0 t)) (fun t d => B.x6 (ix4 0 0 t d)) where
  hu t := by simp only [U, ext_lt _ _ _ t.isLt]
  hc t := by simp only [C, ext_lt _ _ _ t.isLt]
  hv t d := by simp only [W, ext_lt _ _ _ t.isLt]
  big t h := by simp only [U, ext_ge _ _ _ h]
  small t h := if_neg (by rw [Words.t2_trips B.g hg] at h; omega)

theorem level2 (hw : B.w.toInt ≤ 1024) : Level (U B r 2) (C B 2) (W B 2) ((k0_t4_loop B.w).trips * 256) (s2 B r) (fun t => B.x12 (ix4 0 0 0 t)) (fun t d => B.x10 (ix4 0 0 t d)) where
  hu t := by simp only [U, ext_lt _ _ _ t.isLt]
  hc t := by simp only [C, ext_lt _ _ _ t.isLt]
  hv t d := by simp only [W, ext_lt _ _ _ t.isLt]
  big t h := by simp only [U, ext_ge _ _ _ h]
  small t h := if_neg (by rw [Words.t4_trips B.w hw] at h; omega)

theorem level3 : Level (U B r 3) (C B 3) (W B 3) 48 (s3 B r) (fun t => 1) (fun t d => B.x14 (ix4 0 0 t d)) where
  hu t := by simp only [U, ext_lt _ _ _ t.isLt]
  hc t := rfl
  hv t d := by simp only [W, ext_lt _ _ _ t.isLt]
  big t h := by simp only [U, ext_ge _ _ _ h]
  small t h := absurd h (by omega)

end Cert.KernelIdeal.Rows

end
-- ==== Proof.Row.lean ====
/- One query row against its four levels of keys, and its softmax: the two results' entries as one formula. -/
module

public import proofs.«01_k».proof.Proof.Joint

@[expose] public section

noncomputable section

namespace Cert.Soft

open Idealize.ShloMosaic Finset

/-- What one query row meets: per level the keys `k`, the keys' scales `a`, the values `v` and the values' scales `b`; how many keys of the
    group's level (`g`) and of the sequence's own level (`w`) count, and which new tokens are visible. -/
structure Row where
  q : Fin 128 → EReal
  k0 : Fin 1800 → Fin 128 → EReal
  v0 : Fin 1800 → Fin 128 → EReal
  a0 : Fin 1800 → EReal
  b0 : Fin 1800 → EReal
  k1 : Fin 640 → Fin 128 → EReal
  v1 : Fin 640 → Fin 128 → EReal
  a1 : Fin 640 → EReal
  b1 : Fin 640 → EReal
  k2 : Fin 1024 → Fin 128 → EReal
  v2 : Fin 1024 → Fin 128 → EReal
  a2 : Fin 1024 → EReal
  b2 : Fin 1024 → EReal
  k3 : Fin 48 → Fin 128 → EReal
  v3 : Fin 48 → Fin 128 → EReal
  g : BitVec 32
  w : BitVec 32
  vis : Fin 48 → BitVec 1

/-- The scale of the scores: one over the square root of the head's width. -/
def scale : EReal := (((Real.sqrt 128)⁻¹ : ℝ) : EReal)

namespace Row

variable (R : Row)

/-- The scores of the shared prefix. -/
def s0 (t : Fin 1800) : EReal := (∑ d, R.q d * R.k0 t d) * R.a0 t * scale
/-- The scores of the group's level, minus infinity past its length. -/
def s1 (t : Fin 640) : EReal := if (t.val : ℤ) < R.g.toInt then (∑ d, R.q d * R.k1 t d) * R.a1 t * scale else ⊥
/-- The scores of the sequence's own level, minus infinity past its length. -/
def s2 (t : Fin 1024) : EReal := if (t.val : ℤ) < R.w.toInt then (∑ d, R.q d * R.k2 t d) * R.a2 t * scale else ⊥
/-- The scores of the new tokens, minus infinity where not visible. -/
def s3 (t : Fin 48) : EReal := if R.vis t = 1#1 then (∑ d, R.q d * R.k3 t d) * scale else ⊥

/-- The row's greatest score. -/
def M : EReal := top4 R.s0 R.s1 R.s2 R.s3

/-- One over the sum of all weights. -/
def norm : EReal := Ideal.div 1 (∑ t, Ideal.exp (R.s0 t - R.M) + ∑ t, Ideal.exp (R.s1 t - R.M) + ∑ t, Ideal.exp (R.s2 t - R.M) + ∑ t, Ideal.exp (R.s3 t - R.M))

/-- The attention's entry at `d`. -/
def att (d : Fin 128) : EReal :=
  (∑ t, Ideal.exp (R.s0 t - R.M) * R.b0 t * R.v0 t d + ∑ t, Ideal.exp (R.s1 t - R.M) * R.b1 t * R.v1 t d
    + ∑ t, Ideal.exp (R.s2 t - R.M) * R.b2 t * R.v2 t d + ∑ t, Ideal.exp (R.s3 t - R.M) * R.v3 t d) * R.norm

/-- The share of level `i` in the weights, zero past the four levels. -/
def share (i : ℕ) : EReal :=
  (if i = 0 then ∑ t, Ideal.exp (R.s0 t - R.M) else if i = 1 then ∑ t, Ideal.exp (R.s1 t - R.M)
    else if i = 2 then ∑ t, Ideal.exp (R.s2 t - R.M) else if i = 3 then ∑ t, Ideal.exp (R.s3 t - R.M) else 0) * R.norm

end Row

end Cert.Soft

end
-- ==== Proof.KernelIdeal.RowOut.lean ====
/- The kernel's two result blocks, entry by entry: the softmax of each query row over its four levels. -/
module

public import proofs.«01_k».proof.Proof.KernelIdeal.Chunks
public import proofs.«01_k».proof.Proof.Row

@[expose] public section

set_option maxRecDepth 16384

noncomputable section

namespace Cert.KernelIdeal.Rows

open Cert.KernelIdeal Cert.KernelIdeal.Gen Cert.KernelIdeal.Values Cert.Soft
open Idealize.ShloMosaic Idealize.ShloMosaic.TcCoe

variable (B : Blk) (r : Fin 240)

/-- The row `r` of a point's blocks. -/
def Blk.row : Row where
  q d := B.q (ix2 r d)
  k0 t d := B.x1 (ix3 0 (t.castLE (by norm_num)) d)
  v0 t d := B.x2 (ix3 0 (t.castLE (by norm_num)) d)
  a0 t := B.x3 (ix3 0 0 (t.castLE (by norm_num)))
  b0 t := B.x4 (ix3 0 0 (t.castLE (by norm_num)))
  k1 t d := B.x5 (ix4 0 0 t d)
  v1 t d := B.x6 (ix4 0 0 t d)
  a1 t := B.x7 (ix4 0 0 0 t)
  b1 t := B.x8 (ix4 0 0 0 t)
  k2 t d := B.x9 (ix4 0 0 t d)
  v2 t d := B.x10 (ix4 0 0 t d)
  a2 t := B.x11 (ix4 0 0 0 t)
  b2 t := B.x12 (ix4 0 0 0 t)
  k3 t d := B.x13 (ix4 0 0 t d)
  v3 t d := B.x14 (ix4 0 0 t d)
  g := B.g
  w := B.w
  vis t := IntOp.cmpi .sle (BitVec.ofNat 32 t.val) (k0_pay40 (ix2 r t))

variable (hg : B.g.toInt ≤ 640) (hw : B.w.toInt ≤ 1024)
include hg hw

theorem sum_l : ∑ d, B.total.l (ix2 r d) = ∑ t, Ideal.exp ((B.row r).s0 t - (B.row r).M) + ∑ t, Ideal.exp ((B.row r).s1 t - (B.row r).M)
    + ∑ t, Ideal.exp ((B.row r).s2 t - (B.row r).M) + ∑ t, Ideal.exp ((B.row r).s3 t - (B.row r).M) :=
  lanes_eq (total_ok B r hg hw) (level0 B r) (level1 B r hg) (level2 B r hw) (level3 B r)

/-- The attention block's entry. -/
theorem outO_at (d : Fin 128) : outO B.total (ix4 0 0 r d) = (B.row r).att d := by
  unfold outO
  rw [whole_eq, whole_eq]
  pointwise [k0_pay1, k0_pay75, k0_pay74]
  rw [sum_l B r hg hw, out_eq (total_ok B r hg hw) (level0 B r) (level1 B r hg) (level2 B r hw) (level3 B r)]
  simp only [mul_one]
  rfl

/-- The shares block's entry. -/
theorem outW_at (i : Fin 8) : outW B.total (ix4 0 0 r i) = (B.row r).share i := by
  unfold outW
  rw [whole_eq]
  pointwise [k0_pay2, k0_pay74]
  rw [sum_l B r hg hw, lane_eq (total_ok B r hg hw) (level0 B r) (level1 B r hg) (level2 B r hw) (level3 B r)]
  rfl

end Cert.KernelIdeal.Rows

end
-- ==== Proof.KernelIdeal.Host.lean ====
/- What the region finds in each operand of the kernel, entry by entry, in terms of the arguments. -/
module

public import proofs.«01_k».proof.Proof.KernelIdeal.Runs
public import Idealize.ShloMosaic.Lib.Pointwise
public import Idealize.ShloMosaic.Lib.StableHlo.RunRead
public import Idealize.ShloMosaic.Lib.KernelVsHost

@[expose] public section

set_option maxRecDepth 16384

noncomputable section

namespace Cert.KernelIdeal.Host

open Cert.KernelIdeal Cert.KernelIdeal.Gen Cert.KernelIdeal.Pipe
open Idealize.ShloMosaic Idealize.ShloMosaic.TcCoe

variable (m : (ℓ : Loc nD τ sig) → Buf (Elt Ideal) ℓ) (c : Dev nD)

/-- The queries: row `r` of head `h` is position `r % 48` of the group's query head `r / 48`. -/
theorem q (b : Fin 64) (h : Fin 8) (r : Fin 240) (d : Fin 128) :
    V m c main_v2 (ix4 b h r d) = m ((c : Thread nD τ).loc main_arg0) (ix3 b ⟨r.val % 48, by omega⟩ ⟨h.val * 640 + r.val / 48 * 128 + d.val, by omega⟩) := by
  unfold V
  after_reads_simp
  pointwise

/-- The prefix keys: the added rows lie past the last token. -/
theorem k0 (h : Fin 8) (t : Fin 1800) (d : Fin 128) :
    V m c main_v5 (ix3 h (t.castLE (by norm_num)) d) = m ((c : Thread nD τ).loc main_arg1) (ix3 t h d) := by
  unfold V
  after_reads_simp
  pointwise
  simp

/-- The prefix values: the added rows lie past the last token. -/
theorem v0 (h : Fin 8) (t : Fin 1800) (d : Fin 128) :
    V m c main_v7 (ix3 h (t.castLE (by norm_num)) d) = m ((c : Thread nD τ).loc main_arg2) (ix3 t h d) := by
  unfold V
  after_reads_simp
  pointwise
  simp

/-- The prefix keys' scales. -/
theorem a0 (h : Fin 8) (t : Fin 1800) :
    V m c main_v10 (ix3 h 0 (t.castLE (by norm_num))) = m ((c : Thread nD τ).loc main_arg3) (ix2 t h) := by
  unfold V
  after_reads_simp
  pointwise
  simp only [StableHlo.TRef.ofBuf, StableHlo.TRef.toBuf, cast_eq]
  exact pad_apply_of_inside (s := S1800x8) (t := S1920x8) ![0, 0] ![120, 0] ![0, 0] (m (c, Proc.tc.devRef main_arg3)) _ Facts₀.pads_S1800x8_S1920x8_01200_000 _ _ (ix2 t h) (fun a => by fin_cases a <;> simp [ix2])

/-- The prefix values' scales. -/
theorem b0 (h : Fin 8) (t : Fin 1800) :
    V m c main_v13 (ix3 h 0 (t.castLE (by norm_num))) = m ((c : Thread nD τ).loc main_arg4) (ix2 t h) := by
  unfold V
  after_reads_simp
  pointwise
  simp only [StableHlo.TRef.ofBuf, StableHlo.TRef.toBuf, cast_eq]
  exact pad_apply_of_inside (s := S1800x8) (t := S1920x8) ![0, 0] ![120, 0] ![0, 0] (m (c, Proc.tc.devRef main_arg4)) _ Facts₀.pads_S1800x8_S1920x8_01200_000 _ _ (ix2 t h) (fun a => by fin_cases a <;> simp [ix2])

/-- The mid keys. -/
theorem k1 (b : Fin 7) (h : Fin 8) (t : Fin 640) (d : Fin 128) :
    V m c main_v14 (ix4 b h t d) = m ((c : Thread nD τ).loc main_arg5) (ix4 b t h d) := by
  unfold V
  after_reads_simp
  pointwise

/-- The mid values. -/
theorem v1 (b : Fin 7) (h : Fin 8) (t : Fin 640) (d : Fin 128) :
    V m c main_v15 (ix4 b h t d) = m ((c : Thread nD τ).loc main_arg6) (ix4 b t h d) := by
  unfold V
  after_reads_simp
  pointwise

/-- The mid keys' scales. -/
theorem a1 (b : Fin 7) (h : Fin 8) (t : Fin 640) :
    V m c main_v17 (ix4 b h 0 t) = m ((c : Thread nD τ).loc main_arg7) (ix3 b t h) := by
  unfold V
  after_reads_simp
  pointwise

/-- The mid values' scales. -/
theorem b1 (b : Fin 7) (h : Fin 8) (t : Fin 640) :
    V m c main_v19 (ix4 b h 0 t) = m ((c : Thread nD τ).loc main_arg8) (ix3 b t h) := by
  unfold V
  after_reads_simp
  pointwise

/-- The tail keys. -/
theorem k2 (b : Fin 64) (h : Fin 8) (t : Fin 1024) (d : Fin 128) :
    V m c main_v20 (ix4 b h t d) = m ((c : Thread nD τ).loc main_arg11) (ix4 b t h d) := by
  unfold V
  after_reads_simp
  pointwise

/-- The tail values. -/
theorem v2 (b : Fin 64) (h : Fin 8) (t : Fin 1024) (d : Fin 128) :
    V m c main_v21 (ix4 b h t d) = m ((c : Thread nD τ).loc main_arg12) (ix4 b t h d) := by
  unfold V
  after_reads_simp
  pointwise

/-- The tail keys' scales. -/
theorem a2 (b : Fin 64) (h : Fin 8) (t : Fin 1024) :
    V m c main_v23 (ix4 b h 0 t) = m ((c : Thread nD τ).loc main_arg13) (ix3 b t h) := by
  unfold V
  after_reads_simp
  pointwise

/-- The tail values' scales. -/
theorem b2 (b : Fin 64) (h : Fin 8) (t : Fin 1024) :
    V m c main_v25 (ix4 b h 0 t) = m ((c : Thread nD τ).loc main_arg14) (ix3 b t h) := by
  unfold V
  after_reads_simp
  pointwise

/-- The new keys. -/
theorem k3 (b : Fin 64) (h : Fin 8) (t : Fin 48) (d : Fin 128) :
    V m c main_v26 (ix4 b h t d) = m ((c : Thread nD τ).loc main_arg16) (ix4 b t h d) := by
  unfold V
  after_reads_simp
  pointwise

/-- The new values. -/
theorem v3 (b : Fin 64) (h : Fin 8) (t : Fin 48) (d : Fin 128) :
    V m c main_v27 (ix4 b h t d) = m ((c : Thread nD τ).loc main_arg17) (ix4 b t h d) := by
  unfold V
  after_reads_simp
  pointwise

end Cert.KernelIdeal.Host

end
-- ==== Proof.KernelIdeal.ValueBody.lean ====
/- One run of `KernelIdeal`'s body on whole staging buffers, from table words that satisfy the conditions the body assumes. -/
module

public import proofs.«01_k».proof.Proof.KernelIdeal.Runs
public import proofs.«01_k».proof.Proof.KernelIdeal.Reads

@[expose] public section

-- membership in a rectangle of production extents (`View.cover_of_tiled`): the elaborator's structural look
-- recurses once per coordinate of the long axes
set_option maxRecDepth 16384

noncomputable section

namespace Cert.KernelIdeal.VPipe

open Cert.KernelIdeal.Pipe hiding frame dats

open Cert.KernelIdeal.Gen Cert.KernelIdeal.Values

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4000000 in
/-- The body's triple: on whole staging memrefs — the inputs' at their contents,
    the outputs' (15, 16) at anything, handed back at the attention block and the levels' shares of the running arrays after all four levels —
    the body runs to the continuation holding the inputs' as they were, the scratch at some contents: the printed functions are their skeletons (`Gen.*_eq_skeleton`),
    which `sl_exec` runs (Lib/Exec.lean). -/
theorem kernelRun0_V (c : Dev nD) (i : grid0.Coords) (arg5 : Memref sig .tc .vmem S1x1x240x128 .bf16) (harg5 : arg5.IsWhole) (arg6 : Memref sig .tc .vmem S1x1920x128 .fp8e4m3) (harg6 : arg6.IsWhole) (arg7 : Memref sig .tc .vmem S1x1920x128 .fp8e4m3) (harg7 : arg7.IsWhole) (arg8 : Memref sig .tc .vmem S1x1x1920 .f32) (harg8 : arg8.IsWhole) (arg9 : Memref sig .tc .vmem S1x1x1920 .f32) (harg9 : arg9.IsWhole) (arg10 : Memref sig .tc .vmem S1x1x640x128 .fp8e4m3) (harg10 : arg10.IsWhole) (arg11 : Memref sig .tc .vmem S1x1x640x128 .fp8e4m3) (harg11 : arg11.IsWhole) (arg12 : Memref sig .tc .vmem S1x1x1x640 .f32) (harg12 : arg12.IsWhole) (arg13 : Memref sig .tc .vmem S1x1x1x640 .f32) (harg13 : arg13.IsWhole) (arg14 : Memref sig .tc .vmem S1x1x1024x128 .fp8e4m3) (harg14 : arg14.IsWhole) (arg15 : Memref sig .tc .vmem S1x1x1024x128 .fp8e4m3) (harg15 : arg15.IsWhole) (arg16 : Memref sig .tc .vmem S1x1x1x1024 .f32) (harg16 : arg16.IsWhole) (arg17 : Memref sig .tc .vmem S1x1x1x1024 .f32) (harg17 : arg17.IsWhole) (arg18 : Memref sig .tc .vmem S1x1x48x128 .bf16) (harg18 : arg18.IsWhole) (arg19 : Memref sig .tc .vmem S1x1x48x128 .bf16) (harg19 : arg19.IsWhole) (arg20 : Memref sig .tc .vmem S1x1x240x128 .bf16) (harg20 : arg20.IsWhole) (arg21 : Memref sig .tc .vmem S1x1x240x8 .f32) (harg21 : arg21.IsWhole) (arg22 : Memref sig .tc .vmem S240x128 .f32) (harg22 : arg22.IsWhole) (arg23 : Memref sig .tc .vmem S240x128 .f32) (harg23 : arg23.IsWhole) (arg24 : Memref sig .tc .vmem S240x128 .f32) (harg24 : arg24.IsWhole)
    (x0 : Vec F S1x1x240x128 .bf16) (x1 : Vec F S1x1920x128 .fp8e4m3) (x2 : Vec F S1x1920x128 .fp8e4m3) (x3 : Vec F S1x1x1920 .f32) (x4 : Vec F S1x1x1920 .f32) (x5 : Vec F S1x1x640x128 .fp8e4m3) (x6 : Vec F S1x1x640x128 .fp8e4m3) (x7 : Vec F S1x1x1x640 .f32) (x8 : Vec F S1x1x1x640 .f32) (x9 : Vec F S1x1x1024x128 .fp8e4m3) (x10 : Vec F S1x1x1024x128 .fp8e4m3) (x11 : Vec F S1x1x1x1024 .f32) (x12 : Vec F S1x1x1x1024 .f32) (x13 : Vec F S1x1x48x128 .bf16) (x14 : Vec F S1x1x48x128 .bf16) (xt0 : TbBuf0 (F := F) c tbM0_0) (xt1 : TbBuf0 (F := F) c tbM0_1) (xt2 : TbBuf0 (F := F) c tbM0_2)
    (hw1 : ∀ j, k0_chk1 (xt1 j)) (hw2 : ∀ j, k0_chk2 (xt0 j)) (hw3 : ∀ j, k0_chk3 (xt2 j)) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare x10 ∗ owns (c : Thread nD τ) arg16 fullShare x11 ∗ owns (c : Thread nD τ) arg17 fullShare x12 ∗ owns (c : Thread nD τ) arg18 fullShare x13 ∗ owns (c : Thread nD τ) arg19 fullShare x14 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare x10 ∗ owns (c : Thread nD τ) arg16 fullShare x11 ∗ owns (c : Thread nD τ) arg17 fullShare x12 ∗ owns (c : Thread nD τ) arg18 fullShare x13 ∗ owns (c : Thread nD τ) arg19 fullShare x14 ∗ owns (c : Thread nD τ) arg20 fullShare (outO (total (k0_pay36 x0) x1 x2 x3 x4 x5 x6 x7 x8 x9 x10 x11 x12 x13 x14 (midWord c i xt0 xt1 (hw1 _)) (hw2 _) (tailWord c i xt2) (hw3 _))) ∗ owns (c : Thread nD τ) arg21 fullShare (outW (total (k0_pay36 x0) x1 x2 x3 x4 x5 x6 x7 x8 x9 x10 x11 x12 x13 x14 (midWord c i xt0 xt1 (hw1 _)) (hw2 _) (tailWord c i xt2) (hw3 _))) ∗ (∃ d, owns (c : Thread nD τ) arg22 fullShare d) ∗ (∃ d, owns (c : Thread nD τ) arg23 fullShare d) ∗ (∃ d, owns (c : Thread nD τ) arg24 fullShare d) ∗ tbPt0 c tbM0_0 xt0 ∗ tbPt0 c tbM0_1 xt1 ∗ tbPt0 c tbM0_2 xt2) -∗ K ⟨⟩))
          ⊢ wp frame (wpE (defs₀ (F := F)) Variants.none c none) E (cc0_cascade i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0_cascade_eq_skeleton]; unfold cc0_cascade_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%ds0, %fs0, -, HS0⟩, ⟨%ds1, %fs1, -, HS1⟩, ⟨%ds2, %fs2, -, HS2⟩, HT0, HT1, HT2, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9; obtain rfl := harg15.eq_unread hf10; obtain rfl := harg16.eq_unread hf11; obtain rfl := harg17.eq_unread hf12; obtain rfl := harg18.eq_unread hf13; obtain rfl := harg19.eq_unread hf14
    sl_exec (disch := first | exact hw1 _ | exact hw2 _ | exact hw3 _)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; · ipureintro; exact harg14.read_unread _
      iexact H9
    isplitl [H10]
    · iexists _; isplitr; · ipureintro; exact harg15.read_unread _
      iexact H10
    isplitl [H11]
    · iexists _; isplitr; · ipureintro; exact harg16.read_unread _
      iexact H11
    isplitl [H12]
    · iexists _; isplitr; · ipureintro; exact harg17.read_unread _
      iexact H12
    isplitl [H13]
    · iexists _; isplitr; · ipureintro; exact harg18.read_unread _
      iexact H13
    isplitl [H14]
    · iexists _; isplitr; · ipureintro; exact harg19.read_unread _
      iexact H14
    isplitl [H15]
    · iexists _; isplitr; swap; · iexact H15
      ipureintro
      refine (View.read_writes_full (s := S1x1x240x128) _ _ _ _ _).trans ?_
      sl_unfold_run_names
      have hq : k0_pay36 x0 = k0_pay36 (F := F) (View.readAt (Elt F) arg5.view (Rect.unit (s := S1x1x240x128) ![0, 0, 0, 0] S1x1x240x128.size inb_S1x1x240x128_S1x1x240x128_0_0_0_0).toLoadRect (harg5.unread x0)) :=
        congrArg k0_pay36 ((View.readAt_full (s := S1x1x240x128) _ _ _).trans (harg5.read_unread _)).symm
      have hx13 : x13 = View.readAt (Elt F) arg18.view (Rect.unit (s := S1x1x48x128) ![0, 0, 0, 0] S1x1x48x128.size inb_S1x1x48x128_S1x1x48x128_0_0_0_0).toLoadRect (harg18.unread x13) :=
        ((View.readAt_full (s := S1x1x48x128) _ _ _).trans (harg18.read_unread _)).symm
      have hx14 : x14 = View.readAt (Elt F) arg19.view (Rect.unit (s := S1x1x48x128) ![0, 0, 0, 0] S1x1x48x128.size inb_S1x1x48x128_S1x1x48x128_0_0_0_0).toLoadRect (harg19.unread x14) :=
        ((View.readAt_full (s := S1x1x48x128) _ _ _).trans (harg19.read_unread _)).symm
      rw [show total (k0_pay36 x0) x1 x2 x3 x4 x5 x6 x7 x8 x9 x10 x11 x12 x13 x14 (midWord c i xt0 xt1 (hw1 _)) (hw2 _) (tailWord c i xt2) (hw3 _) =
        total (k0_pay36 (F := F) (View.readAt (Elt F) arg5.view (Rect.unit (s := S1x1x240x128) ![0, 0, 0, 0] S1x1x240x128.size inb_S1x1x240x128_S1x1x240x128_0_0_0_0).toLoadRect (harg5.unread x0)))
          (arg6.view.read (Elt F) (harg6.unread x1)) (arg7.view.read (Elt F) (harg7.unread x2)) (arg8.view.read (Elt F) (harg8.unread x3)) (arg9.view.read (Elt F) (harg9.unread x4))
          (arg10.view.read (Elt F) (harg10.unread x5)) (arg11.view.read (Elt F) (harg11.unread x6)) (arg12.view.read (Elt F) (harg12.unread x7)) (arg13.view.read (Elt F) (harg13.unread x8))
          (arg14.view.read (Elt F) (harg14.unread x9)) (arg15.view.read (Elt F) (harg15.unread x10)) (arg16.view.read (Elt F) (harg16.unread x11)) (arg17.view.read (Elt F) (harg17.unread x12))
          (View.readAt (Elt F) arg18.view (Rect.unit (s := S1x1x48x128) ![0, 0, 0, 0] S1x1x48x128.size inb_S1x1x48x128_S1x1x48x128_0_0_0_0).toLoadRect (harg18.unread x13))
          (View.readAt (Elt F) arg19.view (Rect.unit (s := S1x1x48x128) ![0, 0, 0, 0] S1x1x48x128.size inb_S1x1x48x128_S1x1x48x128_0_0_0_0).toLoadRect (harg19.unread x14))
          (midWord c i xt0 xt1 (hw1 _)) (hw2 _) (tailWord c i xt2) (hw3 _) by
        rw [← hq, ← hx13, ← hx14, harg6.read_unread, harg7.read_unread, harg8.read_unread, harg9.read_unread, harg10.read_unread, harg11.read_unread, harg12.read_unread, harg13.read_unread, harg14.read_unread, harg15.read_unread, harg16.read_unread, harg17.read_unread]]
      unfold total
      refine (show _ = outO (rd arg22 arg23 arg24 _ _ _) from rfl).trans (congrArg outO ((loop5 (N := _) (hN := rfl) ..).trans ((loop4 (N := _) (hN := rfl) ..).trans (iter_congr ?_ rfl))))
      refine (loop3 (N := _) (hN := rfl) ..).trans ((loop2 (N := _) (hN := rfl) ..).trans (iter_congr ?_ rfl))
      refine (rd_full ..).trans ?_
      refine Eq.trans (show _ = stepR _ _ _ _ _ (rd arg22 arg23 arg24 (_ ++ _) (_ ++ _) (_ ++ _)) from rfl) ?_
      refine congrArg (stepR _ _ _ _ _) ((loop1 (N := _) (hN := rfl) ..).trans (iter_congr ?_ rfl))
      refine (rd_full ..).trans ?_
      refine Eq.trans (show _ = stepN _ _ _ (rd arg22 arg23 arg24 _ _ _) from rfl) (congrArg (stepN _ _ _) ((rd_full ..).trans rfl))
    isplitl [H16]
    · iexists _; isplitr; swap; · iexact H16
      ipureintro
      refine (View.read_writes_full (s := S1x1x240x8) _ _ _ _ _).trans ?_
      sl_unfold_run_names
      have hq : k0_pay36 x0 = k0_pay36 (F := F) (View.readAt (Elt F) arg5.view (Rect.unit (s := S1x1x240x128) ![0, 0, 0, 0] S1x1x240x128.size inb_S1x1x240x128_S1x1x240x128_0_0_0_0).toLoadRect (harg5.unread x0)) :=
        congrArg k0_pay36 ((View.readAt_full (s := S1x1x240x128) _ _ _).trans (harg5.read_unread _)).symm
      have hx13 : x13 = View.readAt (Elt F) arg18.view (Rect.unit (s := S1x1x48x128) ![0, 0, 0, 0] S1x1x48x128.size inb_S1x1x48x128_S1x1x48x128_0_0_0_0).toLoadRect (harg18.unread x13) :=
        ((View.readAt_full (s := S1x1x48x128) _ _ _).trans (harg18.read_unread _)).symm
      have hx14 : x14 = View.readAt (Elt F) arg19.view (Rect.unit (s := S1x1x48x128) ![0, 0, 0, 0] S1x1x48x128.size inb_S1x1x48x128_S1x1x48x128_0_0_0_0).toLoadRect (harg19.unread x14) :=
        ((View.readAt_full (s := S1x1x48x128) _ _ _).trans (harg19.read_unread _)).symm
      rw [show total (k0_pay36 x0) x1 x2 x3 x4 x5 x6 x7 x8 x9 x10 x11 x12 x13 x14 (midWord c i xt0 xt1 (hw1 _)) (hw2 _) (tailWord c i xt2) (hw3 _) =
        total (k0_pay36 (F := F) (View.readAt (Elt F) arg5.view (Rect.unit (s := S1x1x240x128) ![0, 0, 0, 0] S1x1x240x128.size inb_S1x1x240x128_S1x1x240x128_0_0_0_0).toLoadRect (harg5.unread x0)))
          (arg6.view.read (Elt F) (harg6.unread x1)) (arg7.view.read (Elt F) (harg7.unread x2)) (arg8.view.read (Elt F) (harg8.unread x3)) (arg9.view.read (Elt F) (harg9.unread x4))
          (arg10.view.read (Elt F) (harg10.unread x5)) (arg11.view.read (Elt F) (harg11.unread x6)) (arg12.view.read (Elt F) (harg12.unread x7)) (arg13.view.read (Elt F) (harg13.unread x8))
          (arg14.view.read (Elt F) (harg14.unread x9)) (arg15.view.read (Elt F) (harg15.unread x10)) (arg16.view.read (Elt F) (harg16.unread x11)) (arg17.view.read (Elt F) (harg17.unread x12))
          (View.readAt (Elt F) arg18.view (Rect.unit (s := S1x1x48x128) ![0, 0, 0, 0] S1x1x48x128.size inb_S1x1x48x128_S1x1x48x128_0_0_0_0).toLoadRect (harg18.unread x13))
          (View.readAt (Elt F) arg19.view (Rect.unit (s := S1x1x48x128) ![0, 0, 0, 0] S1x1x48x128.size inb_S1x1x48x128_S1x1x48x128_0_0_0_0).toLoadRect (harg19.unread x14))
          (midWord c i xt0 xt1 (hw1 _)) (hw2 _) (tailWord c i xt2) (hw3 _) by
        rw [← hq, ← hx13, ← hx14, harg6.read_unread, harg7.read_unread, harg8.read_unread, harg9.read_unread, harg10.read_unread, harg11.read_unread, harg12.read_unread, harg13.read_unread, harg14.read_unread, harg15.read_unread, harg16.read_unread, harg17.read_unread]]
      unfold total
      refine (show _ = outW (rd arg22 arg23 arg24 _ _ _) from rfl).trans (congrArg outW ((loop5 (N := _) (hN := rfl) ..).trans ((loop4 (N := _) (hN := rfl) ..).trans (iter_congr ?_ rfl))))
      refine (loop3 (N := _) (hN := rfl) ..).trans ((loop2 (N := _) (hN := rfl) ..).trans (iter_congr ?_ rfl))
      refine (rd_full ..).trans ?_
      refine Eq.trans (show _ = stepR _ _ _ _ _ (rd arg22 arg23 arg24 (_ ++ _) (_ ++ _) (_ ++ _)) from rfl) ?_
      refine congrArg (stepR _ _ _ _ _) ((loop1 (N := _) (hN := rfl) ..).trans (iter_congr ?_ rfl))
      refine (rd_full ..).trans ?_
      refine Eq.trans (show _ = stepN _ _ _ (rd arg22 arg23 arg24 _ _ _) from rfl) (congrArg (stepN _ _ _) ((rd_full ..).trans rfl))
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    isplitl [HT1]; · iexact HT1
    iexact HT2

end Cert.KernelIdeal.VPipe

end
-- ==== Proof.KernelIdeal.ValueFrame.lean ====
/- The launch of `KernelIdeal` with its results named: each grid point leaves the finished softmax of its four levels in the two output blocks. -/
module

public import proofs.«01_k».proof.Proof.KernelIdeal.ValueBody
public import proofs.«01_k».proof.Proof.KernelIdeal.Frame
public import Idealize.ShloMosaic.Lib.Pipeline.Value
public import Idealize.ShloMosaic.Lib.Claim

@[expose] public section

-- membership in a rectangle of production extents (`View.cover_of_tiled`): the elaborator's structural look
-- recurses once per coordinate of the long axes
set_option maxRecDepth 16384

noncomputable section

namespace Cert.KernelIdeal.VPipe

open Cert.KernelIdeal.Gen Cert.KernelIdeal.Values
open Cert.KernelIdeal.Pipe hiding A_eq after0_0 after0_1 after0_10 after0_11 after0_12 after0_13 after0_14 after0_2 after0_3 after0_4 after0_5 after0_6 after0_7 after0_8 after0_9 before0_0 before0_1 before0_10 before0_11 before0_12 before0_13 before0_14 before0_2 before0_3 before0_4 before0_5 before0_6 before0_7 before0_8 before0_9 bodyPost bodyPre body_obligation dats frame run_main sound_body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- The running state at grid point `t` once every chunk has been attended to, read off the blocks staged there. -/
def last (hO : Ok m) (hH : Hyps m) (c : Dev nD) (t : Fin (cfgM m hO).N) : St F :=
  total (k0_pay36 (iblk m hO c 0 t)) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t)
    (midWord c (grid0.coords t) (tbl m 0) (tbl m 1) (hH.1 _)) (hH.2.1 _) (tailWord c (grid0.coords t) (tbl m 2)) (hH.2.2 _)

/-- The proof data of the one pipeline on core `c`: the arrays as the region finds them (`V`); after the body at
    point `t` each input's buffer at its block and the outputs at the finished state's two results; the invariant the class's
    (Lib/Pipeline/Frame.lean `ΦA`: the scoped rest and the generator register) and the tables' halves (`ΦT`); nothing owed;
    full shares. -/
def dats (hO : Ok m) (hH : Hyps m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => outO (last m hO hH c t)
    | ⟨16, _⟩ => outW (last m hO hH c t)
    | ⟨_ + 17, h⟩ => absurd h (Nat.not_lt.2 (Nat.le_add_left _ _))
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m) (c : Dev nD) (t : Fin (cfgM m hO).N) : (dats m hO hH 0 c).after 0 t = iblk m hO c 0 t := by dsimp only [dats]; try rfl
theorem after0_1 (hO : Ok m) (hH : Hyps m) (c : Dev nD) (t : Fin (cfgM m hO).N) : (dats m hO hH 0 c).after 1 t = iblk m hO c 1 t := by dsimp only [dats]; try rfl
theorem after0_2 (hO : Ok m) (hH : Hyps m) (c : Dev nD) (t : Fin (cfgM m hO).N) : (dats m hO hH 0 c).after 2 t = iblk m hO c 2 t := by dsimp only [dats]; try rfl
theorem after0_3 (hO : Ok m) (hH : Hyps m) (c : Dev nD) (t : Fin (cfgM m hO).N) : (dats m hO hH 0 c).after 3 t = iblk m hO c 3 t := by dsimp only [dats]; try rfl
theorem after0_4 (hO : Ok m) (hH : Hyps m) (c : Dev nD) (t : Fin (cfgM m hO).N) : (dats m hO hH 0 c).after 4 t = iblk m hO c 4 t := by dsimp only [dats]; try rfl
theorem after0_5 (hO : Ok m) (hH : Hyps m) (c : Dev nD) (t : Fin (cfgM m hO).N) : (dats m hO hH 0 c).after 5 t = iblk m hO c 5 t := by dsimp only [dats]; try rfl
theorem after0_6 (hO : Ok m) (hH : Hyps m) (c : Dev nD) (t : Fin (cfgM m hO).N) : (dats m hO hH 0 c).after 6 t = iblk m hO c 6 t := by dsimp only [dats]; try rfl
theorem after0_7 (hO : Ok m) (hH : Hyps m) (c : Dev nD) (t : Fin (cfgM m hO).N) : (dats m hO hH 0 c).after 7 t = iblk m hO c 7 t := by dsimp only [dats]; try rfl
theorem after0_8 (hO : Ok m) (hH : Hyps m) (c : Dev nD) (t : Fin (cfgM m hO).N) : (dats m hO hH 0 c).after 8 t = iblk m hO c 8 t := by dsimp only [dats]; try rfl
theorem after0_9 (hO : Ok m) (hH : Hyps m) (c : Dev nD) (t : Fin (cfgM m hO).N) : (dats m hO hH 0 c).after 9 t = iblk m hO c 9 t := by dsimp only [dats]; try rfl
theorem after0_10 (hO : Ok m) (hH : Hyps m) (c : Dev nD) (t : Fin (cfgM m hO).N) : (dats m hO hH 0 c).after 10 t = iblk m hO c 10 t := by dsimp only [dats]; try rfl
theorem after0_11 (hO : Ok m) (hH : Hyps m) (c : Dev nD) (t : Fin (cfgM m hO).N) : (dats m hO hH 0 c).after 11 t = iblk m hO c 11 t := by dsimp only [dats]; try rfl
theorem after0_12 (hO : Ok m) (hH : Hyps m) (c : Dev nD) (t : Fin (cfgM m hO).N) : (dats m hO hH 0 c).after 12 t = iblk m hO c 12 t := by dsimp only [dats]; try rfl
theorem after0_13 (hO : Ok m) (hH : Hyps m) (c : Dev nD) (t : Fin (cfgM m hO).N) : (dats m hO hH 0 c).after 13 t = iblk m hO c 13 t := by dsimp only [dats]; try rfl
theorem after0_14 (hO : Ok m) (hH : Hyps m) (c : Dev nD) (t : Fin (cfgM m hO).N) : (dats m hO hH 0 c).after 14 t = iblk m hO c 14 t := by dsimp only [dats]; try rfl

theorem after0_15 (hO : Ok m) (hH : Hyps m) (c : Dev nD) (t : Fin (cfgM m hO).N) : (dats m hO hH 0 c).after 15 t = outO (last m hO hH c t) := by dsimp only [dats]; try rfl
theorem after0_16 (hO : Ok m) (hH : Hyps m) (c : Dev nD) (t : Fin (cfgM m hO).N) : (dats m hO hH 0 c).after 16 t = outW (last m hO hH c t) := by dsimp only [dats]; try rfl

/-- Each input's current staging buffer holds its block at every point, fetched there or not (`beforeK_W_of`). -/
theorem before0_0 (hO : Ok m) (hH : Hyps m) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : Hyps m) (c : Dev nD) (t : Fin (cfgM m hO).N) (d) : (dats m hO hH 0 c).before 7 t d = iblk m hO c 7 t :=
  before0_7_of m hO (dats m hO hH 0 c) (A_eq m hO hH c 7) (after0_7 m hO hH c) t d
theorem before0_8 (hO : Ok m) (hH : Hyps m) (c : Dev nD) (t : Fin (cfgM m hO).N) (d) : (dats m hO hH 0 c).before 8 t d = iblk m hO c 8 t :=
  before0_8_of m hO (dats m hO hH 0 c) (A_eq m hO hH c 8) (after0_8 m hO hH c) t d
theorem before0_9 (hO : Ok m) (hH : Hyps m) (c : Dev nD) (t : Fin (cfgM m hO).N) (d) : (dats m hO hH 0 c).before 9 t d = iblk m hO c 9 t :=
  before0_9_of m hO (dats m hO hH 0 c) (A_eq m hO hH c 9) (after0_9 m hO hH c) t d
theorem before0_10 (hO : Ok m) (hH : Hyps m) (c : Dev nD) (t : Fin (cfgM m hO).N) (d) : (dats m hO hH 0 c).before 10 t d = iblk m hO c 10 t :=
  before0_10_of m hO (dats m hO hH 0 c) (A_eq m hO hH c 10) (after0_10 m hO hH c) t d
theorem before0_11 (hO : Ok m) (hH : Hyps m) (c : Dev nD) (t : Fin (cfgM m hO).N) (d) : (dats m hO hH 0 c).before 11 t d = iblk m hO c 11 t :=
  before0_11_of m hO (dats m hO hH 0 c) (A_eq m hO hH c 11) (after0_11 m hO hH c) t d
theorem before0_12 (hO : Ok m) (hH : Hyps m) (c : Dev nD) (t : Fin (cfgM m hO).N) (d) : (dats m hO hH 0 c).before 12 t d = iblk m hO c 12 t :=
  before0_12_of m hO (dats m hO hH 0 c) (A_eq m hO hH c 12) (after0_12 m hO hH c) t d
theorem before0_13 (hO : Ok m) (hH : Hyps m) (c : Dev nD) (t : Fin (cfgM m hO).N) (d) : (dats m hO hH 0 c).before 13 t d = iblk m hO c 13 t :=
  before0_13_of m hO (dats m hO hH 0 c) (A_eq m hO hH c 13) (after0_13 m hO hH c) t d
theorem before0_14 (hO : Ok m) (hH : Hyps m) (c : Dev nD) (t : Fin (cfgM m hO).N) (d) : (dats m hO hH 0 c).before 14 t d = iblk m hO c 14 t :=
  before0_14_of m hO (dats m hO hH 0 c) (A_eq m hO hH c 14) (after0_14 m hO hH c) t d

/-! ## The body obligation, at a generic point -/

/-- What the body is called with at point `t` (Lib/Pipeline.lean `BodyObligation`'s precondition, the windows one by one), -/
def bodyPre (hO : Ok m) (hH : Hyps m) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare ((dats m hO hH 0 c).before 8 t d))
    ∗ (∃ d, owns (c : Thread nD τ) (ms0_9 m hO t) fullShare ((dats m hO hH 0 c).before 9 t d))
    ∗ (∃ d, owns (c : Thread nD τ) (ms0_10 m hO t) fullShare ((dats m hO hH 0 c).before 10 t d))
    ∗ (∃ d, owns (c : Thread nD τ) (ms0_11 m hO t) fullShare ((dats m hO hH 0 c).before 11 t d))
    ∗ (∃ d, owns (c : Thread nD τ) (ms0_12 m hO t) fullShare ((dats m hO hH 0 c).before 12 t d))
    ∗ (∃ d, owns (c : Thread nD τ) (ms0_13 m hO t) fullShare ((dats m hO hH 0 c).before 13 t d))
    ∗ (∃ d, owns (c : Thread nD τ) (ms0_14 m hO t) fullShare ((dats m hO hH 0 c).before 14 t d))
    ∗ (∃ d, owns (c : Thread nD τ) (ms0_15 m hO t) fullShare ((dats m hO hH 0 c).before 15 t d))
    ∗ (∃ d, owns (c : Thread nD τ) (ms0_16 m hO t) fullShare ((dats m hO hH 0 c).before 16 t d)))

/-- and what it returns. -/
def bodyPost (hO : Ok m) (hH : Hyps m) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t)
    ∗ owns (c : Thread nD τ) (ms0_8 m hO t) fullShare ((dats m hO hH 0 c).after 8 t)
    ∗ owns (c : Thread nD τ) (ms0_9 m hO t) fullShare ((dats m hO hH 0 c).after 9 t)
    ∗ owns (c : Thread nD τ) (ms0_10 m hO t) fullShare ((dats m hO hH 0 c).after 10 t)
    ∗ owns (c : Thread nD τ) (ms0_11 m hO t) fullShare ((dats m hO hH 0 c).after 11 t)
    ∗ owns (c : Thread nD τ) (ms0_12 m hO t) fullShare ((dats m hO hH 0 c).after 12 t)
    ∗ owns (c : Thread nD τ) (ms0_13 m hO t) fullShare ((dats m hO hH 0 c).after 13 t)
    ∗ owns (c : Thread nD τ) (ms0_14 m hO t) fullShare ((dats m hO hH 0 c).after 14 t)
    ∗ owns (c : Thread nD τ) (ms0_15 m hO t) fullShare ((dats m hO hH 0 c).after 15 t)
    ∗ owns (c : Thread nD τ) (ms0_16 m hO t) fullShare ((dats m hO hH 0 c).after 16 t))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (hO : Ok m) (hH : Hyps m) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7, before0_8, before0_9, before0_10, before0_11, before0_12, before0_13, before0_14]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5, after0_6, after0_7, after0_8, after0_9, after0_10, after0_11, after0_12, after0_13, after0_14, after0_15, after0_16]
  rw [show (dats m hO hH 0 c).Φ t.castSucc = iprop(Pipeline.ΦA spec0 c ∗ Pipeline.ΦT pre0 (tbl m) c) from rfl, PhiT0_eq, PhiA0_eq]
  iintro ⟨⟨⟨⟨HS0, HS1, HS2⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((kernelRun0_V c (grid0.coords t) _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (tbl m 0) (tbl m 1) (tbl m 2) hH.1 hH.2.1 hH.2.2) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [HS0]; · iexact HS0
  isplitl [HS1]; · iexact HS1
  isplitl [HS2]; · iexact HS2
  isplitl [HT0]; · iexact HT0
  isplitl [HT1]; · iexact HT1
  isplitl [HT2]; · iexact HT2
  iintro ⟨H0, H1, H2, H3, H4, H5, H6, H7, H8, H9, H10, H11, H12, H13, H14, H15, H16, HS0, HS1, HS2, HT0, HT1, HT2⟩
  isplitl [HS0 HS1 HS2 Hg HT0 HT1 HT2]
  · isplitl [HS0 HS1 HS2 Hg]
    · isplitl [HS0 HS1 HS2]
      · isplitl [HS0]
        · iexact HS0
        isplitl [HS1]
        · iexact HS1
        iexact HS2
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body table's row at point `t`'s slots is the body as `bodyAt0` spells it. -/
theorem defs₀_row (hO : Ok m) (hH : Hyps m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m) (c : Dev nD) : BodyObligation (dats (F := F) m hO hH 0 c) (defs₀ (F := F)) Variants.none () Set.univ := fun t => by
  rw [bigSep_W0, bigSep_W0, defs₀_row m hO hH]
  exact triple_restated (sound_body m hO hH c t) rfl .rfl fun _ => .rfl

/-! ## The run and the frame -/

-- `θ_run_frameP`'s implicit arguments are found by unifying its conclusion with this one, which takes unfolding plain
-- definitions in a metavariable's type
set_option backward.isDefEq.respectTransparency.types false in
/-- The launch with every array named: each window's array ends as the grid points' blocks leave it. -/
theorem run_main (hO : Ok m) (hH : Hyps m) : θ_run defs (onTc (τ := τ) (main (F := F))) (s₀ m ρ) (Pipeline.FramePost (Pipeline.pin pcfgs fun _ => adm m hO) (dats m hO hH) 0 (V m)) :=
  Pipeline.θ_run_frameP pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

end Cert.KernelIdeal.VPipe

end
-- ==== Proof.KernelIdeal.Windows.lean ====
/- What the kernel's input windows hold at a grid point, in terms of the arrays they are cut from. -/
module

public import proofs.«01_k».proof.Proof.KernelIdeal.ValueFrame
public import Idealize.ShloMosaic.Lib.Pipeline.ValueKit
public import Idealize.ShloMosaic.Lib.Pointwise

@[expose] public section

set_option maxRecDepth 16384

noncomputable section

namespace Cert.KernelIdeal.Windows

open Idealize.ShloMosaic Idealize.ShloMosaic.TcCoe Idealize.ShloMosaic.Pipeline
open Cert.KernelIdeal.Gen Cert.KernelIdeal.Pipe

variable (m : (ℓ : Loc nD τ sig) → Buf (Elt Ideal) ℓ) (hO : Ok m) (c : Dev nD) (t : Fin (cfgM m hO).N) (b : Fin 64) (h : Fin 8)

/-- A small number as a word and back. -/
theorem word (n : ℕ) (hn : n < 4294967296) : (BitVec.ofNat 32 n).toNat = n := by
  rw [BitVec.toNat_ofNat]; exact Nat.mod_eq_of_lt (by simpa using hn)

/-- The query block -/
theorem index0 (hh : (grid0.coords t 0).val = h.val) (hb : (grid0.coords t 1).val = b.val) : ((cfgM m hO).win 0).index t = ![b.val, h.val, 0, 0] := by
  have e0 := word h.val (by omega)
  have e1 := word b.val (by omega)
  show cc0_transform_0 (grid0.coords t) = _
  unfold cc0_transform_0
  simp only [hh, hb, e0, e1]
  rfl

/-- The query block, entry by entry. -/
theorem at0 (hh : (grid0.coords t 0).val = h.val) (hb : (grid0.coords t 1).val = b.val) (r : Fin 240) (d : Fin 128) :
    iblk m hO c 0 t (ix4 0 0 r d) = V m c main_v2 (ix4 b h r d) := by
  refine congrArg (V m c main_v2) (funext fun a => Fin.ext ((Window.rect_emb_val ((cfgM m hO).win 0) t (ix4 0 0 r d) a).trans ?_))
  rw [show ((cfgM m hO).win 0).index t a = (![b.val, h.val, 0, 0] : Fin 4 → ℕ) a from congrFun (index0 m hO t b h hh hb) a]
  fin_cases a <;> simp

/-- The prefix keys of the head -/
theorem index1 (hh : (grid0.coords t 0).val = h.val) (hb : (grid0.coords t 1).val = b.val) : ((cfgM m hO).win 1).index t = ![h.val, 0, 0] := by
  have e0 := word h.val (by omega)
  have e1 := word b.val (by omega)
  show cc0_transform_1 (grid0.coords t) = _
  unfold cc0_transform_1
  simp only [hh, hb, e0, e1]
  rfl

/-- The prefix keys of the head, entry by entry. -/
theorem at1 (hh : (grid0.coords t 0).val = h.val) (hb : (grid0.coords t 1).val = b.val) (s : Fin 1920) (d : Fin 128) :
    iblk m hO c 1 t (ix3 0 s d) = V m c main_v5 (ix3 h s d) := by
  refine congrArg (V m c main_v5) (funext fun a => Fin.ext ((Window.rect_emb_val ((cfgM m hO).win 1) t (ix3 0 s d) a).trans ?_))
  rw [show ((cfgM m hO).win 1).index t a = (![h.val, 0, 0] : Fin 3 → ℕ) a from congrFun (index1 m hO t b h hh hb) a]
  fin_cases a <;> simp

/-- The prefix values of the head -/
theorem index2 (hh : (grid0.coords t 0).val = h.val) (hb : (grid0.coords t 1).val = b.val) : ((cfgM m hO).win 2).index t = ![h.val, 0, 0] := by
  have e0 := word h.val (by omega)
  have e1 := word b.val (by omega)
  show cc0_transform_2 (grid0.coords t) = _
  unfold cc0_transform_2
  simp only [hh, hb, e0, e1]
  rfl

/-- The prefix values of the head, entry by entry. -/
theorem at2 (hh : (grid0.coords t 0).val = h.val) (hb : (grid0.coords t 1).val = b.val) (s : Fin 1920) (d : Fin 128) :
    iblk m hO c 2 t (ix3 0 s d) = V m c main_v7 (ix3 h s d) := by
  refine congrArg (V m c main_v7) (funext fun a => Fin.ext ((Window.rect_emb_val ((cfgM m hO).win 2) t (ix3 0 s d) a).trans ?_))
  rw [show ((cfgM m hO).win 2).index t a = (![h.val, 0, 0] : Fin 3 → ℕ) a from congrFun (index2 m hO t b h hh hb) a]
  fin_cases a <;> simp

/-- The scales of the prefix keys of the head -/
theorem index3 (hh : (grid0.coords t 0).val = h.val) (hb : (grid0.coords t 1).val = b.val) : ((cfgM m hO).win 3).index t = ![h.val, 0, 0] := by
  have e0 := word h.val (by omega)
  have e1 := word b.val (by omega)
  show cc0_transform_3 (grid0.coords t) = _
  unfold cc0_transform_3
  simp only [hh, hb, e0, e1]
  rfl

/-- The scales of the prefix keys of the head, entry by entry. -/
theorem at3 (hh : (grid0.coords t 0).val = h.val) (hb : (grid0.coords t 1).val = b.val) (s : Fin 1920) :
    iblk m hO c 3 t (ix3 0 0 s) = V m c main_v10 (ix3 h 0 s) := by
  refine congrArg (V m c main_v10) (funext fun a => Fin.ext ((Window.rect_emb_val ((cfgM m hO).win 3) t (ix3 0 0 s) a).trans ?_))
  rw [show ((cfgM m hO).win 3).index t a = (![h.val, 0, 0] : Fin 3 → ℕ) a from congrFun (index3 m hO t b h hh hb) a]
  fin_cases a <;> simp

/-- The scales of the prefix values of the head -/
theorem index4 (hh : (grid0.coords t 0).val = h.val) (hb : (grid0.coords t 1).val = b.val) : ((cfgM m hO).win 4).index t = ![h.val, 0, 0] := by
  have e0 := word h.val (by omega)
  have e1 := word b.val (by omega)
  show cc0_transform_4 (grid0.coords t) = _
  unfold cc0_transform_4
  simp only [hh, hb, e0, e1]
  rfl

/-- The scales of the prefix values of the head, entry by entry. -/
theorem at4 (hh : (grid0.coords t 0).val = h.val) (hb : (grid0.coords t 1).val = b.val) (s : Fin 1920) :
    iblk m hO c 4 t (ix3 0 0 s) = V m c main_v13 (ix3 h 0 s) := by
  refine congrArg (V m c main_v13) (funext fun a => Fin.ext ((Window.rect_emb_val ((cfgM m hO).win 4) t (ix3 0 0 s) a).trans ?_))
  rw [show ((cfgM m hO).win 4).index t a = (![h.val, 0, 0] : Fin 3 → ℕ) a from congrFun (index4 m hO t b h hh hb) a]
  fin_cases a <;> simp

/-- The keys of the group and head -/
theorem index5 (hh : (grid0.coords t 0).val = h.val) (hb : (grid0.coords t 1).val = b.val) (g : Fin 7) (hg : (tbl m 1 (ix1 b)).toNat = g.val) : ((cfgM m hO).win 5).index t = ![g.val, h.val, 0, 0] := by
  have e0 := word h.val (by omega)
  have e1 := word b.val (by omega)
  show cc0_transform_5 k0_off1_inb numel1_S1 (tbl m) (grid0.coords t) = _
  unfold cc0_transform_5
  have e2 : (Pipeline.Prefetch.Contents.at (tbl m) 1 (Rect.unit (s := S64) ![(Scalar.indexCast (BitVec.ofNat 32 (grid0.coords t 1).val)).toNat] S1.size (k0_off1_inb (grid0.coords t))) numel1_S1).toNat = g.val := by
    rw [← hg]
    refine congrArg (fun i => (tbl m 1 i).toNat) (funext fun a => Fin.ext ?_)
    fin_cases a
    exact (ValueKit.rect_emb_unit_val (s := S64) _ _ _ _ _).trans ((Nat.add_zero _).trans ((congrArg (fun n => (BitVec.ofNat 32 n).toNat) hb).trans e1))
  simp only [hh, e0]
  refine congrArg (fun n => ![n, h.val, 0, 0]) e2

/-- The keys of the group and head, entry by entry. -/
theorem at5 (hh : (grid0.coords t 0).val = h.val) (hb : (grid0.coords t 1).val = b.val) (g : Fin 7) (hg : (tbl m 1 (ix1 b)).toNat = g.val) (s : Fin 640) (d : Fin 128) :
    iblk m hO c 5 t (ix4 0 0 s d) = V m c main_v14 (ix4 g h s d) := by
  refine congrArg (V m c main_v14) (funext fun a => Fin.ext ((Window.rect_emb_val ((cfgM m hO).win 5) t (ix4 0 0 s d) a).trans ?_))
  rw [show ((cfgM m hO).win 5).index t a = (![g.val, h.val, 0, 0] : Fin 4 → ℕ) a from congrFun (index5 m hO t b h hh hb g hg) a]
  fin_cases a <;> simp

/-- The values of the group and head -/
theorem index6 (hh : (grid0.coords t 0).val = h.val) (hb : (grid0.coords t 1).val = b.val) (g : Fin 7) (hg : (tbl m 1 (ix1 b)).toNat = g.val) : ((cfgM m hO).win 6).index t = ![g.val, h.val, 0, 0] := by
  have e0 := word h.val (by omega)
  have e1 := word b.val (by omega)
  show cc0_transform_6 k0_off1_inb numel1_S1 (tbl m) (grid0.coords t) = _
  unfold cc0_transform_6
  have e2 : (Pipeline.Prefetch.Contents.at (tbl m) 1 (Rect.unit (s := S64) ![(Scalar.indexCast (BitVec.ofNat 32 (grid0.coords t 1).val)).toNat] S1.size (k0_off1_inb (grid0.coords t))) numel1_S1).toNat = g.val := by
    rw [← hg]
    refine congrArg (fun i => (tbl m 1 i).toNat) (funext fun a => Fin.ext ?_)
    fin_cases a
    exact (ValueKit.rect_emb_unit_val (s := S64) _ _ _ _ _).trans ((Nat.add_zero _).trans ((congrArg (fun n => (BitVec.ofNat 32 n).toNat) hb).trans e1))
  simp only [hh, e0]
  refine congrArg (fun n => ![n, h.val, 0, 0]) e2

/-- The values of the group and head, entry by entry. -/
theorem at6 (hh : (grid0.coords t 0).val = h.val) (hb : (grid0.coords t 1).val = b.val) (g : Fin 7) (hg : (tbl m 1 (ix1 b)).toNat = g.val) (s : Fin 640) (d : Fin 128) :
    iblk m hO c 6 t (ix4 0 0 s d) = V m c main_v15 (ix4 g h s d) := by
  refine congrArg (V m c main_v15) (funext fun a => Fin.ext ((Window.rect_emb_val ((cfgM m hO).win 6) t (ix4 0 0 s d) a).trans ?_))
  rw [show ((cfgM m hO).win 6).index t a = (![g.val, h.val, 0, 0] : Fin 4 → ℕ) a from congrFun (index6 m hO t b h hh hb g hg) a]
  fin_cases a <;> simp

/-- The scales of the keys of the group and head -/
theorem index7 (hh : (grid0.coords t 0).val = h.val) (hb : (grid0.coords t 1).val = b.val) (g : Fin 7) (hg : (tbl m 1 (ix1 b)).toNat = g.val) : ((cfgM m hO).win 7).index t = ![g.val, h.val, 0, 0] := by
  have e0 := word h.val (by omega)
  have e1 := word b.val (by omega)
  show cc0_transform_7 k0_off1_inb numel1_S1 (tbl m) (grid0.coords t) = _
  unfold cc0_transform_7
  have e2 : (Pipeline.Prefetch.Contents.at (tbl m) 1 (Rect.unit (s := S64) ![(Scalar.indexCast (BitVec.ofNat 32 (grid0.coords t 1).val)).toNat] S1.size (k0_off1_inb (grid0.coords t))) numel1_S1).toNat = g.val := by
    rw [← hg]
    refine congrArg (fun i => (tbl m 1 i).toNat) (funext fun a => Fin.ext ?_)
    fin_cases a
    exact (ValueKit.rect_emb_unit_val (s := S64) _ _ _ _ _).trans ((Nat.add_zero _).trans ((congrArg (fun n => (BitVec.ofNat 32 n).toNat) hb).trans e1))
  simp only [hh, e0]
  refine congrArg (fun n => ![n, h.val, 0, 0]) e2

/-- The scales of the keys of the group and head, entry by entry. -/
theorem at7 (hh : (grid0.coords t 0).val = h.val) (hb : (grid0.coords t 1).val = b.val) (g : Fin 7) (hg : (tbl m 1 (ix1 b)).toNat = g.val) (s : Fin 640) :
    iblk m hO c 7 t (ix4 0 0 0 s) = V m c main_v17 (ix4 g h 0 s) := by
  refine congrArg (V m c main_v17) (funext fun a => Fin.ext ((Window.rect_emb_val ((cfgM m hO).win 7) t (ix4 0 0 0 s) a).trans ?_))
  rw [show ((cfgM m hO).win 7).index t a = (![g.val, h.val, 0, 0] : Fin 4 → ℕ) a from congrFun (index7 m hO t b h hh hb g hg) a]
  fin_cases a <;> simp

/-- The scales of the values of the group and head -/
theorem index8 (hh : (grid0.coords t 0).val = h.val) (hb : (grid0.coords t 1).val = b.val) (g : Fin 7) (hg : (tbl m 1 (ix1 b)).toNat = g.val) : ((cfgM m hO).win 8).index t = ![g.val, h.val, 0, 0] := by
  have e0 := word h.val (by omega)
  have e1 := word b.val (by omega)
  show cc0_transform_8 k0_off1_inb numel1_S1 (tbl m) (grid0.coords t) = _
  unfold cc0_transform_8
  have e2 : (Pipeline.Prefetch.Contents.at (tbl m) 1 (Rect.unit (s := S64) ![(Scalar.indexCast (BitVec.ofNat 32 (grid0.coords t 1).val)).toNat] S1.size (k0_off1_inb (grid0.coords t))) numel1_S1).toNat = g.val := by
    rw [← hg]
    refine congrArg (fun i => (tbl m 1 i).toNat) (funext fun a => Fin.ext ?_)
    fin_cases a
    exact (ValueKit.rect_emb_unit_val (s := S64) _ _ _ _ _).trans ((Nat.add_zero _).trans ((congrArg (fun n => (BitVec.ofNat 32 n).toNat) hb).trans e1))
  simp only [hh, e0]
  refine congrArg (fun n => ![n, h.val, 0, 0]) e2

/-- The scales of the values of the group and head, entry by entry. -/
theorem at8 (hh : (grid0.coords t 0).val = h.val) (hb : (grid0.coords t 1).val = b.val) (g : Fin 7) (hg : (tbl m 1 (ix1 b)).toNat = g.val) (s : Fin 640) :
    iblk m hO c 8 t (ix4 0 0 0 s) = V m c main_v19 (ix4 g h 0 s) := by
  refine congrArg (V m c main_v19) (funext fun a => Fin.ext ((Window.rect_emb_val ((cfgM m hO).win 8) t (ix4 0 0 0 s) a).trans ?_))
  rw [show ((cfgM m hO).win 8).index t a = (![g.val, h.val, 0, 0] : Fin 4 → ℕ) a from congrFun (index8 m hO t b h hh hb g hg) a]
  fin_cases a <;> simp

/-- The keys of the sequence and head -/
theorem index9 (hh : (grid0.coords t 0).val = h.val) (hb : (grid0.coords t 1).val = b.val) : ((cfgM m hO).win 9).index t = ![b.val, h.val, 0, 0] := by
  have e0 := word h.val (by omega)
  have e1 := word b.val (by omega)
  show cc0_transform_9 (grid0.coords t) = _
  unfold cc0_transform_9
  simp only [hh, hb, e0, e1]
  rfl

/-- The keys of the sequence and head, entry by entry. -/
theorem at9 (hh : (grid0.coords t 0).val = h.val) (hb : (grid0.coords t 1).val = b.val) (s : Fin 1024) (d : Fin 128) :
    iblk m hO c 9 t (ix4 0 0 s d) = V m c main_v20 (ix4 b h s d) := by
  refine congrArg (V m c main_v20) (funext fun a => Fin.ext ((Window.rect_emb_val ((cfgM m hO).win 9) t (ix4 0 0 s d) a).trans ?_))
  rw [show ((cfgM m hO).win 9).index t a = (![b.val, h.val, 0, 0] : Fin 4 → ℕ) a from congrFun (index9 m hO t b h hh hb) a]
  fin_cases a <;> simp

/-- The values of the sequence and head -/
theorem index10 (hh : (grid0.coords t 0).val = h.val) (hb : (grid0.coords t 1).val = b.val) : ((cfgM m hO).win 10).index t = ![b.val, h.val, 0, 0] := by
  have e0 := word h.val (by omega)
  have e1 := word b.val (by omega)
  show cc0_transform_10 (grid0.coords t) = _
  unfold cc0_transform_10
  simp only [hh, hb, e0, e1]
  rfl

/-- The values of the sequence and head, entry by entry. -/
theorem at10 (hh : (grid0.coords t 0).val = h.val) (hb : (grid0.coords t 1).val = b.val) (s : Fin 1024) (d : Fin 128) :
    iblk m hO c 10 t (ix4 0 0 s d) = V m c main_v21 (ix4 b h s d) := by
  refine congrArg (V m c main_v21) (funext fun a => Fin.ext ((Window.rect_emb_val ((cfgM m hO).win 10) t (ix4 0 0 s d) a).trans ?_))
  rw [show ((cfgM m hO).win 10).index t a = (![b.val, h.val, 0, 0] : Fin 4 → ℕ) a from congrFun (index10 m hO t b h hh hb) a]
  fin_cases a <;> simp

/-- The scales of the keys of the sequence and head -/
theorem index11 (hh : (grid0.coords t 0).val = h.val) (hb : (grid0.coords t 1).val = b.val) : ((cfgM m hO).win 11).index t = ![b.val, h.val, 0, 0] := by
  have e0 := word h.val (by omega)
  have e1 := word b.val (by omega)
  show cc0_transform_11 (grid0.coords t) = _
  unfold cc0_transform_11
  simp only [hh, hb, e0, e1]
  rfl

/-- The scales of the keys of the sequence and head, entry by entry. -/
theorem at11 (hh : (grid0.coords t 0).val = h.val) (hb : (grid0.coords t 1).val = b.val) (s : Fin 1024) :
    iblk m hO c 11 t (ix4 0 0 0 s) = V m c main_v23 (ix4 b h 0 s) := by
  refine congrArg (V m c main_v23) (funext fun a => Fin.ext ((Window.rect_emb_val ((cfgM m hO).win 11) t (ix4 0 0 0 s) a).trans ?_))
  rw [show ((cfgM m hO).win 11).index t a = (![b.val, h.val, 0, 0] : Fin 4 → ℕ) a from congrFun (index11 m hO t b h hh hb) a]
  fin_cases a <;> simp

/-- The scales of the values of the sequence and head -/
theorem index12 (hh : (grid0.coords t 0).val = h.val) (hb : (grid0.coords t 1).val = b.val) : ((cfgM m hO).win 12).index t = ![b.val, h.val, 0, 0] := by
  have e0 := word h.val (by omega)
  have e1 := word b.val (by omega)
  show cc0_transform_12 (grid0.coords t) = _
  unfold cc0_transform_12
  simp only [hh, hb, e0, e1]
  rfl

/-- The scales of the values of the sequence and head, entry by entry. -/
theorem at12 (hh : (grid0.coords t 0).val = h.val) (hb : (grid0.coords t 1).val = b.val) (s : Fin 1024) :
    iblk m hO c 12 t (ix4 0 0 0 s) = V m c main_v25 (ix4 b h 0 s) := by
  refine congrArg (V m c main_v25) (funext fun a => Fin.ext ((Window.rect_emb_val ((cfgM m hO).win 12) t (ix4 0 0 0 s) a).trans ?_))
  rw [show ((cfgM m hO).win 12).index t a = (![b.val, h.val, 0, 0] : Fin 4 → ℕ) a from congrFun (index12 m hO t b h hh hb) a]
  fin_cases a <;> simp

/-- The keys of the new tokens -/
theorem index13 (hh : (grid0.coords t 0).val = h.val) (hb : (grid0.coords t 1).val = b.val) : ((cfgM m hO).win 13).index t = ![b.val, h.val, 0, 0] := by
  have e0 := word h.val (by omega)
  have e1 := word b.val (by omega)
  show cc0_transform_13 (grid0.coords t) = _
  unfold cc0_transform_13
  simp only [hh, hb, e0, e1]
  rfl

/-- The keys of the new tokens, entry by entry. -/
theorem at13 (hh : (grid0.coords t 0).val = h.val) (hb : (grid0.coords t 1).val = b.val) (s : Fin 48) (d : Fin 128) :
    iblk m hO c 13 t (ix4 0 0 s d) = V m c main_v26 (ix4 b h s d) := by
  refine congrArg (V m c main_v26) (funext fun a => Fin.ext ((Window.rect_emb_val ((cfgM m hO).win 13) t (ix4 0 0 s d) a).trans ?_))
  rw [show ((cfgM m hO).win 13).index t a = (![b.val, h.val, 0, 0] : Fin 4 → ℕ) a from congrFun (index13 m hO t b h hh hb) a]
  fin_cases a <;> simp

/-- The values of the new tokens -/
theorem index14 (hh : (grid0.coords t 0).val = h.val) (hb : (grid0.coords t 1).val = b.val) : ((cfgM m hO).win 14).index t = ![b.val, h.val, 0, 0] := by
  have e0 := word h.val (by omega)
  have e1 := word b.val (by omega)
  show cc0_transform_14 (grid0.coords t) = _
  unfold cc0_transform_14
  simp only [hh, hb, e0, e1]
  rfl

/-- The values of the new tokens, entry by entry. -/
theorem at14 (hh : (grid0.coords t 0).val = h.val) (hb : (grid0.coords t 1).val = b.val) (s : Fin 48) (d : Fin 128) :
    iblk m hO c 14 t (ix4 0 0 s d) = V m c main_v27 (ix4 b h s d) := by
  refine congrArg (V m c main_v27) (funext fun a => Fin.ext ((Window.rect_emb_val ((cfgM m hO).win 14) t (ix4 0 0 s d) a).trans ?_))
  rw [show ((cfgM m hO).win 14).index t a = (![b.val, h.val, 0, 0] : Fin 4 → ℕ) a from congrFun (index14 m hO t b h hh hb) a]
  fin_cases a <;> simp

/-- The block of the first output -/
theorem index15 (hh : (grid0.coords t 0).val = h.val) (hb : (grid0.coords t 1).val = b.val) : ((cfgM m hO).win 15).index t = ![b.val, h.val, 0, 0] := by
  have e0 := word h.val (by omega)
  have e1 := word b.val (by omega)
  show cc0_transform_15 (grid0.coords t) = _
  unfold cc0_transform_15
  simp only [hh, hb, e0, e1]
  rfl

/-- The block of the second output -/
theorem index16 (hh : (grid0.coords t 0).val = h.val) (hb : (grid0.coords t 1).val = b.val) : ((cfgM m hO).win 16).index t = ![b.val, h.val, 0, 0] := by
  have e0 := word h.val (by omega)
  have e1 := word b.val (by omega)
  show cc0_transform_16 (grid0.coords t) = _
  unfold cc0_transform_16
  simp only [hh, hb, e0, e1]
  rfl

/-- The group of the sequence, as the body reads it. -/
theorem group_eq (hb : (grid0.coords t 1).val = b.val) : Values.groupWord c (grid0.coords t) (tbl m 1) = tbl m 1 (ix1 b) := by
  have e1 := word b.val (by omega)
  unfold Values.groupWord
  refine congrArg (tbl m 1) (funext fun a => Fin.ext ?_)
  fin_cases a
  simp
  exact (congrArg (fun n => (BitVec.ofNat 32 n).toNat) hb).trans e1

/-- The length of the group's keys, as the body reads it. -/
theorem mid_eq (g : Fin 7) (hb : (grid0.coords t 1).val = b.val) (hg : (tbl m 1 (ix1 b)).toNat = g.val) (hH) :
    Values.midWord c (grid0.coords t) (tbl m 0) (tbl m 1) hH = tbl m 0 (ix1 g) := by
  unfold Values.midWord
  refine congrArg (tbl m 0) (funext fun a => Fin.ext ?_)
  fin_cases a
  simp
  exact (congrArg BitVec.toNat (group_eq m hO c t b hb)).trans hg

/-- The length of the sequence's own keys, as the body reads it. -/
theorem tail_eq (hb : (grid0.coords t 1).val = b.val) : Values.tailWord c (grid0.coords t) (tbl m 2) = tbl m 2 (ix1 b) := by
  have e1 := word b.val (by omega)
  unfold Values.tailWord
  refine congrArg (tbl m 2) (funext fun a => Fin.ext ?_)
  fin_cases a
  simp
  exact (congrArg (fun n => (BitVec.ofNat 32 n).toNat) hb).trans e1

/-- Every head and sequence has a grid point. -/
theorem exists_point : ∀ (b : Fin 64) (h : Fin 8), ∃ t : Fin grid0.N, (grid0.coords t 0).val = h.val ∧ (grid0.coords t 1).val = b.val := by
  decide +kernel

end Cert.KernelIdeal.Windows
-- ==== Proof.Args.lean ====
/- The arguments both programs are given, entry by entry, and the query rows they make. -/
module

public import proofs.«01_k».proof.Proof.Row

@[expose] public section

noncomputable section

namespace Cert.Soft

open Idealize.ShloMosaic

/-- The arguments as families of numbers and words, in the order of their axes. -/
structure Args where
  q : Fin 64 → Fin 48 → Fin 5120 → EReal
  k0 : Fin 1800 → Fin 8 → Fin 128 → EReal
  v0 : Fin 1800 → Fin 8 → Fin 128 → EReal
  a0 : Fin 1800 → Fin 8 → EReal
  b0 : Fin 1800 → Fin 8 → EReal
  k1 : Fin 7 → Fin 640 → Fin 8 → Fin 128 → EReal
  v1 : Fin 7 → Fin 640 → Fin 8 → Fin 128 → EReal
  a1 : Fin 7 → Fin 640 → Fin 8 → EReal
  b1 : Fin 7 → Fin 640 → Fin 8 → EReal
  len : Fin 7 → BitVec 32
  grp : Fin 64 → BitVec 32
  k2 : Fin 64 → Fin 1024 → Fin 8 → Fin 128 → EReal
  v2 : Fin 64 → Fin 1024 → Fin 8 → Fin 128 → EReal
  a2 : Fin 64 → Fin 1024 → Fin 8 → EReal
  b2 : Fin 64 → Fin 1024 → Fin 8 → EReal
  own : Fin 64 → BitVec 32
  k3 : Fin 64 → Fin 48 → Fin 8 → Fin 128 → EReal
  v3 : Fin 64 → Fin 48 → Fin 8 → Fin 128 → EReal

/-- The row `r` of head `h` of sequence `b` in group `g`, its visible new tokens given. -/
noncomputable def Args.row (A : Args) (vis : Fin 48 → BitVec 1) (g : Fin 7) (b : Fin 64) (h : Fin 8) (r : Fin 240) : Row where
  q d := A.q b ⟨r.val % 48, by omega⟩ ⟨h.val * 640 + r.val / 48 * 128 + d.val, by omega⟩
  k0 t d := A.k0 t h d
  v0 t d := A.v0 t h d
  a0 t := A.a0 t h
  b0 t := A.b0 t h
  k1 t d := A.k1 g t h d
  v1 t d := A.v1 g t h d
  a1 t := A.a1 g t h
  b1 t := A.b1 g t h
  k2 t d := A.k2 b t h d
  v2 t d := A.v2 b t h d
  a2 t := A.a2 b t h
  b2 t := A.b2 b t h
  k3 t d := A.k3 b t h d
  v3 t d := A.v3 b t h d
  g := A.len g
  w := A.own b
  vis := vis

/-- Two rows with the same data are the same. -/
theorem Row.ext_fields {x y : Row} (q : ∀ d, x.q d = y.q d) (k0 : ∀ t d, x.k0 t d = y.k0 t d) (v0 : ∀ t d, x.v0 t d = y.v0 t d) (a0 : ∀ t, x.a0 t = y.a0 t) (b0 : ∀ t, x.b0 t = y.b0 t)
    (k1 : ∀ t d, x.k1 t d = y.k1 t d) (v1 : ∀ t d, x.v1 t d = y.v1 t d) (a1 : ∀ t, x.a1 t = y.a1 t) (b1 : ∀ t, x.b1 t = y.b1 t)
    (k2 : ∀ t d, x.k2 t d = y.k2 t d) (v2 : ∀ t d, x.v2 t d = y.v2 t d) (a2 : ∀ t, x.a2 t = y.a2 t) (b2 : ∀ t, x.b2 t = y.b2 t)
    (k3 : ∀ t d, x.k3 t d = y.k3 t d) (v3 : ∀ t d, x.v3 t d = y.v3 t d) (g : x.g = y.g) (w : x.w = y.w) (vis : ∀ t, x.vis t = y.vis t) : x = y := by
  cases x; cases y
  simp only [Row.mk.injEq]
  exact ⟨funext q, funext fun t => funext (k0 t), funext fun t => funext (v0 t), funext a0, funext b0, funext fun t => funext (k1 t), funext fun t => funext (v1 t), funext a1, funext b1,
    funext fun t => funext (k2 t), funext fun t => funext (v2 t), funext a2, funext b2, funext fun t => funext (k3 t), funext fun t => funext (v3 t), g, w, funext vis⟩

end Cert.Soft

end
-- ==== Proof.KernelIdeal.Final.lean ====
/- The kernel's two results, entry by entry, in terms of the arguments. -/
module

public import proofs.«01_k».proof.Proof.KernelIdeal.RowOut
public import proofs.«01_k».proof.Proof.KernelIdeal.Host
public import proofs.«01_k».proof.Proof.KernelIdeal.Pre
public import proofs.«01_k».proof.Proof.KernelIdeal.Windows
public import proofs.«01_k».proof.Proof.Args

@[expose] public section

set_option maxRecDepth 16384

noncomputable section

namespace Cert.KernelIdeal.Final

open Cert.KernelIdeal Cert.KernelIdeal.Gen Cert.KernelIdeal.Pipe Cert.KernelIdeal.Rows Cert.Soft Cert.KernelIdeal.Windows
open Idealize.ShloMosaic Idealize.ShloMosaic.TcCoe Idealize.ShloMosaic.Pipeline

variable (m : (ℓ : Loc nD τ sig) → Buf (Elt Ideal) ℓ) (hO : Ok m) (hH : Hyps m) (c : Dev nD)

/-- The arguments. -/
noncomputable def args : Args where
  q b s e := m ((c : Thread nD τ).loc main_arg0) (ix3 b s e)
  k0 t h d := m ((c : Thread nD τ).loc main_arg1) (ix3 t h d)
  v0 t h d := m ((c : Thread nD τ).loc main_arg2) (ix3 t h d)
  a0 t h := m ((c : Thread nD τ).loc main_arg3) (ix2 t h)
  b0 t h := m ((c : Thread nD τ).loc main_arg4) (ix2 t h)
  k1 g t h d := m ((c : Thread nD τ).loc main_arg5) (ix4 g t h d)
  v1 g t h d := m ((c : Thread nD τ).loc main_arg6) (ix4 g t h d)
  a1 g t h := m ((c : Thread nD τ).loc main_arg7) (ix3 g t h)
  b1 g t h := m ((c : Thread nD τ).loc main_arg8) (ix3 g t h)
  len g := m ((c : Thread nD τ).loc main_arg9) (ix1 g)
  grp b := m ((c : Thread nD τ).loc main_arg10) (ix1 b)
  k2 b t h d := m ((c : Thread nD τ).loc main_arg11) (ix4 b t h d)
  v2 b t h d := m ((c : Thread nD τ).loc main_arg12) (ix4 b t h d)
  a2 b t h := m ((c : Thread nD τ).loc main_arg13) (ix3 b t h)
  b2 b t h := m ((c : Thread nD τ).loc main_arg14) (ix3 b t h)
  own b := m ((c : Thread nD τ).loc main_arg15) (ix1 b)
  k3 b t h d := m ((c : Thread nD τ).loc main_arg16) (ix4 b t h d)
  v3 b t h d := m ((c : Thread nD τ).loc main_arg17) (ix4 b t h d)

/-- The blocks at a grid point. -/
noncomputable def blk (t : Fin (cfgM m hO).N) : Blk :=
  ⟨k0_pay36 (iblk m hO c 0 t), iblk m hO c 1 t, iblk m hO c 2 t, iblk m hO c 3 t, iblk m hO c 4 t, iblk m hO c 5 t, iblk m hO c 6 t, iblk m hO c 7 t, iblk m hO c 8 t, iblk m hO c 9 t, iblk m hO c 10 t, iblk m hO c 11 t, iblk m hO c 12 t, iblk m hO c 13 t, iblk m hO c 14 t,
    Values.midWord c (grid0.coords t) (tbl m 0) (tbl m 1) (hH.1 _), hH.2.1 _, Values.tailWord c (grid0.coords t) (tbl m 2), hH.2.2 _⟩

/-- The visible new tokens of a row. -/
noncomputable def vis (r : Fin 240) (t : Fin 48) : BitVec 1 := IntOp.cmpi .sle (BitVec.ofNat 32 t.val) (k0_pay40 (ix2 r t))

/-- The state after a grid point's chunks is the blocks'. -/
theorem last_eq (t : Fin (cfgM m hO).N) : VPipe.last m hO hH c t = (blk m hO hH c t).total := by
  dsimp only [VPipe.last, blk, Blk.total]

/-- The query rows of a block. -/
theorem q_eq (x : Vec Ideal S1x1x240x128 .bf16) (r : Fin 240) (d : Fin 128) : k0_pay36 x (ix2 r d) = x (ix4 0 0 r d) := by
  pointwise [k0_pay36]

/-- The tables are arguments. -/
theorem tbl_len (g : Fin 7) : tbl m 0 (ix1 g) = (args m 0).len g := congrFun (Pre.tbl0 m) (ix1 g)
theorem tbl_grp (b : Fin 64) : tbl m 1 (ix1 b) = (args m 0).grp b := congrFun (Pre.tbl1 m) (ix1 b)
theorem tbl_own (b : Fin 64) : tbl m 2 (ix1 b) = (args m 0).own b := congrFun (Pre.tbl2 m) (ix1 b)

/-- The row of head `h` of sequence `b` in terms of the arguments. -/
theorem row_eq (t : Fin (cfgM m hO).N) (b : Fin 64) (h : Fin 8) (hh : (grid0.coords t 0).val = h.val) (hb : (grid0.coords t 1).val = b.val)
    (g : Fin 7) (hg : (tbl m 1 (ix1 b)).toNat = g.val) (r : Fin 240) :
    (blk m hO hH 0 t).row r = (args m 0).row (vis r) g b h r :=
  Row.ext_fields (by dsimp only [Blk.row, blk, Args.row, args]; exact fun d => (q_eq _ r d).trans ((at0 m hO 0 t b h hh hb r d).trans (Host.q m 0 b h r d)))
    (by dsimp only [Blk.row, blk, Args.row, args]; exact fun s d => (at1 m hO 0 t b h hh hb _ d).trans (Host.k0 m 0 h s d))
    (by dsimp only [Blk.row, blk, Args.row, args]; exact fun s d => (at2 m hO 0 t b h hh hb _ d).trans (Host.v0 m 0 h s d))
    (by dsimp only [Blk.row, blk, Args.row, args]; exact fun s => (at3 m hO 0 t b h hh hb _).trans (Host.a0 m 0 h s))
    (by dsimp only [Blk.row, blk, Args.row, args]; exact fun s => (at4 m hO 0 t b h hh hb _).trans (Host.b0 m 0 h s))
    (by dsimp only [Blk.row, blk, Args.row, args]; exact fun s d => (at5 m hO 0 t b h hh hb g hg s d).trans (Host.k1 m 0 g h s d))
    (by dsimp only [Blk.row, blk, Args.row, args]; exact fun s d => (at6 m hO 0 t b h hh hb g hg s d).trans (Host.v1 m 0 g h s d))
    (by dsimp only [Blk.row, blk, Args.row, args]; exact fun s => (at7 m hO 0 t b h hh hb g hg s).trans (Host.a1 m 0 g h s))
    (by dsimp only [Blk.row, blk, Args.row, args]; exact fun s => (at8 m hO 0 t b h hh hb g hg s).trans (Host.b1 m 0 g h s))
    (by dsimp only [Blk.row, blk, Args.row, args]; exact fun s d => (at9 m hO 0 t b h hh hb s d).trans (Host.k2 m 0 b h s d))
    (by dsimp only [Blk.row, blk, Args.row, args]; exact fun s d => (at10 m hO 0 t b h hh hb s d).trans (Host.v2 m 0 b h s d))
    (by dsimp only [Blk.row, blk, Args.row, args]; exact fun s => (at11 m hO 0 t b h hh hb s).trans (Host.a2 m 0 b h s))
    (by dsimp only [Blk.row, blk, Args.row, args]; exact fun s => (at12 m hO 0 t b h hh hb s).trans (Host.b2 m 0 b h s))
    (by dsimp only [Blk.row, blk, Args.row, args]; exact fun s d => (at13 m hO 0 t b h hh hb s d).trans (Host.k3 m 0 b h s d))
    (by dsimp only [Blk.row, blk, Args.row, args]; exact fun s d => (at14 m hO 0 t b h hh hb s d).trans (Host.v3 m 0 b h s d))
    (by dsimp only [Blk.row, blk, Args.row]; exact (mid_eq m hO 0 t b g hb hg _).trans (tbl_len m g)) (by dsimp only [Blk.row, blk, Args.row]; exact (tail_eq m hO 0 t b hb).trans (tbl_own m b)) (fun s => rfl)

end Cert.KernelIdeal.Final

end
-- ==== Proof.KernelIdeal.Out.lean ====
/- The kernel's two result arrays after the run, entry by entry, in terms of the arguments. -/
module

public import proofs.«01_k».proof.Proof.KernelIdeal.Final

@[expose] public section

set_option maxRecDepth 16384

noncomputable section

namespace Cert.KernelIdeal.Final

open Cert.KernelIdeal Cert.KernelIdeal.Gen Cert.KernelIdeal.Pipe Cert.KernelIdeal.Rows Cert.Soft Cert.KernelIdeal.Windows
open Idealize.ShloMosaic Idealize.ShloMosaic.TcCoe Idealize.ShloMosaic.Pipeline

variable (m : (ℓ : Loc nD τ sig) → Buf (Elt Ideal) ℓ) (hp : Cert.Pre_KernelIdeal m)

/-- The group of a sequence. -/
noncomputable def grp (b : Fin 64) : Fin 7 := ⟨(tbl m 1 (ix1 b) : BitVec 32).toNat, Pre.group_lt m hp _⟩

/-- The row of head `h` of sequence `b`. -/
noncomputable def row (b : Fin 64) (h : Fin 8) (r : Fin 240) : Row := (args m 0).row (vis r) (grp m hp b) b h r

variable (hO : Ok m) (hH : Hyps m) (t : Fin (cfgM m hO).N) (b : Fin 64) (h : Fin 8)
  (hh : (grid0.coords t 0).val = h.val) (hb : (grid0.coords t 1).val = b.val)

include hp hb in
/-- The lengths a grid point reads are in range. -/
theorem blk_g : (blk m hO hH 0 t).g.toInt ≤ 640 :=
  (congrArg BitVec.toInt (mid_eq m hO 0 t b (grp m hp b) hb rfl (hH.1 _))).trans_le (Pre.mid_le m hp _)

include hp hb in
theorem blk_w : (blk m hO hH 0 t).w.toInt ≤ 1024 :=
  (congrArg BitVec.toInt (tail_eq m hO 0 t b hb)).trans_le (Pre.tail_le m hp _)

include hh hb in
/-- The first result's block at a grid point. -/
theorem outO_point (r : Fin 240) (d : Fin 128) : Values.outO (VPipe.last m hO hH 0 t) (ix4 0 0 r d) = (row m hp b h r).att d := by
  rw [last_eq, outO_at _ r (blk_g m hp hO hH t b hb) (blk_w m hp hO hH t b hb) d, row_eq m hO hH t b h hh hb (grp m hp b) rfl r]
  rfl

include hh hb in
/-- The second result's block at a grid point. -/
theorem outW_point (r : Fin 240) (i : Fin 8) : Values.outW (VPipe.last m hO hH 0 t) (ix4 0 0 r i) = (row m hp b h r).share i := by
  rw [last_eq, outW_at _ r (blk_g m hp hO hH t b hb) (blk_w m hp hO hH t b hb) i, row_eq m hO hH t b h hh hb (grp m hp b) rfl r]
  rfl

/-- The first result. -/
noncomputable def res15 : S64x8x240x128.Idx → EReal := fun i => (row m hp (i 0) (i 1) (i 2)).att (i 3)

/-- Where the block of a grid point lies in the first result. -/
theorem emb15 (t : Fin (cfgM m hO).N) (b : Fin 64) (h : Fin 8) (hh : (grid0.coords t 0).val = h.val) (hb : (grid0.coords t 1).val = b.val) (y : S1x1x240x128.Idx) :
    (((cfgM m hO).win 15).blk t).view.emb y = (ix4 b h (y 2) (y 3) : S64x8x240x128.Idx) := by
  refine funext fun a => Fin.ext ((Window.rect_emb_val ((cfgM m hO).win 15) t y a).trans ?_)
  rw [show ((cfgM m hO).win 15).index t a = (![b.val, h.val, 0, 0] : Fin 4 → ℕ) a from congrFun (index15 m hO t b h hh hb) a]
  have y0 : (y 0).val = 0 := by have : (y 0).val < 1 := (y 0).isLt; omega
  have y1 : (y 1).val = 0 := by have : (y 1).val < 1 := (y 1).isLt; omega
  fin_cases a <;> simp [y0, y1]

/-- An index of the block of one head and sequence by its row and column. -/
theorem blk_ix15 (y : S1x1x240x128.Idx) : y = ix4 0 0 (y 2) (y 3) := by
  have y0 : (y 0).val = 0 := by have : (y 0).val < 1 := (y 0).isLt; omega
  have y1 : (y 1).val = 0 := by have : (y 1).val < 1 := (y 1).isLt; omega
  refine funext fun a => Fin.ext ?_
  fin_cases a <;> simp [y0, y1]

/-- The block of the first result at any index. -/
theorem out_idx15 (t : Fin (cfgM m hO).N) (b : Fin 64) (h : Fin 8) (hh : (grid0.coords t 0).val = h.val) (hb : (grid0.coords t 1).val = b.val) (y : S1x1x240x128.Idx) :
    Values.outO (VPipe.last m hO hH 0 t) y = res15 m hp (ix4 b h (y 2) (y 3)) :=
  (congrArg (Values.outO (VPipe.last m hO hH 0 t)) (blk_ix15 y)).trans (outO_point m hp hO hH t b h hh hb (y 2) (y 3))

/-- Every index of the first result lies in the block of a grid point. -/
theorem cover15 (i : S64x8x240x128.Idx) : ∃ t : Fin (cfgM m hO).N, ((cfgM m hO).win 15).flush t = true ∧ i ∈ (((cfgM m hO).win 15).blk t).view.set := by
  obtain ⟨t, hh, hb⟩ := exists_point (i 0) (i 1)
  refine ⟨t, flush0_15 (adm m hO) t, ?_⟩
  have e : (((cfgM m hO).win 15).blk t).view.emb (ix4 0 0 (i 2) (i 3) : S1x1x240x128.Idx) = i :=
    (emb15 m hO t (i 0) (i 1) hh hb (ix4 0 0 (i 2) (i 3))).trans (funext fun a => by fin_cases a <;> rfl)
  exact e ▸ View.emb_mem_set _ _

/-- The first result array after the run. -/
theorem arr15 : (VPipe.dats m hO hH 0 0).arrAt 15 (cfgM m hO).N = res15 m hp := by
  refine (VPipe.dats m hO hH 0 0).arrAt_eq_of_emb 15 (res15 m hp) (fun t _ y => ?_) (fun i => cover15 m hO i)
  rw [VPipe.after0_15]
  exact (out_idx15 m hp hO hH t (grid0.coords t 1) (grid0.coords t 0) rfl rfl y).trans
      (congrArg (res15 m hp) (emb15 m hO t (grid0.coords t 1) (grid0.coords t 0) rfl rfl y).symm)

/-- The second result. -/
noncomputable def res16 : S64x8x240x8.Idx → EReal := fun i => (row m hp (i 0) (i 1) (i 2)).share (i 3)

/-- Where the block of a grid point lies in the second result. -/
theorem emb16 (t : Fin (cfgM m hO).N) (b : Fin 64) (h : Fin 8) (hh : (grid0.coords t 0).val = h.val) (hb : (grid0.coords t 1).val = b.val) (y : S1x1x240x8.Idx) :
    (((cfgM m hO).win 16).blk t).view.emb y = (ix4 b h (y 2) (y 3) : S64x8x240x8.Idx) := by
  refine funext fun a => Fin.ext ((Window.rect_emb_val ((cfgM m hO).win 16) t y a).trans ?_)
  rw [show ((cfgM m hO).win 16).index t a = (![b.val, h.val, 0, 0] : Fin 4 → ℕ) a from congrFun (index16 m hO t b h hh hb) a]
  have y0 : (y 0).val = 0 := by have : (y 0).val < 1 := (y 0).isLt; omega
  have y1 : (y 1).val = 0 := by have : (y 1).val < 1 := (y 1).isLt; omega
  fin_cases a <;> simp [y0, y1]

/-- An index of the block of one head and sequence by its row and column. -/
theorem blk_ix16 (y : S1x1x240x8.Idx) : y = ix4 0 0 (y 2) (y 3) := by
  have y0 : (y 0).val = 0 := by have : (y 0).val < 1 := (y 0).isLt; omega
  have y1 : (y 1).val = 0 := by have : (y 1).val < 1 := (y 1).isLt; omega
  refine funext fun a => Fin.ext ?_
  fin_cases a <;> simp [y0, y1]

/-- The block of the second result at any index. -/
theorem out_idx16 (t : Fin (cfgM m hO).N) (b : Fin 64) (h : Fin 8) (hh : (grid0.coords t 0).val = h.val) (hb : (grid0.coords t 1).val = b.val) (y : S1x1x240x8.Idx) :
    Values.outW (VPipe.last m hO hH 0 t) y = res16 m hp (ix4 b h (y 2) (y 3)) :=
  (congrArg (Values.outW (VPipe.last m hO hH 0 t)) (blk_ix16 y)).trans (outW_point m hp hO hH t b h hh hb (y 2) (y 3))

/-- Every index of the second result lies in the block of a grid point. -/
theorem cover16 (i : S64x8x240x8.Idx) : ∃ t : Fin (cfgM m hO).N, ((cfgM m hO).win 16).flush t = true ∧ i ∈ (((cfgM m hO).win 16).blk t).view.set := by
  obtain ⟨t, hh, hb⟩ := exists_point (i 0) (i 1)
  refine ⟨t, flush0_16 (adm m hO) t, ?_⟩
  have e : (((cfgM m hO).win 16).blk t).view.emb (ix4 0 0 (i 2) (i 3) : S1x1x240x8.Idx) = i :=
    (emb16 m hO t (i 0) (i 1) hh hb (ix4 0 0 (i 2) (i 3))).trans (funext fun a => by fin_cases a <;> rfl)
  exact e ▸ View.emb_mem_set _ _

/-- The second result array after the run. -/
theorem arr16 : (VPipe.dats m hO hH 0 0).arrAt 16 (cfgM m hO).N = res16 m hp := by
  refine (VPipe.dats m hO hH 0 0).arrAt_eq_of_emb 16 (res16 m hp) (fun t _ y => ?_) (fun i => cover16 m hO i)
  rw [VPipe.after0_16]
  exact (out_idx16 m hp hO hH t (grid0.coords t 1) (grid0.coords t 0) rfl rfl y).trans
      (congrArg (res16 m hp) (emb16 m hO t (grid0.coords t 1) (grid0.coords t 0) rfl rfl y).symm)

end Cert.KernelIdeal.Final

end
-- ==== Proof.ReferenceIdeal.RowOut.lean ====
/- The reference's two results, entry by entry: the softmax of each query row over its four levels. -/
module

public import proofs.«01_k».proof.Proof.Gen.ReferenceIdeal.Value
public import proofs.«01_k».proof.Proof.KernelIdeal.Scores
public import proofs.«01_k».proof.Proof.Row

@[expose] public section

set_option maxRecDepth 16384

noncomputable section

namespace Cert.ReferenceIdeal.Rows

open Cert.ReferenceIdeal Cert.ReferenceIdeal.Gen Cert.Soft
open Cert.KernelIdeal.Rows (fold_max ofBits_bot select_eq lane_iff select_iff slt_iff toInt_ofNat)
open Idealize.ShloMosaic Idealize.ShloMosaic.TcCoe

/-- A level's greatest score in a row. -/
theorem mx1800 (v : FVec Ideal S512x240x1800 .f32) (n : Fin 512) (r : Fin 240) :
    (multiReduction .maximumf [2] S512x240 v 0xFF800000#32 Facts₀.reduces_S512x240x1800_S512x240 (.inl rfl) rfl : FVec Ideal S512x240 .f32) (ix2 n r)
      = Finset.univ.sup fun t => v (ix3 n r t) := by
  pointwise
  rw [ofBits_bot, fold_max]

theorem mx640 (v : FVec Ideal S512x240x640 .f32) (n : Fin 512) (r : Fin 240) :
    (multiReduction .maximumf [2] S512x240 v 0xFF800000#32 Facts₀.reduces_S512x240x640_S512x240 (.inl rfl) rfl : FVec Ideal S512x240 .f32) (ix2 n r)
      = Finset.univ.sup fun t => v (ix3 n r t) := by
  pointwise
  rw [ofBits_bot, fold_max]

theorem mx1024 (v : FVec Ideal S512x240x1024 .f32) (n : Fin 512) (r : Fin 240) :
    (multiReduction .maximumf [2] S512x240 v 0xFF800000#32 Facts₀.reduces_S512x240x1024_S512x240 (.inl rfl) rfl : FVec Ideal S512x240 .f32) (ix2 n r)
      = Finset.univ.sup fun t => v (ix3 n r t) := by
  pointwise
  rw [ofBits_bot, fold_max]

theorem mx48 (v : FVec Ideal S512x240x48 .f32) (n : Fin 512) (r : Fin 240) :
    (multiReduction .maximumf [2] S512x240 v 0xFF800000#32 Facts₀.reduces_S512x240x48_S512x240 (.inl rfl) rfl : FVec Ideal S512x240 .f32) (ix2 n r)
      = Finset.univ.sup fun t => v (ix3 n r t) := by
  pointwise
  rw [ofBits_bot, fold_max]

/-- The greater of two pairs' greater. -/
theorem max4 (X Y Z W : FVec Ideal S512x240 .f32) (n : Fin 512) (r : Fin 240) :
    maximumf (maximumf (shapeCast S512x240x1 X Facts₀.shapeCasts_S512x240_S512x240x1) (shapeCast S512x240x1 Y Facts₀.shapeCasts_S512x240_S512x240x1))
      (maximumf (shapeCast S512x240x1 Z Facts₀.shapeCasts_S512x240_S512x240x1) (shapeCast S512x240x1 W Facts₀.shapeCasts_S512x240_S512x240x1)) (ix3 n r 0)
      = max (max (X (ix2 n r)) (Y (ix2 n r))) (max (Z (ix2 n r)) (W (ix2 n r))) := by
  pointwise

/-- The greatest score of a row. -/
theorem max_eq (s0 : FVec Ideal S512x240x1800 .f32) (s1 : FVec Ideal S512x240x640 .f32) (s2 : FVec Ideal S512x240x1024 .f32) (s3 : FVec Ideal S512x240x48 .f32)
    (n : Fin 512) (r : Fin 240) :
    k0_pay10 s0 s1 s2 s3 (ix3 n r 0) = max (max (Finset.univ.sup fun t => s0 (ix3 n r t)) (Finset.univ.sup fun t => s1 (ix3 n r t)))
      (max (Finset.univ.sup fun t => s2 (ix3 n r t)) (Finset.univ.sup fun t => s3 (ix3 n r t))) :=
  (max4 _ _ _ _ n r).trans (by rw [mx1800, mx640, mx1024, mx48])

/-- The reference's operands: the queries, each level's keys, values and scales, and the two lengths. -/
structure Blk where
  x0 : Vec Ideal S512x240x128 .bf16
  x1 : Vec Ideal S512x1800x128 .fp8e4m3
  x2 : Vec Ideal S512x1800x128 .fp8e4m3
  x3 : Vec Ideal S512x1x1800 .f32
  x4 : Vec Ideal S512x1x1800 .f32
  x5 : Vec Ideal S512x640x128 .fp8e4m3
  x6 : Vec Ideal S512x640x128 .fp8e4m3
  x7 : Vec Ideal S512x1x640 .f32
  x8 : Vec Ideal S512x1x640 .f32
  x9 : Vec Ideal S512x1x1 .i32
  x10 : Vec Ideal S512x1024x128 .fp8e4m3
  x11 : Vec Ideal S512x1024x128 .fp8e4m3
  x12 : Vec Ideal S512x1x1024 .f32
  x13 : Vec Ideal S512x1x1024 .f32
  x14 : Vec Ideal S512x1x1 .i32
  x15 : Vec Ideal S512x48x128 .bf16
  x16 : Vec Ideal S512x48x128 .bf16

theorem sm_eq : (Named.named (F := Ideal) κ "sm_scale" 0x3DB504F3#32 : Ideal .f32) = scale :=
  IdealRules.named_const.ideal_named_scalar _ _ _ _ rfl

variable (B : Blk) (n : Fin 512) (r : Fin 240)

/-- The row `r` of head `n`. -/
def Blk.row : Row where
  q d := B.x0 (ix3 n r d)
  k0 t d := B.x1 (ix3 n t d)
  v0 t d := B.x2 (ix3 n t d)
  a0 t := B.x3 (ix3 n 0 t)
  b0 t := B.x4 (ix3 n 0 t)
  k1 t d := B.x5 (ix3 n t d)
  v1 t d := B.x6 (ix3 n t d)
  a1 t := B.x7 (ix3 n 0 t)
  b1 t := B.x8 (ix3 n 0 t)
  k2 t d := B.x10 (ix3 n t d)
  v2 t d := B.x11 (ix3 n t d)
  a2 t := B.x12 (ix3 n 0 t)
  b2 t := B.x13 (ix3 n 0 t)
  k3 t d := B.x15 (ix3 n t d)
  v3 t d := B.x16 (ix3 n t d)
  g := B.x9 (ix3 n 0 0)
  w := B.x14 (ix3 n 0 0)
  vis t := IntOp.cmpi .sle (BitVec.ofNat 32 t.val) (k0_pay2 (ix3 n r t))

theorem z3 : (![0, 0, 0] : Fin 3 → ℕ) = fun _ => 0 := by decide
theorem z4 : (![0, 0, 0, 0] : Fin 4 → ℕ) = fun _ => 0 := by decide

/-- The four levels' scores. -/
def Blk.s0 : FVec Ideal S512x240x1800 .f32 := k0_pay4 B.x0 B.x1 B.x3
def Blk.s1 : FVec Ideal S512x240x640 .f32 := k0_pay7 (k0_pay3 B.x0) (k0_pay5 B.x5) (k0_pay6 B.x7) (iota .tc S512x240x640 32 [2] iota_S512x240x640_d2_w32) B.x9
def Blk.s2 : FVec Ideal S512x240x1024 .f32 := k0_pay8 (k0_pay3 B.x0) B.x10 B.x12 B.x14
def Blk.s3 : FVec Ideal S512x240x48 .f32 := k0_pay9 k0_pay2 (k0_pay3 B.x0) B.x15

theorem s0_at (t : Fin 1800) : B.s0 (ix3 n r t) = (B.row n r).s0 t := by
  unfold Blk.s0
  pointwise [k0_pay4, k0_pay3]
  rw [sm_eq]
  rfl

theorem s1_at (t : Fin 640) : B.s1 (ix3 n r t) = (B.row n r).s1 t := by
  unfold Blk.s1
  pointwise [k0_pay7, k0_pay3, k0_pay5, k0_pay6]
  rw [sm_eq, ofBits_bot, select_iff _ _ ((slt_iff _ _).trans (by rw [toInt_ofNat _ (by omega)]))]
  rfl

theorem s2_at (t : Fin 1024) : B.s2 (ix3 n r t) = (B.row n r).s2 t := by
  unfold Blk.s2
  pointwise [k0_pay8, k0_pay3]
  rw [sm_eq, ofBits_bot, select_iff _ _ ((slt_iff _ _).trans (by rw [toInt_ofNat _ (by omega)]))]
  rfl

theorem s3_at (t : Fin 48) : B.s3 (ix3 n r t) = (B.row n r).s3 t := by
  unfold Blk.s3
  pointwise [k0_pay9, k0_pay3]
  rw [sm_eq, ofBits_bot, select_iff _ _ Iff.rfl]
  rfl

theorem max_at : k0_pay10 B.s0 B.s1 B.s2 B.s3 (ix3 n r 0) = (B.row n r).M := by
  rw [max_eq]
  simp only [s0_at, s1_at, s2_at, s3_at]
  rfl

theorem w0_at (t : Fin 1800) : k0_pay11 B.s0 B.s1 B.s2 B.s3 (ix3 n r t) = Ideal.exp ((B.row n r).s0 t - (B.row n r).M) := by
  rw [← max_at, ← s0_at]
  pointwise [k0_pay11]

theorem l0_at : k0_pay15 B.s0 B.s1 B.s2 B.s3 (ix3 n r 0) = ∑ t, Ideal.exp ((B.row n r).s0 t - (B.row n r).M) := by
  simp only [← w0_at]
  pointwise [k0_pay15]

theorem w1_at (t : Fin 640) : k0_pay12 B.s0 B.s1 B.s2 B.s3 (ix3 n r t) = Ideal.exp ((B.row n r).s1 t - (B.row n r).M) := by
  rw [← max_at, ← s1_at]
  pointwise [k0_pay12]

theorem l1_at : k0_pay16 B.s0 B.s1 B.s2 B.s3 (ix3 n r 0) = ∑ t, Ideal.exp ((B.row n r).s1 t - (B.row n r).M) := by
  simp only [← w1_at]
  pointwise [k0_pay16]

theorem w2_at (t : Fin 1024) : k0_pay13 B.s0 B.s1 B.s2 B.s3 (ix3 n r t) = Ideal.exp ((B.row n r).s2 t - (B.row n r).M) := by
  rw [← max_at, ← s2_at]
  pointwise [k0_pay13]

theorem l2_at : k0_pay17 B.s0 B.s1 B.s2 B.s3 (ix3 n r 0) = ∑ t, Ideal.exp ((B.row n r).s2 t - (B.row n r).M) := by
  simp only [← w2_at]
  pointwise [k0_pay17]

theorem w3_at (t : Fin 48) : k0_pay14 B.s0 B.s1 B.s2 B.s3 (ix3 n r t) = Ideal.exp ((B.row n r).s3 t - (B.row n r).M) := by
  rw [← max_at, ← s3_at]
  pointwise [k0_pay14]

theorem l3_at : k0_pay18 B.s0 B.s1 B.s2 B.s3 (ix3 n r 0) = ∑ t, Ideal.exp ((B.row n r).s3 t - (B.row n r).M) := by
  simp only [← w3_at]
  pointwise [k0_pay18]

theorem norm_at : k0_pay19 B.s0 B.s1 B.s2 B.s3 (ix3 n r 0) = (B.row n r).norm := by
  unfold Row.norm
  rw [← l0_at, ← l1_at, ← l2_at, ← l3_at]
  pointwise [k0_pay19]

/-- The attention's payload from the operands. -/
def Blk.pO : FVec Ideal S64x8x240x128 .bf16 := k0_pay21 (k0_pay12 B.s0 B.s1 B.s2 B.s3) (k0_pay13 B.s0 B.s1 B.s2 B.s3) (k0_pay14 B.s0 B.s1 B.s2 B.s3) (k0_pay19 B.s0 B.s1 B.s2 B.s3) (k0_pay20 B.s0 B.s1 B.s2 B.s3 B.x2 B.x4) B.x6 B.x8 B.x11 B.x13 B.x16

/-- The shares' payload from the operands. -/
def Blk.pW : FVec Ideal S64x8x240x8 .f32 := k0_pay1 (k0_pay15 B.s0 B.s1 B.s2 B.s3) (k0_pay16 B.s0 B.s1 B.s2 B.s3) (k0_pay17 B.s0 B.s1 B.s2 B.s3) (k0_pay18 B.s0 B.s1 B.s2 B.s3) (k0_pay19 B.s0 B.s1 B.s2 B.s3) (iota .tc S512x240x8 32 [2] iota_S512x240x8_d2_w32) k0_pay22 k0_pay23

theorem h0 (X : Vec Ideal S512x240x128 .bf16) : View.ld X r0_0 = X := View.ld_unit_zero z3 _ X
theorem h1 (X : Vec Ideal S512x1800x128 .fp8e4m3) : View.ld X r0_1 = X := View.ld_unit_zero z3 _ X
theorem h2 (X : Vec Ideal S512x1x1800 .f32) : View.ld X r0_2 = X := View.ld_unit_zero z3 _ X
theorem h3 (X : Vec Ideal S512x640x128 .fp8e4m3) : View.ld X r0_3 = X := View.ld_unit_zero z3 _ X
theorem h4 (X : Vec Ideal S512x1x640 .f32) : View.ld X r0_4 = X := View.ld_unit_zero z3 _ X
theorem h5 (X : Vec Ideal S512x1x1 .i32) : View.ld X r0_5 = X := View.ld_unit_zero z3 _ X
theorem h6 (X : Vec Ideal S512x1024x128 .fp8e4m3) : View.ld X r0_6 = X := View.ld_unit_zero z3 _ X
theorem h7 (X : Vec Ideal S512x1x1024 .f32) : View.ld X r0_7 = X := View.ld_unit_zero z3 _ X
theorem h8 (X : Vec Ideal S512x48x128 .bf16) : View.ld X r0_8 = X := View.ld_unit_zero z3 _ X

theorem p24 : k0_pay24 B.x0 B.x1 B.x2 B.x3 B.x4 B.x5 B.x6 B.x7 B.x8 B.x9 B.x10 B.x11 B.x12 B.x13 B.x14 B.x15 B.x16 = k0_pay3 B.x0 := by unfold k0_pay24; rw [h0]
theorem p25 : k0_pay25 B.x0 B.x1 B.x2 B.x3 B.x4 B.x5 B.x6 B.x7 B.x8 B.x9 B.x10 B.x11 B.x12 B.x13 B.x14 B.x15 B.x16 = B.s0 := by unfold k0_pay25 Blk.s0; rw [h0, h1, h2]
theorem p26 : k0_pay26 B.x0 B.x1 B.x2 B.x3 B.x4 B.x5 B.x6 B.x7 B.x8 B.x9 B.x10 B.x11 B.x12 B.x13 B.x14 B.x15 B.x16 = B.s1 := by unfold k0_pay26 Blk.s1; rw [p24, h3, h4, h5]
theorem p27 : k0_pay27 B.x0 B.x1 B.x2 B.x3 B.x4 B.x5 B.x6 B.x7 B.x8 B.x9 B.x10 B.x11 B.x12 B.x13 B.x14 B.x15 B.x16 = B.s2 := by unfold k0_pay27 Blk.s2; rw [p24, h6, h7, h5]
theorem p28 : k0_pay28 B.x0 B.x1 B.x2 B.x3 B.x4 B.x5 B.x6 B.x7 B.x8 B.x9 B.x10 B.x11 B.x12 B.x13 B.x14 B.x15 B.x16 = B.s3 := by unfold k0_pay28 Blk.s3; rw [p24, h8]
theorem p29 : k0_pay29 B.x0 B.x1 B.x2 B.x3 B.x4 B.x5 B.x6 B.x7 B.x8 B.x9 B.x10 B.x11 B.x12 B.x13 B.x14 B.x15 B.x16 = k0_pay19 B.s0 B.s1 B.s2 B.s3 := by unfold k0_pay29; rw [p25, p26, p27, p28]

/-- The attention's buffer after the body. -/
theorem out17_eq : out0_17 B.x0 B.x1 B.x2 B.x3 B.x4 B.x5 B.x6 B.x7 B.x8 B.x9 B.x10 B.x11 B.x12 B.x13 B.x14 B.x15 B.x16 = B.pO := by
  unfold out0_17 Blk.pO
  rw [p25, p26, p27, p28, p29, h1, h2, h3, h4, h6, h7, h8]
  exact View.canon_unit_zero (S := S64x8x240x128) z4 _ _

/-- The shares' buffer after the body. -/
theorem out18_eq : out0_18 B.x0 B.x1 B.x2 B.x3 B.x4 B.x5 B.x6 B.x7 B.x8 B.x9 B.x10 B.x11 B.x12 B.x13 B.x14 B.x15 B.x16 = B.pW := by
  unfold out0_18 Blk.pW
  rw [p25, p26, p27, p28, p29]
  exact View.canon_unit_zero (S := S64x8x240x8) z4 _ _

theorem pO_at (b : Fin 64) (h : Fin 8) (d : Fin 128) : B.pO (ix4 b h r d) = (B.row ⟨b.val * 8 + h.val, by omega⟩ r).att d := by
  unfold Blk.pO Row.att
  rw [← norm_at]
  simp only [← w0_at, ← w1_at, ← w2_at, ← w3_at]
  pointwise [k0_pay21, k0_pay20]
  rfl

theorem pW_at (b : Fin 64) (h : Fin 8) (i : Fin 8) : B.pW (ix4 b h r i) = (B.row ⟨b.val * 8 + h.val, by omega⟩ r).share i := by
  unfold Blk.pW Row.share
  rw [← norm_at, ← l0_at, ← l1_at, ← l2_at, ← l3_at]
  pointwise [k0_pay1, k0_pay22, k0_pay23]
  simp only [select_eq]
  have e : ∀ k, k < 4 → ((BitVec.ofNat 32 i.val = BitVec.ofNat 32 k) = (i.val = k)) := fun k hk => propext (lane_iff (i.castLE (by norm_num)) k hk)
  simp only [e 0 (by norm_num), e 1 (by norm_num), e 2 (by norm_num), e 3 (by norm_num)]

end Cert.ReferenceIdeal.Rows

end
-- ==== Proof.ReferenceIdeal.Gather.lean ====
/- The reference's gathers at an index: the row of the table the index word names. -/
module

public import proofs.«01_k».proof.Proof.Gen.ReferenceIdeal
public import Idealize.ShloMosaic.Lib.Pointwise

@[expose] public section

set_option maxRecDepth 16384

noncomputable section

namespace Cert.ReferenceIdeal.Host

open Cert.ReferenceIdeal
open Idealize.ShloMosaic Idealize.ShloMosaic.TcCoe

variable {α : Type} (idx : IVec S64x1 32) (b : Fin 64) (g : Fin 7) (hg : idx (ix2 b 0) = BitVec.ofNat 32 g.val)
include hg

/-- A group's word, clamped to the seven rows, is the group. -/
theorem clamp : min (idx (ix2 b 0)).toInt.toNat 6 = g.val := by
  rw [hg]; clear hg; revert g; decide

/-- A table of keys or values gathered by group. -/
theorem gather4 (x : S7x640x8x128.Idx → α) (t : Fin 640) (h : Fin 8) (d : Fin 128) :
    Host.gather gather_S7x640x8x128_S64x1_S64x640x8x128_123_0_n_n_0_1_16408128 x idx (ix4 b t h d) = x (ix4 g t h d) := by
  unfold Host.gather
  have e := clamp idx b g hg
  refine congrArg x (funext fun a => Fin.ext ?_)
  have hs : ∀ k, gather_S7x640x8x128_S64x1_S64x640x8x128_123_0_n_n_0_1_16408128.siIdx (ix4 b t h d) k = ix2 b 0 := by
    intro k; funext i; fin_cases i
    · rfl
    · exact Fin.ext (by have := k.isLt; show k.val = 0; change k.val < 1 at this; omega)
  fin_cases a
  · show GatherDims.start _ _ idx 0 + 0 + 0 = g.val
    rw [← e]
    unfold GatherDims.start
    rw [dif_pos (by decide), hs]
    rfl
  · show 0 + 0 + t.val = t.val
    omega
  · show 0 + 0 + h.val = h.val
    omega
  · show 0 + 0 + d.val = d.val
    omega

/-- A table of scales gathered by group. -/
theorem gather3 (x : S7x640x8.Idx → α) (t : Fin 640) (h : Fin 8) :
    Host.gather gather_S7x640x8_S64x1_S64x640x8_12_0_n_n_0_1_16408 x idx (ix3 b t h) = x (ix3 g t h) := by
  unfold Host.gather
  have e := clamp idx b g hg
  refine congrArg x (funext fun a => Fin.ext ?_)
  have hs : ∀ k, gather_S7x640x8_S64x1_S64x640x8_12_0_n_n_0_1_16408.siIdx (ix3 b t h) k = ix2 b 0 := by
    intro k; funext i; fin_cases i
    · rfl
    · exact Fin.ext (by have := k.isLt; show k.val = 0; change k.val < 1 at this; omega)
  fin_cases a
  · show GatherDims.start _ _ idx 0 + 0 + 0 = g.val
    rw [← e]
    unfold GatherDims.start
    rw [dif_pos (by decide), hs]
    rfl
  · show 0 + 0 + t.val = t.val
    omega
  · show 0 + 0 + h.val = h.val
    omega

/-- The lengths gathered by group. -/
theorem gather1 (x : S7.Idx → α) :
    Host.gather gather_S7_S64x1_S64_n_0_n_n_0_1_1 x idx (ix1 b) = x (ix1 g) := by
  unfold Host.gather
  have e := clamp idx b g hg
  refine congrArg x (funext fun a => Fin.ext ?_)
  have hs : ∀ k, gather_S7_S64x1_S64_n_0_n_n_0_1_1.siIdx (ix1 b) k = ix2 b 0 := by
    intro k; funext i; fin_cases i
    · rfl
    · exact Fin.ext (by have := k.isLt; show k.val = 0; change k.val < 1 at this; omega)
  fin_cases a
  show GatherDims.start _ _ idx 0 + 0 + 0 = g.val
  rw [← e]
  unfold GatherDims.start
  rw [dif_pos (by decide), hs]
  rfl

end Cert.ReferenceIdeal.Host

end
-- ==== Proof.ReferenceIdeal.Host.lean ====
/- What the reference's region finds in each operand, entry by entry, in terms of the arguments; head `b * 8 + h` is head `h` of sequence `b`. -/
module

public import proofs.«01_k».proof.Proof.Gen.ReferenceIdeal.Frame
public import proofs.«01_k».proof.Proof.ReferenceIdeal.Gather
public import Idealize.ShloMosaic.Lib.Pointwise
public import Idealize.ShloMosaic.Lib.StableHlo.RunRead

@[expose] public section

set_option maxRecDepth 16384
set_option maxHeartbeats 1000000

noncomputable section

namespace Cert.ReferenceIdeal.Host

open Cert.ReferenceIdeal Cert.ReferenceIdeal.Gen
open Idealize.ShloMosaic Idealize.ShloMosaic.TcCoe

variable (m : (ℓ : Loc nD τ sig) → Buf (Elt Ideal) ℓ) (c : Dev nD)

/-- A group's word is not negative, so nothing is added to it. -/
theorem word (g : Fin 7) : Scalar.select (IntOp.cmpi .slt (BitVec.ofNat 32 g.val) 0#32) (IntOp.addi (BitVec.ofNat 32 g.val) 7#32) (BitVec.ofNat 32 g.val)
    = BitVec.ofNat 32 g.val := by
  revert g; decide

/-- The queries: row `r` of head `h` is position `r % 48` of the group's query head `r / 48`. -/
theorem q (b : Fin 64) (h : Fin 8) (r : Fin 240) (d : Fin 128) :
    V m c main_v2 (ix3 ⟨b.val * 8 + h.val, by omega⟩ r d) = m ((c : Thread nD τ).loc main_arg0) (ix3 b ⟨r.val % 48, by omega⟩ ⟨h.val * 640 + r.val / 48 * 128 + d.val, by omega⟩) := by
  unfold V
  after_reads_simp
  pointwise

/-- The prefix keys. -/
theorem k0 (b : Fin 64) (h : Fin 8) (t : Fin 1800) (d : Fin 128) :
    V m c main_v6 (ix3 ⟨b.val * 8 + h.val, by omega⟩ t d) = m ((c : Thread nD τ).loc main_arg1) (ix3 t h d) := by
  unfold V
  after_reads_simp
  pointwise

/-- The prefix values. -/
theorem v0 (b : Fin 64) (h : Fin 8) (t : Fin 1800) (d : Fin 128) :
    V m c main_v10 (ix3 ⟨b.val * 8 + h.val, by omega⟩ t d) = m ((c : Thread nD τ).loc main_arg2) (ix3 t h d) := by
  unfold V
  after_reads_simp
  pointwise

/-- The prefix keys' scales. -/
theorem a0 (b : Fin 64) (h : Fin 8) (t : Fin 1800) :
    V m c main_v14 (ix3 ⟨b.val * 8 + h.val, by omega⟩ 0 t) = m ((c : Thread nD τ).loc main_arg3) (ix2 t h) := by
  unfold V
  after_reads_simp
  pointwise

/-- The prefix values' scales. -/
theorem b0 (b : Fin 64) (h : Fin 8) (t : Fin 1800) :
    V m c main_v18 (ix3 ⟨b.val * 8 + h.val, by omega⟩ 0 t) = m ((c : Thread nD τ).loc main_arg4) (ix2 t h) := by
  unfold V
  after_reads_simp
  pointwise

/-- The mid keys, of the sequence's group. -/
theorem k1 (b : Fin 64) (h : Fin 8) (g : Fin 7) (hg : m ((c : Thread nD τ).loc main_arg10) (ix1 b) = BitVec.ofNat 32 g.val) (t : Fin 640) (d : Fin 128) :
    V m c main_v27 (ix3 ⟨b.val * 8 + h.val, by omega⟩ t d) = m ((c : Thread nD τ).loc main_arg5) (ix4 g t h d) := by
  unfold V
  after_reads_simp
  pointwise
  refine gather4 _ b g ?_ _ t h d
  pointwise
  exact (congrArg (fun w => Scalar.select (IntOp.cmpi .slt w 0#32) (IntOp.addi w 7#32) w) hg).trans (word g)

/-- The mid values, of the sequence's group. -/
theorem v1 (b : Fin 64) (h : Fin 8) (g : Fin 7) (hg : m ((c : Thread nD τ).loc main_arg10) (ix1 b) = BitVec.ofNat 32 g.val) (t : Fin 640) (d : Fin 128) :
    V m c main_v36 (ix3 ⟨b.val * 8 + h.val, by omega⟩ t d) = m ((c : Thread nD τ).loc main_arg6) (ix4 g t h d) := by
  unfold V
  after_reads_simp
  pointwise
  refine gather4 _ b g ?_ _ t h d
  pointwise
  exact (congrArg (fun w => Scalar.select (IntOp.cmpi .slt w 0#32) (IntOp.addi w 7#32) w) hg).trans (word g)

/-- The mid keys' scales, of the sequence's group. -/
theorem a1 (b : Fin 64) (h : Fin 8) (g : Fin 7) (hg : m ((c : Thread nD τ).loc main_arg10) (ix1 b) = BitVec.ofNat 32 g.val) (t : Fin 640) :
    V m c main_v45 (ix3 ⟨b.val * 8 + h.val, by omega⟩ 0 t) = m ((c : Thread nD τ).loc main_arg7) (ix3 g t h) := by
  unfold V
  after_reads_simp
  pointwise
  refine gather3 _ b g ?_ _ t h
  pointwise
  exact (congrArg (fun w => Scalar.select (IntOp.cmpi .slt w 0#32) (IntOp.addi w 7#32) w) hg).trans (word g)

/-- The mid values' scales, of the sequence's group. -/
theorem b1 (b : Fin 64) (h : Fin 8) (g : Fin 7) (hg : m ((c : Thread nD τ).loc main_arg10) (ix1 b) = BitVec.ofNat 32 g.val) (t : Fin 640) :
    V m c main_v54 (ix3 ⟨b.val * 8 + h.val, by omega⟩ 0 t) = m ((c : Thread nD τ).loc main_arg8) (ix3 g t h) := by
  unfold V
  after_reads_simp
  pointwise
  refine gather3 _ b g ?_ _ t h
  pointwise
  exact (congrArg (fun w => Scalar.select (IntOp.cmpi .slt w 0#32) (IntOp.addi w 7#32) w) hg).trans (word g)

/-- The mid length, of the sequence's group. -/
theorem g1 (b : Fin 64) (h : Fin 8) (g : Fin 7) (hg : m ((c : Thread nD τ).loc main_arg10) (ix1 b) = BitVec.ofNat 32 g.val) :
    V m c main_v64 (ix3 ⟨b.val * 8 + h.val, by omega⟩ 0 0) = m ((c : Thread nD τ).loc main_arg9) (ix1 g) := by
  unfold V
  after_reads_simp
  pointwise
  refine gather1 _ b g ?_ _
  pointwise
  exact (congrArg (fun w => Scalar.select (IntOp.cmpi .slt w 0#32) (IntOp.addi w 7#32) w) hg).trans (word g)

/-- The tail length. -/
theorem w2 (b : Fin 64) (h : Fin 8) :
    V m c main_v75 (ix3 ⟨b.val * 8 + h.val, by omega⟩ 0 0) = m ((c : Thread nD τ).loc main_arg15) (ix1 b) := by
  unfold V
  after_reads_simp
  pointwise

/-- The tail keys. -/
theorem k2 (b : Fin 64) (h : Fin 8) (t : Fin 1024) (d : Fin 128) :
    V m c main_v66 (ix3 ⟨b.val * 8 + h.val, by omega⟩ t d) = m ((c : Thread nD τ).loc main_arg11) (ix4 b t h d) := by
  unfold V
  after_reads_simp
  pointwise

/-- The tail values. -/
theorem v2 (b : Fin 64) (h : Fin 8) (t : Fin 1024) (d : Fin 128) :
    V m c main_v68 (ix3 ⟨b.val * 8 + h.val, by omega⟩ t d) = m ((c : Thread nD τ).loc main_arg12) (ix4 b t h d) := by
  unfold V
  after_reads_simp
  pointwise

/-- The tail keys' scales. -/
theorem a2 (b : Fin 64) (h : Fin 8) (t : Fin 1024) :
    V m c main_v70 (ix3 ⟨b.val * 8 + h.val, by omega⟩ 0 t) = m ((c : Thread nD τ).loc main_arg13) (ix3 b t h) := by
  unfold V
  after_reads_simp
  pointwise

/-- The tail values' scales. -/
theorem b2 (b : Fin 64) (h : Fin 8) (t : Fin 1024) :
    V m c main_v72 (ix3 ⟨b.val * 8 + h.val, by omega⟩ 0 t) = m ((c : Thread nD τ).loc main_arg14) (ix3 b t h) := by
  unfold V
  after_reads_simp
  pointwise

/-- The new keys. -/
theorem k3 (b : Fin 64) (h : Fin 8) (t : Fin 48) (d : Fin 128) :
    V m c main_v77 (ix3 ⟨b.val * 8 + h.val, by omega⟩ t d) = m ((c : Thread nD τ).loc main_arg16) (ix4 b t h d) := by
  unfold V
  after_reads_simp
  pointwise

/-- The new values. -/
theorem v3 (b : Fin 64) (h : Fin 8) (t : Fin 48) (d : Fin 128) :
    V m c main_v79 (ix3 ⟨b.val * 8 + h.val, by omega⟩ t d) = m ((c : Thread nD τ).loc main_arg17) (ix4 b t h d) := by
  unfold V
  after_reads_simp
  pointwise

end Cert.ReferenceIdeal.Host

end
-- ==== Proof.ReferenceIdeal.Final.lean ====
/- The reference's two results, entry by entry, in terms of the arguments. -/
module

public import proofs.«01_k».proof.Proof.ReferenceIdeal.RowOut
public import proofs.«01_k».proof.Proof.ReferenceIdeal.Host
public import proofs.«01_k».proof.Proof.Gen.ReferenceIdeal.Value
public import proofs.«01_k».proof.Proof.Args
public import Idealize.ShloMosaic.Lib.Pipeline.ValueKit

@[expose] public section

set_option maxRecDepth 16384

noncomputable section

namespace Cert.ReferenceIdeal.Final

open Cert.ReferenceIdeal Cert.ReferenceIdeal.Gen Cert.ReferenceIdeal.Rows Cert.Soft
open Idealize.ShloMosaic Idealize.ShloMosaic.TcCoe Idealize.ShloMosaic.Pipeline

variable (m : (ℓ : Loc nD τ sig) → Buf (Elt Ideal) ℓ) (c : Dev nD)

/-- The arguments. -/
noncomputable def args : Args where
  q b s e := m ((c : Thread nD τ).loc main_arg0) (ix3 b s e)
  k0 t h d := m ((c : Thread nD τ).loc main_arg1) (ix3 t h d)
  v0 t h d := m ((c : Thread nD τ).loc main_arg2) (ix3 t h d)
  a0 t h := m ((c : Thread nD τ).loc main_arg3) (ix2 t h)
  b0 t h := m ((c : Thread nD τ).loc main_arg4) (ix2 t h)
  k1 g t h d := m ((c : Thread nD τ).loc main_arg5) (ix4 g t h d)
  v1 g t h d := m ((c : Thread nD τ).loc main_arg6) (ix4 g t h d)
  a1 g t h := m ((c : Thread nD τ).loc main_arg7) (ix3 g t h)
  b1 g t h := m ((c : Thread nD τ).loc main_arg8) (ix3 g t h)
  len g := m ((c : Thread nD τ).loc main_arg9) (ix1 g)
  grp b := m ((c : Thread nD τ).loc main_arg10) (ix1 b)
  k2 b t h d := m ((c : Thread nD τ).loc main_arg11) (ix4 b t h d)
  v2 b t h d := m ((c : Thread nD τ).loc main_arg12) (ix4 b t h d)
  a2 b t h := m ((c : Thread nD τ).loc main_arg13) (ix3 b t h)
  b2 b t h := m ((c : Thread nD τ).loc main_arg14) (ix3 b t h)
  own b := m ((c : Thread nD τ).loc main_arg15) (ix1 b)
  k3 b t h d := m ((c : Thread nD τ).loc main_arg16) (ix4 b t h d)
  v3 b t h d := m ((c : Thread nD τ).loc main_arg17) (ix4 b t h d)

/-- The arrays the body reads. -/
noncomputable def blk : Blk := ⟨V m c main_v2, V m c main_v6, V m c main_v10, V m c main_v14, V m c main_v18, V m c main_v27, V m c main_v36, V m c main_v45, V m c main_v54, V m c main_v64, V m c main_v66, V m c main_v68, V m c main_v70, V m c main_v72, V m c main_v75, V m c main_v77, V m c main_v79⟩

/-- The visible new tokens of a row. -/
noncomputable def vis (n : Fin 512) (r : Fin 240) (t : Fin 48) : BitVec 1 := IntOp.cmpi .sle (BitVec.ofNat 32 t.val) (k0_pay2 (ix3 n r t))

/-- Window 0 is its whole array. -/
theorem index0 : ∀ t : Fin cfg0.N, win0_0.index t = ![0, 0, 0] := by decide +kernel

/-- Reading window 0 reads its whole array. -/
theorem read0 (X : S512x240x128.Idx → Elt Ideal .bf16) (t : Fin cfg0.N) : ((cfg0.win 0).blk t).view.read (Elt Ideal) X = X := by
  have e := index0 t
  funext y
  refine congrArg X (funext fun a => Fin.ext ?_)
  refine (Window.rect_emb_val win0_0 t y a).trans ?_
  rw [e]
  fin_cases a <;> simp

/-- Window 0 holds its whole array. -/
theorem iblk0 (t : Fin cfg0.N) : iblk m c 0 t = V m c main_v2 := read0 (V m c main_v2) t

/-- Window 1 is its whole array. -/
theorem index1 : ∀ t : Fin cfg0.N, win0_1.index t = ![0, 0, 0] := by decide +kernel

/-- Reading window 1 reads its whole array. -/
theorem read1 (X : S512x1800x128.Idx → Elt Ideal .fp8e4m3) (t : Fin cfg0.N) : ((cfg0.win 1).blk t).view.read (Elt Ideal) X = X := by
  have e := index1 t
  funext y
  refine congrArg X (funext fun a => Fin.ext ?_)
  refine (Window.rect_emb_val win0_1 t y a).trans ?_
  rw [e]
  fin_cases a <;> simp

/-- Window 1 holds its whole array. -/
theorem iblk1 (t : Fin cfg0.N) : iblk m c 1 t = V m c main_v6 := read1 (V m c main_v6) t

/-- Window 2 is its whole array. -/
theorem index2 : ∀ t : Fin cfg0.N, win0_2.index t = ![0, 0, 0] := by decide +kernel

/-- Reading window 2 reads its whole array. -/
theorem read2 (X : S512x1800x128.Idx → Elt Ideal .fp8e4m3) (t : Fin cfg0.N) : ((cfg0.win 2).blk t).view.read (Elt Ideal) X = X := by
  have e := index2 t
  funext y
  refine congrArg X (funext fun a => Fin.ext ?_)
  refine (Window.rect_emb_val win0_2 t y a).trans ?_
  rw [e]
  fin_cases a <;> simp

/-- Window 2 holds its whole array. -/
theorem iblk2 (t : Fin cfg0.N) : iblk m c 2 t = V m c main_v10 := read2 (V m c main_v10) t

/-- Window 3 is its whole array. -/
theorem index3 : ∀ t : Fin cfg0.N, win0_3.index t = ![0, 0, 0] := by decide +kernel

/-- Reading window 3 reads its whole array. -/
theorem read3 (X : S512x1x1800.Idx → Elt Ideal .f32) (t : Fin cfg0.N) : ((cfg0.win 3).blk t).view.read (Elt Ideal) X = X := by
  have e := index3 t
  funext y
  refine congrArg X (funext fun a => Fin.ext ?_)
  refine (Window.rect_emb_val win0_3 t y a).trans ?_
  rw [e]
  fin_cases a <;> simp

/-- Window 3 holds its whole array. -/
theorem iblk3 (t : Fin cfg0.N) : iblk m c 3 t = V m c main_v14 := read3 (V m c main_v14) t

/-- Window 4 is its whole array. -/
theorem index4 : ∀ t : Fin cfg0.N, win0_4.index t = ![0, 0, 0] := by decide +kernel

/-- Reading window 4 reads its whole array. -/
theorem read4 (X : S512x1x1800.Idx → Elt Ideal .f32) (t : Fin cfg0.N) : ((cfg0.win 4).blk t).view.read (Elt Ideal) X = X := by
  have e := index4 t
  funext y
  refine congrArg X (funext fun a => Fin.ext ?_)
  refine (Window.rect_emb_val win0_4 t y a).trans ?_
  rw [e]
  fin_cases a <;> simp

/-- Window 4 holds its whole array. -/
theorem iblk4 (t : Fin cfg0.N) : iblk m c 4 t = V m c main_v18 := read4 (V m c main_v18) t

/-- Window 5 is its whole array. -/
theorem index5 : ∀ t : Fin cfg0.N, win0_5.index t = ![0, 0, 0] := by decide +kernel

/-- Reading window 5 reads its whole array. -/
theorem read5 (X : S512x640x128.Idx → Elt Ideal .fp8e4m3) (t : Fin cfg0.N) : ((cfg0.win 5).blk t).view.read (Elt Ideal) X = X := by
  have e := index5 t
  funext y
  refine congrArg X (funext fun a => Fin.ext ?_)
  refine (Window.rect_emb_val win0_5 t y a).trans ?_
  rw [e]
  fin_cases a <;> simp

/-- Window 5 holds its whole array. -/
theorem iblk5 (t : Fin cfg0.N) : iblk m c 5 t = V m c main_v27 := read5 (V m c main_v27) t

/-- Window 6 is its whole array. -/
theorem index6 : ∀ t : Fin cfg0.N, win0_6.index t = ![0, 0, 0] := by decide +kernel

/-- Reading window 6 reads its whole array. -/
theorem read6 (X : S512x640x128.Idx → Elt Ideal .fp8e4m3) (t : Fin cfg0.N) : ((cfg0.win 6).blk t).view.read (Elt Ideal) X = X := by
  have e := index6 t
  funext y
  refine congrArg X (funext fun a => Fin.ext ?_)
  refine (Window.rect_emb_val win0_6 t y a).trans ?_
  rw [e]
  fin_cases a <;> simp

/-- Window 6 holds its whole array. -/
theorem iblk6 (t : Fin cfg0.N) : iblk m c 6 t = V m c main_v36 := read6 (V m c main_v36) t

/-- Window 7 is its whole array. -/
theorem index7 : ∀ t : Fin cfg0.N, win0_7.index t = ![0, 0, 0] := by decide +kernel

/-- Reading window 7 reads its whole array. -/
theorem read7 (X : S512x1x640.Idx → Elt Ideal .f32) (t : Fin cfg0.N) : ((cfg0.win 7).blk t).view.read (Elt Ideal) X = X := by
  have e := index7 t
  funext y
  refine congrArg X (funext fun a => Fin.ext ?_)
  refine (Window.rect_emb_val win0_7 t y a).trans ?_
  rw [e]
  fin_cases a <;> simp

/-- Window 7 holds its whole array. -/
theorem iblk7 (t : Fin cfg0.N) : iblk m c 7 t = V m c main_v45 := read7 (V m c main_v45) t

/-- Window 8 is its whole array. -/
theorem index8 : ∀ t : Fin cfg0.N, win0_8.index t = ![0, 0, 0] := by decide +kernel

/-- Reading window 8 reads its whole array. -/
theorem read8 (X : S512x1x640.Idx → Elt Ideal .f32) (t : Fin cfg0.N) : ((cfg0.win 8).blk t).view.read (Elt Ideal) X = X := by
  have e := index8 t
  funext y
  refine congrArg X (funext fun a => Fin.ext ?_)
  refine (Window.rect_emb_val win0_8 t y a).trans ?_
  rw [e]
  fin_cases a <;> simp

/-- Window 8 holds its whole array. -/
theorem iblk8 (t : Fin cfg0.N) : iblk m c 8 t = V m c main_v54 := read8 (V m c main_v54) t

/-- Window 9 is its whole array. -/
theorem index9 : ∀ t : Fin cfg0.N, win0_9.index t = ![0, 0, 0] := by decide +kernel

/-- Reading window 9 reads its whole array. -/
theorem read9 (X : S512x1x1.Idx → Elt Ideal .i32) (t : Fin cfg0.N) : ((cfg0.win 9).blk t).view.read (Elt Ideal) X = X := by
  have e := index9 t
  funext y
  refine congrArg X (funext fun a => Fin.ext ?_)
  refine (Window.rect_emb_val win0_9 t y a).trans ?_
  rw [e]
  fin_cases a <;> simp

/-- Window 9 holds its whole array. -/
theorem iblk9 (t : Fin cfg0.N) : iblk m c 9 t = V m c main_v64 := read9 (V m c main_v64) t

/-- Window 10 is its whole array. -/
theorem index10 : ∀ t : Fin cfg0.N, win0_10.index t = ![0, 0, 0] := by decide +kernel

/-- Reading window 10 reads its whole array. -/
theorem read10 (X : S512x1024x128.Idx → Elt Ideal .fp8e4m3) (t : Fin cfg0.N) : ((cfg0.win 10).blk t).view.read (Elt Ideal) X = X := by
  have e := index10 t
  funext y
  refine congrArg X (funext fun a => Fin.ext ?_)
  refine (Window.rect_emb_val win0_10 t y a).trans ?_
  rw [e]
  fin_cases a <;> simp

/-- Window 10 holds its whole array. -/
theorem iblk10 (t : Fin cfg0.N) : iblk m c 10 t = V m c main_v66 := read10 (V m c main_v66) t

/-- Window 11 is its whole array. -/
theorem index11 : ∀ t : Fin cfg0.N, win0_11.index t = ![0, 0, 0] := by decide +kernel

/-- Reading window 11 reads its whole array. -/
theorem read11 (X : S512x1024x128.Idx → Elt Ideal .fp8e4m3) (t : Fin cfg0.N) : ((cfg0.win 11).blk t).view.read (Elt Ideal) X = X := by
  have e := index11 t
  funext y
  refine congrArg X (funext fun a => Fin.ext ?_)
  refine (Window.rect_emb_val win0_11 t y a).trans ?_
  rw [e]
  fin_cases a <;> simp

/-- Window 11 holds its whole array. -/
theorem iblk11 (t : Fin cfg0.N) : iblk m c 11 t = V m c main_v68 := read11 (V m c main_v68) t

/-- Window 12 is its whole array. -/
theorem index12 : ∀ t : Fin cfg0.N, win0_12.index t = ![0, 0, 0] := by decide +kernel

/-- Reading window 12 reads its whole array. -/
theorem read12 (X : S512x1x1024.Idx → Elt Ideal .f32) (t : Fin cfg0.N) : ((cfg0.win 12).blk t).view.read (Elt Ideal) X = X := by
  have e := index12 t
  funext y
  refine congrArg X (funext fun a => Fin.ext ?_)
  refine (Window.rect_emb_val win0_12 t y a).trans ?_
  rw [e]
  fin_cases a <;> simp

/-- Window 12 holds its whole array. -/
theorem iblk12 (t : Fin cfg0.N) : iblk m c 12 t = V m c main_v70 := read12 (V m c main_v70) t

/-- Window 13 is its whole array. -/
theorem index13 : ∀ t : Fin cfg0.N, win0_13.index t = ![0, 0, 0] := by decide +kernel

/-- Reading window 13 reads its whole array. -/
theorem read13 (X : S512x1x1024.Idx → Elt Ideal .f32) (t : Fin cfg0.N) : ((cfg0.win 13).blk t).view.read (Elt Ideal) X = X := by
  have e := index13 t
  funext y
  refine congrArg X (funext fun a => Fin.ext ?_)
  refine (Window.rect_emb_val win0_13 t y a).trans ?_
  rw [e]
  fin_cases a <;> simp

/-- Window 13 holds its whole array. -/
theorem iblk13 (t : Fin cfg0.N) : iblk m c 13 t = V m c main_v72 := read13 (V m c main_v72) t

/-- Window 14 is its whole array. -/
theorem index14 : ∀ t : Fin cfg0.N, win0_14.index t = ![0, 0, 0] := by decide +kernel

/-- Reading window 14 reads its whole array. -/
theorem read14 (X : S512x1x1.Idx → Elt Ideal .i32) (t : Fin cfg0.N) : ((cfg0.win 14).blk t).view.read (Elt Ideal) X = X := by
  have e := index14 t
  funext y
  refine congrArg X (funext fun a => Fin.ext ?_)
  refine (Window.rect_emb_val win0_14 t y a).trans ?_
  rw [e]
  fin_cases a <;> simp

/-- Window 14 holds its whole array. -/
theorem iblk14 (t : Fin cfg0.N) : iblk m c 14 t = V m c main_v75 := read14 (V m c main_v75) t

/-- Window 15 is its whole array. -/
theorem index15 : ∀ t : Fin cfg0.N, win0_15.index t = ![0, 0, 0] := by decide +kernel

/-- Reading window 15 reads its whole array. -/
theorem read15 (X : S512x48x128.Idx → Elt Ideal .bf16) (t : Fin cfg0.N) : ((cfg0.win 15).blk t).view.read (Elt Ideal) X = X := by
  have e := index15 t
  funext y
  refine congrArg X (funext fun a => Fin.ext ?_)
  refine (Window.rect_emb_val win0_15 t y a).trans ?_
  rw [e]
  fin_cases a <;> simp

/-- Window 15 holds its whole array. -/
theorem iblk15 (t : Fin cfg0.N) : iblk m c 15 t = V m c main_v77 := read15 (V m c main_v77) t

/-- Window 16 is its whole array. -/
theorem index16 : ∀ t : Fin cfg0.N, win0_16.index t = ![0, 0, 0] := by decide +kernel

/-- Reading window 16 reads its whole array. -/
theorem read16 (X : S512x48x128.Idx → Elt Ideal .bf16) (t : Fin cfg0.N) : ((cfg0.win 16).blk t).view.read (Elt Ideal) X = X := by
  have e := index16 t
  funext y
  refine congrArg X (funext fun a => Fin.ext ?_)
  refine (Window.rect_emb_val win0_16 t y a).trans ?_
  rw [e]
  fin_cases a <;> simp

/-- Window 16 holds its whole array. -/
theorem iblk16 (t : Fin cfg0.N) : iblk m c 16 t = V m c main_v79 := read16 (V m c main_v79) t

/-- The one grid point. -/
def p0 : Fin cfg0.N := ⟨0, by decide⟩

/-- Equal arrays make equal data. -/
theorem mk_congr {x0 x1 x2 x3 x4 x5 x6 x7 x8 x9 x10 x11 x12 x13 x14 x15 x16 y0 y1 y2 y3 y4 y5 y6 y7 y8 y9 y10 y11 y12 y13 y14 y15 y16} (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) : Blk.mk x0 x1 x2 x3 x4 x5 x6 x7 x8 x9 x10 x11 x12 x13 x14 x15 x16 = Blk.mk y0 y1 y2 y3 y4 y5 y6 y7 y8 y9 y10 y11 y12 y13 y14 y15 y16 := by
  subst h0 h1 h2 h3 h4 h5 h6 h7 h8 h9 h10 h11 h12 h13 h14 h15 h16
  rfl

/-- The windows hold the data. -/
theorem blk_eq (t : Fin cfg0.N) : Blk.mk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) = blk m c :=
  mk_congr (iblk0 m c t) (iblk1 m c t) (iblk2 m c t) (iblk3 m c t) (iblk4 m c t) (iblk5 m c t) (iblk6 m c t) (iblk7 m c t) (iblk8 m c t) (iblk9 m c t) (iblk10 m c t) (iblk11 m c t) (iblk12 m c t) (iblk13 m c t) (iblk14 m c t) (iblk15 m c t) (iblk16 m c t)

/-- What the body leaves in window 17 from any data. -/
theorem out17 (x0 x1 x2 x3 x4 x5 x6 x7 x8 x9 x10 x11 x12 x13 x14 x15 x16) : out0_17 x0 x1 x2 x3 x4 x5 x6 x7 x8 x9 x10 x11 x12 x13 x14 x15 x16 = (Blk.mk x0 x1 x2 x3 x4 x5 x6 x7 x8 x9 x10 x11 x12 x13 x14 x15 x16).pO := out17_eq (Blk.mk x0 x1 x2 x3 x4 x5 x6 x7 x8 x9 x10 x11 x12 x13 x14 x15 x16)

/-- What the body leaves in window 17. -/
theorem after17 (t : Fin cfg0.N) : (dats m 0 c).after 17 t = (blk m c).pO :=
  (after0_17 m c t).trans ((out17 _ _ _ _ _ _ _ _ _ _ _ _ _ _ _ _ _).trans (congrArg Blk.pO (blk_eq m c t)))

/-- The array of window 17 after the run. -/
theorem arr17 : (dats m 0 c).arrAt 17 cfg0.N = (blk m c).pO :=
  (dats m 0 c).arrAt_eq_of_after_last 17 p0 (by decide +kernel) _ (fun j => by rw [after17]; rfl)

/-- What the body leaves in window 18 from any data. -/
theorem out18 (x0 x1 x2 x3 x4 x5 x6 x7 x8 x9 x10 x11 x12 x13 x14 x15 x16) : out0_18 x0 x1 x2 x3 x4 x5 x6 x7 x8 x9 x10 x11 x12 x13 x14 x15 x16 = (Blk.mk x0 x1 x2 x3 x4 x5 x6 x7 x8 x9 x10 x11 x12 x13 x14 x15 x16).pW := out18_eq (Blk.mk x0 x1 x2 x3 x4 x5 x6 x7 x8 x9 x10 x11 x12 x13 x14 x15 x16)

/-- What the body leaves in window 18. -/
theorem after18 (t : Fin cfg0.N) : (dats m 0 c).after 18 t = (blk m c).pW :=
  (after0_18 m c t).trans ((out18 _ _ _ _ _ _ _ _ _ _ _ _ _ _ _ _ _).trans (congrArg Blk.pW (blk_eq m c t)))

/-- The array of window 18 after the run. -/
theorem arr18 : (dats m 0 c).arrAt 18 cfg0.N = (blk m c).pW :=
  (dats m 0 c).arrAt_eq_of_after_last 18 p0 (by decide +kernel) _ (fun j => by rw [after18]; rfl)

/-- The row of head `b * 8 + h` in terms of the arguments. -/
theorem row_eq (b : Fin 64) (h : Fin 8) (r : Fin 240) (g : Fin 7) (hg : m ((c : Thread nD τ).loc main_arg10) (ix1 b) = BitVec.ofNat 32 g.val) :
    (blk m c).row ⟨b.val * 8 + h.val, by omega⟩ r = (args m c).row (vis ⟨b.val * 8 + h.val, by omega⟩ r) g b h r :=
  Row.ext_fields (by dsimp only [Blk.row, blk, Args.row, args]; exact fun d => Host.q m c b h r d)
    (by dsimp only [Blk.row, blk, Args.row, args]; exact fun t d => Host.k0 m c b h t d)
    (by dsimp only [Blk.row, blk, Args.row, args]; exact fun t d => Host.v0 m c b h t d)
    (by dsimp only [Blk.row, blk, Args.row, args]; exact fun t => Host.a0 m c b h t)
    (by dsimp only [Blk.row, blk, Args.row, args]; exact fun t => Host.b0 m c b h t)
    (by dsimp only [Blk.row, blk, Args.row, args]; exact fun t d => Host.k1 m c b h g hg t d)
    (by dsimp only [Blk.row, blk, Args.row, args]; exact fun t d => Host.v1 m c b h g hg t d)
    (by dsimp only [Blk.row, blk, Args.row, args]; exact fun t => Host.a1 m c b h g hg t)
    (by dsimp only [Blk.row, blk, Args.row, args]; exact fun t => Host.b1 m c b h g hg t)
    (by dsimp only [Blk.row, blk, Args.row, args]; exact fun t d => Host.k2 m c b h t d)
    (by dsimp only [Blk.row, blk, Args.row, args]; exact fun t d => Host.v2 m c b h t d)
    (by dsimp only [Blk.row, blk, Args.row, args]; exact fun t => Host.a2 m c b h t)
    (by dsimp only [Blk.row, blk, Args.row, args]; exact fun t => Host.b2 m c b h t)
    (by dsimp only [Blk.row, blk, Args.row, args]; exact fun t d => Host.k3 m c b h t d)
    (by dsimp only [Blk.row, blk, Args.row, args]; exact fun t d => Host.v3 m c b h t d)
    (by dsimp only [Blk.row, blk, Args.row, args]; exact Host.g1 m c b h g hg) (by dsimp only [Blk.row, blk, Args.row, args]; exact Host.w2 m c b h) (fun t => rfl)

end Cert.ReferenceIdeal.Final

end
-- ==== Proof.Match.lean ====
/- The two programs' results from arguments that agree. -/
module

public import proofs.«01_k».proof.Proof.KernelIdeal.Out
public import proofs.«01_k».proof.Proof.ReferenceIdeal.Final

@[expose] public section

set_option maxRecDepth 16384

noncomputable section

namespace Cert.Match

open Idealize.ShloMosaic Idealize.ShloMosaic.TcCoe Idealize.ShloMosaic.Pipeline Cert.Soft

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two programs' arguments on the one device are equal. -/
def Agree : Prop :=
  m' ((((0 : Dev Cert.ReferenceIdeal.nD)).tc : Thread Cert.ReferenceIdeal.nD Cert.ReferenceIdeal.τ).loc Cert.ReferenceIdeal.main_arg0) = m ((((0 : Dev Cert.KernelIdeal.nD)).tc : Thread Cert.KernelIdeal.nD Cert.KernelIdeal.τ).loc Cert.KernelIdeal.main_arg0)
    ∧ m' ((((0 : Dev Cert.ReferenceIdeal.nD)).tc : Thread Cert.ReferenceIdeal.nD Cert.ReferenceIdeal.τ).loc Cert.ReferenceIdeal.main_arg1) = m ((((0 : Dev Cert.KernelIdeal.nD)).tc : Thread Cert.KernelIdeal.nD Cert.KernelIdeal.τ).loc Cert.KernelIdeal.main_arg1)
    ∧ m' ((((0 : Dev Cert.ReferenceIdeal.nD)).tc : Thread Cert.ReferenceIdeal.nD Cert.ReferenceIdeal.τ).loc Cert.ReferenceIdeal.main_arg2) = m ((((0 : Dev Cert.KernelIdeal.nD)).tc : Thread Cert.KernelIdeal.nD Cert.KernelIdeal.τ).loc Cert.KernelIdeal.main_arg2)
    ∧ m' ((((0 : Dev Cert.ReferenceIdeal.nD)).tc : Thread Cert.ReferenceIdeal.nD Cert.ReferenceIdeal.τ).loc Cert.ReferenceIdeal.main_arg3) = m ((((0 : Dev Cert.KernelIdeal.nD)).tc : Thread Cert.KernelIdeal.nD Cert.KernelIdeal.τ).loc Cert.KernelIdeal.main_arg3)
    ∧ m' ((((0 : Dev Cert.ReferenceIdeal.nD)).tc : Thread Cert.ReferenceIdeal.nD Cert.ReferenceIdeal.τ).loc Cert.ReferenceIdeal.main_arg4) = m ((((0 : Dev Cert.KernelIdeal.nD)).tc : Thread Cert.KernelIdeal.nD Cert.KernelIdeal.τ).loc Cert.KernelIdeal.main_arg4)
    ∧ m' ((((0 : Dev Cert.ReferenceIdeal.nD)).tc : Thread Cert.ReferenceIdeal.nD Cert.ReferenceIdeal.τ).loc Cert.ReferenceIdeal.main_arg5) = m ((((0 : Dev Cert.KernelIdeal.nD)).tc : Thread Cert.KernelIdeal.nD Cert.KernelIdeal.τ).loc Cert.KernelIdeal.main_arg5)
    ∧ m' ((((0 : Dev Cert.ReferenceIdeal.nD)).tc : Thread Cert.ReferenceIdeal.nD Cert.ReferenceIdeal.τ).loc Cert.ReferenceIdeal.main_arg6) = m ((((0 : Dev Cert.KernelIdeal.nD)).tc : Thread Cert.KernelIdeal.nD Cert.KernelIdeal.τ).loc Cert.KernelIdeal.main_arg6)
    ∧ m' ((((0 : Dev Cert.ReferenceIdeal.nD)).tc : Thread Cert.ReferenceIdeal.nD Cert.ReferenceIdeal.τ).loc Cert.ReferenceIdeal.main_arg7) = m ((((0 : Dev Cert.KernelIdeal.nD)).tc : Thread Cert.KernelIdeal.nD Cert.KernelIdeal.τ).loc Cert.KernelIdeal.main_arg7)
    ∧ m' ((((0 : Dev Cert.ReferenceIdeal.nD)).tc : Thread Cert.ReferenceIdeal.nD Cert.ReferenceIdeal.τ).loc Cert.ReferenceIdeal.main_arg8) = m ((((0 : Dev Cert.KernelIdeal.nD)).tc : Thread Cert.KernelIdeal.nD Cert.KernelIdeal.τ).loc Cert.KernelIdeal.main_arg8)
    ∧ m' ((((0 : Dev Cert.ReferenceIdeal.nD)).tc : Thread Cert.ReferenceIdeal.nD Cert.ReferenceIdeal.τ).loc Cert.ReferenceIdeal.main_arg9) = m ((((0 : Dev Cert.KernelIdeal.nD)).tc : Thread Cert.KernelIdeal.nD Cert.KernelIdeal.τ).loc Cert.KernelIdeal.main_arg9)
    ∧ m' ((((0 : Dev Cert.ReferenceIdeal.nD)).tc : Thread Cert.ReferenceIdeal.nD Cert.ReferenceIdeal.τ).loc Cert.ReferenceIdeal.main_arg10) = m ((((0 : Dev Cert.KernelIdeal.nD)).tc : Thread Cert.KernelIdeal.nD Cert.KernelIdeal.τ).loc Cert.KernelIdeal.main_arg10)
    ∧ m' ((((0 : Dev Cert.ReferenceIdeal.nD)).tc : Thread Cert.ReferenceIdeal.nD Cert.ReferenceIdeal.τ).loc Cert.ReferenceIdeal.main_arg11) = m ((((0 : Dev Cert.KernelIdeal.nD)).tc : Thread Cert.KernelIdeal.nD Cert.KernelIdeal.τ).loc Cert.KernelIdeal.main_arg11)
    ∧ m' ((((0 : Dev Cert.ReferenceIdeal.nD)).tc : Thread Cert.ReferenceIdeal.nD Cert.ReferenceIdeal.τ).loc Cert.ReferenceIdeal.main_arg12) = m ((((0 : Dev Cert.KernelIdeal.nD)).tc : Thread Cert.KernelIdeal.nD Cert.KernelIdeal.τ).loc Cert.KernelIdeal.main_arg12)
    ∧ m' ((((0 : Dev Cert.ReferenceIdeal.nD)).tc : Thread Cert.ReferenceIdeal.nD Cert.ReferenceIdeal.τ).loc Cert.ReferenceIdeal.main_arg13) = m ((((0 : Dev Cert.KernelIdeal.nD)).tc : Thread Cert.KernelIdeal.nD Cert.KernelIdeal.τ).loc Cert.KernelIdeal.main_arg13)
    ∧ m' ((((0 : Dev Cert.ReferenceIdeal.nD)).tc : Thread Cert.ReferenceIdeal.nD Cert.ReferenceIdeal.τ).loc Cert.ReferenceIdeal.main_arg14) = m ((((0 : Dev Cert.KernelIdeal.nD)).tc : Thread Cert.KernelIdeal.nD Cert.KernelIdeal.τ).loc Cert.KernelIdeal.main_arg14)
    ∧ m' ((((0 : Dev Cert.ReferenceIdeal.nD)).tc : Thread Cert.ReferenceIdeal.nD Cert.ReferenceIdeal.τ).loc Cert.ReferenceIdeal.main_arg15) = m ((((0 : Dev Cert.KernelIdeal.nD)).tc : Thread Cert.KernelIdeal.nD Cert.KernelIdeal.τ).loc Cert.KernelIdeal.main_arg15)
    ∧ m' ((((0 : Dev Cert.ReferenceIdeal.nD)).tc : Thread Cert.ReferenceIdeal.nD Cert.ReferenceIdeal.τ).loc Cert.ReferenceIdeal.main_arg16) = m ((((0 : Dev Cert.KernelIdeal.nD)).tc : Thread Cert.KernelIdeal.nD Cert.KernelIdeal.τ).loc Cert.KernelIdeal.main_arg16)
    ∧ m' ((((0 : Dev Cert.ReferenceIdeal.nD)).tc : Thread Cert.ReferenceIdeal.nD Cert.ReferenceIdeal.τ).loc Cert.ReferenceIdeal.main_arg17) = m ((((0 : Dev Cert.KernelIdeal.nD)).tc : Thread Cert.KernelIdeal.nD Cert.KernelIdeal.τ).loc Cert.KernelIdeal.main_arg17)

/-- Equal families make equal arguments. -/
theorem args_congr {x0 x1 x2 x3 x4 x5 x6 x7 x8 x9 x10 x11 x12 x13 x14 x15 x16 x17 y0 y1 y2 y3 y4 y5 y6 y7 y8 y9 y10 y11 y12 y13 y14 y15 y16 y17} (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) : Args.mk x0 x1 x2 x3 x4 x5 x6 x7 x8 x9 x10 x11 x12 x13 x14 x15 x16 x17 = Args.mk y0 y1 y2 y3 y4 y5 y6 y7 y8 y9 y10 y11 y12 y13 y14 y15 y16 y17 := by
  subst h0 h1 h2 h3 h4 h5 h6 h7 h8 h9 h10 h11 h12 h13 h14 h15 h16 h17
  rfl

/-- Arguments that agree are the same families. -/
theorem args_eq (e : Agree m m') : Cert.ReferenceIdeal.Final.args m' 0 = Cert.KernelIdeal.Final.args m 0 := by
  obtain ⟨e0, e1, e2, e3, e4, e5, e6, e7, e8, e9, e10, e11, e12, e13, e14, e15, e16, e17⟩ := e
  exact args_congr
    (funext fun b => funext fun s => funext fun e => congrFun e0 (ix3 b s e))
    (funext fun t => funext fun h => funext fun d => congrFun e1 (ix3 t h d))
    (funext fun t => funext fun h => funext fun d => congrFun e2 (ix3 t h d))
    (funext fun t => funext fun h => congrFun e3 (ix2 t h))
    (funext fun t => funext fun h => congrFun e4 (ix2 t h))
    (funext fun g => funext fun t => funext fun h => funext fun d => congrFun e5 (ix4 g t h d))
    (funext fun g => funext fun t => funext fun h => funext fun d => congrFun e6 (ix4 g t h d))
    (funext fun g => funext fun t => funext fun h => congrFun e7 (ix3 g t h))
    (funext fun g => funext fun t => funext fun h => congrFun e8 (ix3 g t h))
    (funext fun g => congrFun e9 (ix1 g))
    (funext fun b => congrFun e10 (ix1 b))
    (funext fun b => funext fun t => funext fun h => funext fun d => congrFun e11 (ix4 b t h d))
    (funext fun b => funext fun t => funext fun h => funext fun d => congrFun e12 (ix4 b t h d))
    (funext fun b => funext fun t => funext fun h => congrFun e13 (ix3 b t h))
    (funext fun b => funext fun t => funext fun h => congrFun e14 (ix3 b t h))
    (funext fun b => congrFun e15 (ix1 b))
    (funext fun b => funext fun t => funext fun h => funext fun d => congrFun e16 (ix4 b t h d))
    (funext fun b => funext fun t => funext fun h => funext fun d => congrFun e17 (ix4 b t h d))

/-- The same new tokens are visible. -/
theorem vis_eq (n : Fin 512) (r : Fin 240) : Cert.ReferenceIdeal.Final.vis n r = Cert.KernelIdeal.Final.vis r := by
  funext t
  refine congrArg (IntOp.cmpi .sle (BitVec.ofNat 32 t.val)) ?_
  pointwise [Cert.ReferenceIdeal.Gen.k0_pay2, Cert.KernelIdeal.Gen.k0_pay40]

variable (hp : Cert.Pre_KernelIdeal m)

/-- The group of a sequence, as a word. -/
theorem group_word (e : Agree m m') (b : Fin 64) :
    m' (((0 : Dev Cert.ReferenceIdeal.nD).tc : Thread Cert.ReferenceIdeal.nD Cert.ReferenceIdeal.τ).loc Cert.ReferenceIdeal.main_arg10) (ix1 b)
      = BitVec.ofNat 32 (Cert.KernelIdeal.Final.grp m hp b).val := by
  have e1 : m' (((0 : Dev Cert.ReferenceIdeal.nD).tc : Thread Cert.ReferenceIdeal.nD Cert.ReferenceIdeal.τ).loc Cert.ReferenceIdeal.main_arg10) (ix1 b)
      = Cert.KernelIdeal.Pipe.tbl m 1 (ix1 b) := (congrFun e.2.2.2.2.2.2.2.2.2.2.1 (ix1 b)).trans (Cert.KernelIdeal.Final.tbl_grp m b).symm
  refine e1.trans ?_
  have e2 : ∀ x : BitVec 32, x = BitVec.ofNat 32 x.toNat := by intro x; simp
  exact e2 (Cert.KernelIdeal.Pipe.tbl m 1 (ix1 b))

/-- The same rows. -/
theorem row_eq (e : Agree m m') (b : Fin 64) (h : Fin 8) (r : Fin 240) :
    (Cert.ReferenceIdeal.Final.blk m' 0).row ⟨b.val * 8 + h.val, by omega⟩ r = Cert.KernelIdeal.Final.row m hp b h r := by
  rw [Cert.ReferenceIdeal.Final.row_eq m' 0 b h r (Cert.KernelIdeal.Final.grp m hp b) (group_word m m' hp e b), args_eq m m' e, vis_eq]
  rfl

/-- An index of four axes by its entries. -/
theorem ix4_eta {n0 n1 n2 n3 : ℕ} (i : (⟨4, ![n0, n1, n2, n3]⟩ : Shape).Idx) : i = ix4 (i 0) (i 1) (i 2) (i 3) := by
  funext a; fin_cases a <;> rfl

/-- The same first result. -/
theorem res15_eq (e : Agree m m') : (Cert.ReferenceIdeal.Final.blk m' 0).pO = Cert.KernelIdeal.Final.res15 m hp := by
  funext i
  refine (congrArg (Cert.ReferenceIdeal.Final.blk m' 0).pO (ix4_eta i)).trans ?_
  refine (Cert.ReferenceIdeal.Rows.pO_at _ (i 2) (i 0) (i 1) (i 3)).trans ?_
  exact congrArg (fun x : Row => x.att (i 3)) (row_eq m m' hp e (i 0) (i 1) (i 2))

/-- The same second result. -/
theorem res16_eq (e : Agree m m') : (Cert.ReferenceIdeal.Final.blk m' 0).pW = Cert.KernelIdeal.Final.res16 m hp := by
  funext i
  refine (congrArg (Cert.ReferenceIdeal.Final.blk m' 0).pW (ix4_eta i)).trans ?_
  refine (Cert.ReferenceIdeal.Rows.pW_at _ (i 2) (i 0) (i 1) (i 3)).trans ?_
  exact congrArg (fun x : Row => x.share (i 3)) (row_eq m m' hp e (i 0) (i 1) (i 2))

end Cert.Match

end
-- ==== Proof.lean ====
module

public import proofs.«01_k».proof.Defs
public import proofs.«01_k».proof.Proof.Kernel.Pre
public import proofs.«01_k».proof.Proof.KernelIdeal.Pre
public import proofs.«01_k».proof.Proof.Gen.ReferenceIdeal.Frame
public import proofs.«01_k».proof.Proof.Gen.ReferenceIdeal.Value
public import proofs.«01_k».proof.Proof.Match

@[expose] public section

noncomputable section

namespace Cert.Proof

open Idealize.ShloMosaic Idealize.SL.Sem

/-- The named constants stand for the numbers the claim names. -/
theorem preserves : Cert.preserves_Kernel_KernelIdeal :=
  ⟨IdealRules.named_const.statement Cert.KernelIdeal.κ "mask" .f32 0xF149F2CA#32 ⊥ rfl,
    IdealRules.named_const.statement Cert.KernelIdeal.κ "qk_scale" .f32 0x3E0293EE#32 _ rfl⟩

/-- From arguments that agree the kernel and the reference end with the same two results. -/
theorem algebraic : Cert.algebraic_KernelIdeal_ReferenceIdeal (hKernelIdeal := Cert.KernelIdeal.Gen.facts) (hReferenceIdeal := Cert.ReferenceIdeal.Gen.facts) (hPre_in_range := Cert.Pre_in_range.Gen.facts) := by
  intro m g m' g' hp hargs
  have e : Cert.Match.Agree m m' := hargs 0
  have hO := Cert.KernelIdeal.Pre.ok m hp
  have hH := Cert.KernelIdeal.Pre.hyps m hp
  refine ⟨fun _ => Cert.KernelIdeal.Final.res15 m hp, fun _ => Cert.KernelIdeal.Final.res16 m hp, ?_, ?_⟩
  · refine (θ_run _ _ _).mono (fun r h c => ?_) (θ_run_and (Cert.KernelIdeal.Pipe.unchanged m g hO hH) (Cert.KernelIdeal.VPipe.run_main m g hO hH))
    obtain rfl : c = 0 := Subsingleton.elim _ _
    exact ⟨(h.2.out_eq 0 15).trans (Cert.KernelIdeal.Final.arr15 m hp hO hH), (h.2.out_eq 0 16).trans (Cert.KernelIdeal.Final.arr16 m hp hO hH), h.1 0⟩
  · refine (θ_run _ _ _).mono (fun r h c => ?_) (Cert.ReferenceIdeal.Value.run_blocks m' g')
    obtain rfl : c = 0 := Subsingleton.elim _ _
    exact ⟨(h 0).1.trans ((Cert.ReferenceIdeal.Final.arr17 m' 0).trans (Cert.Match.res15_eq m m' hp e)),
      (h 0).2.1.trans ((Cert.ReferenceIdeal.Final.arr18 m' 0).trans (Cert.Match.res16_eq m m' hp e)), (h 0).2.2⟩

theorem claim : Cert.Claim := ⟨Cert.Kernel.Gen.facts, Cert.KernelIdeal.Gen.facts, Cert.ReferenceIdeal.Gen.facts, Cert.Pre_in_range.Gen.facts,
  fun m ρ h => Cert.Kernel.Pipe.frame m ρ (Cert.Kernel.Pre.ok m h) (Cert.Kernel.Pre.hyps m h),
  fun m ρ h => Cert.KernelIdeal.Pipe.frame m ρ (Cert.KernelIdeal.Pre.ok m h) (Cert.KernelIdeal.Pre.hyps m h),
  fun m ρ _ => Cert.ReferenceIdeal.Gen.frame m ρ,
  fun m ρ _ => Cert.ReferenceIdeal.Gen.frame m ρ,
  preserves, algebraic⟩

end Cert.Proof

end
